-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Experts [hPre_schedule : Cert.Pre_schedule.Facts] (m : (ℓ : Loc Cert.Experts.nD Cert.Experts.τ Cert.Experts.sig) → Buf (Elt Bits) ℓ) : Prop :=
  ∀ c : Dev Cert.Experts.nD,
    (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).1 = (fun _ => 1#1)
    ∧ (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.1 = (fun _ => 1#1)
    ∧ (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.1 = (fun _ => 1#1)
    ∧ (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.2.1 = (fun _ => 1#1)
    ∧ (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.2.2.1 = (fun _ => 1#1)
    ∧ (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.2.2.2.1 = (fun _ => 1#1)
    ∧ (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.2.2.2.2.1 = (fun _ => 1#1)
    ∧ (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.2.2.2.2.2.1 = (fun _ => 1#1)
    ∧ (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.2.2.2.2.2.2.1 = (fun _ => 1#1)
    ∧ (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.2.2.2.2.2.2.2.1 = (fun _ => 1#1)
    ∧ (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.2.2.2.2.2.2.2.2.1 = (fun _ => 1#1)
    ∧ (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.2.2.2.2.2.2.2.2.2.1 = (fun _ => 1#1)
    ∧ (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2.2.2.2.2.2.2.2.2.2.2.2 = (fun _ => 1#1)

def Pre_ExpertsIdeal [hPre_schedule : Cert.Pre_schedule.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).1 = (fun _ => 1#1)
    ∧ (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.1 = (fun _ => 1#1)
    ∧ (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.1 = (fun _ => 1#1)
    ∧ (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.1 = (fun _ => 1#1)
    ∧ (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.1 = (fun _ => 1#1)
    ∧ (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.2.1 = (fun _ => 1#1)
    ∧ (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.2.2.1 = (fun _ => 1#1)
    ∧ (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.2.2.2.1 = (fun _ => 1#1)
    ∧ (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.2.2.2.2.1 = (fun _ => 1#1)
    ∧ (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.2.2.2.2.2.1 = (fun _ => 1#1)
    ∧ (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.2.2.2.2.2.2.1 = (fun _ => 1#1)
    ∧ (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.2.2.2.2.2.2.2.1 = (fun _ => 1#1)
    ∧ (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2.2.2.2.2.2.2.2.2.2.2.2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_schedule [hPre_schedule : Cert.Pre_schedule.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_schedule.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).1 = (fun _ => 1#1)
    ∧ (Cert.Pre_schedule.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).2.1 = (fun _ => 1#1)
    ∧ (Cert.Pre_schedule.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).2.2.1 = (fun _ => 1#1)
    ∧ (Cert.Pre_schedule.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).2.2.2.1 = (fun _ => 1#1)
    ∧ (Cert.Pre_schedule.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).2.2.2.2.1 = (fun _ => 1#1)
    ∧ (Cert.Pre_schedule.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).2.2.2.2.2.1 = (fun _ => 1#1)
    ∧ (Cert.Pre_schedule.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).2.2.2.2.2.2.1 = (fun _ => 1#1)
    ∧ (Cert.Pre_schedule.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).2.2.2.2.2.2.2.1 = (fun _ => 1#1)
    ∧ (Cert.Pre_schedule.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).2.2.2.2.2.2.2.2.1 = (fun _ => 1#1)
    ∧ (Cert.Pre_schedule.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).2.2.2.2.2.2.2.2.2.1 = (fun _ => 1#1)
    ∧ (Cert.Pre_schedule.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).2.2.2.2.2.2.2.2.2.2.1 = (fun _ => 1#1)
    ∧ (Cert.Pre_schedule.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).2.2.2.2.2.2.2.2.2.2.2.1 = (fun _ => 1#1)
    ∧ (Cert.Pre_schedule.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))).2.2.2.2.2.2.2.2.2.2.2.2 = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Experts [hExperts : Cert.Experts.Facts] [hPre_schedule : Cert.Pre_schedule.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_schedule : Cert.Pre_schedule.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_ExpertsReferenceIdeal_pre_schedule [hExpertsReferenceIdeal : Cert.ExpertsReferenceIdeal.Facts] [hPre_schedule : Cert.Pre_schedule.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_schedule m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7)
      ∧ r.2.mem ((c.tc : Thread Cert.Dense.nD Cert.Dense.τ).loc Cert.Dense.main_arg8) = m ((c.tc : Thread Cert.Dense.nD Cert.Dense.τ).loc Cert.Dense.main_arg8))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7)
      ∧ r.2.mem ((c.tc : Thread Cert.DenseReferenceIdeal.nD Cert.DenseReferenceIdeal.τ).loc Cert.DenseReferenceIdeal.main_arg8) = m ((c.tc : Thread Cert.DenseReferenceIdeal.nD Cert.DenseReferenceIdeal.τ).loc Cert.DenseReferenceIdeal.main_arg8))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_schedule : Cert.Pre_schedule.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)
      ∧ m' ((c.tc : Thread Cert.ExpertsReferenceIdeal.nD Cert.ExpertsReferenceIdeal.τ).loc Cert.ExpertsReferenceIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v200) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7)
          ∧ r.2.mem ((c.tc : Thread Cert.ExpertsReferenceIdeal.nD Cert.ExpertsReferenceIdeal.τ).loc Cert.ExpertsReferenceIdeal.main_arg8) = m' ((c.tc : Thread Cert.ExpertsReferenceIdeal.nD Cert.ExpertsReferenceIdeal.τ).loc Cert.ExpertsReferenceIdeal.main_arg8))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)
      ∧ m' ((c.tc : Thread Cert.DenseReferenceIdeal.nD Cert.DenseReferenceIdeal.τ).loc Cert.DenseReferenceIdeal.main_arg8) = m ((c.tc : Thread Cert.DenseIdeal.nD Cert.DenseIdeal.τ).loc Cert.DenseIdeal.main_arg8)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v42) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7)
          ∧ r.2.mem ((c.tc : Thread Cert.DenseReferenceIdeal.nD Cert.DenseReferenceIdeal.τ).loc Cert.DenseReferenceIdeal.main_arg8) = m' ((c.tc : Thread Cert.DenseReferenceIdeal.nD Cert.DenseReferenceIdeal.τ).loc Cert.DenseReferenceIdeal.main_arg8))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v0_0)) (v1 : (c : Dev Cert.ProjectIdeal.nD) → Buf (Elt Ideal) ((c.tc : Thread Cert.ProjectIdeal.nD Cert.ProjectIdeal.τ).loc Cert.ProjectIdeal.main_v0_1)) (v2 : (c : Dev Cert.ProjectIdeal.nD) → Buf (Elt Ideal) ((c.tc : Thread Cert.ProjectIdeal.nD Cert.ProjectIdeal.τ).loc Cert.ProjectIdeal.main_v0_2)) (v3 : (c : Dev Cert.ProjectIdeal.nD) → Buf (Elt Ideal) ((c.tc : Thread Cert.ProjectIdeal.nD Cert.ProjectIdeal.τ).loc Cert.ProjectIdeal.main_v0_3)) (v4 : (c : Dev Cert.ProjectIdeal.nD) → Buf (Elt Ideal) ((c.tc : Thread Cert.ProjectIdeal.nD Cert.ProjectIdeal.τ).loc Cert.ProjectIdeal.main_v0_4)) (v5 : (c : Dev Cert.ProjectIdeal.nD) → Buf (Elt Ideal) ((c.tc : Thread Cert.ProjectIdeal.nD Cert.ProjectIdeal.τ).loc Cert.ProjectIdeal.main_v0_5)) (v6 : (c : Dev Cert.ProjectIdeal.nD) → Buf (Elt Ideal) ((c.tc : Thread Cert.ProjectIdeal.nD Cert.ProjectIdeal.τ).loc Cert.ProjectIdeal.main_v0_6)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0_0) = v0 c
          ∧ r.2.mem ((c.tc : Thread Cert.ProjectIdeal.nD Cert.ProjectIdeal.τ).loc Cert.ProjectIdeal.main_v0_1) = v1 c
          ∧ r.2.mem ((c.tc : Thread Cert.ProjectIdeal.nD Cert.ProjectIdeal.τ).loc Cert.ProjectIdeal.main_v0_2) = v2 c
          ∧ r.2.mem ((c.tc : Thread Cert.ProjectIdeal.nD Cert.ProjectIdeal.τ).loc Cert.ProjectIdeal.main_v0_3) = v3 c
          ∧ r.2.mem ((c.tc : Thread Cert.ProjectIdeal.nD Cert.ProjectIdeal.τ).loc Cert.ProjectIdeal.main_v0_4) = v4 c
          ∧ r.2.mem ((c.tc : Thread Cert.ProjectIdeal.nD Cert.ProjectIdeal.τ).loc Cert.ProjectIdeal.main_v0_5) = v5 c
          ∧ r.2.mem ((c.tc : Thread Cert.ProjectIdeal.nD Cert.ProjectIdeal.τ).loc Cert.ProjectIdeal.main_v0_6) = v6 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v102) = v0 c
          ∧ r.2.mem ((c.tc : Thread Cert.ProjectReferenceIdeal.nD Cert.ProjectReferenceIdeal.τ).loc Cert.ProjectReferenceIdeal.main_v103) = v1 c
          ∧ r.2.mem ((c.tc : Thread Cert.ProjectReferenceIdeal.nD Cert.ProjectReferenceIdeal.τ).loc Cert.ProjectReferenceIdeal.main_v104) = v2 c
          ∧ r.2.mem ((c.tc : Thread Cert.ProjectReferenceIdeal.nD Cert.ProjectReferenceIdeal.τ).loc Cert.ProjectReferenceIdeal.main_v105) = v3 c
          ∧ r.2.mem ((c.tc : Thread Cert.ProjectReferenceIdeal.nD Cert.ProjectReferenceIdeal.τ).loc Cert.ProjectReferenceIdeal.main_v106) = v4 c
          ∧ r.2.mem ((c.tc : Thread Cert.ProjectReferenceIdeal.nD Cert.ProjectReferenceIdeal.τ).loc Cert.ProjectReferenceIdeal.main_v107) = v5 c
          ∧ r.2.mem ((c.tc : Thread Cert.ProjectReferenceIdeal.nD Cert.ProjectReferenceIdeal.τ).loc Cert.ProjectReferenceIdeal.main_v108) = v6 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hDense : Cert.Dense.Facts) (hDenseIdeal : Cert.DenseIdeal.Facts) (hDenseReferenceIdeal : Cert.DenseReferenceIdeal.Facts) (hProject : Cert.Project.Facts) (hProjectIdeal : Cert.ProjectIdeal.Facts) (hProjectReferenceIdeal : Cert.ProjectReferenceIdeal.Facts) (hPre_finite_scores : Cert.Pre_finite_scores.Facts) (hPre_schedule : Cert.Pre_schedule.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Experts (hExperts := hExperts) (hPre_schedule := hPre_schedule)
    ∧ quiescent_ExpertsIdeal (hExpertsIdeal := hExpertsIdeal) (hPre_schedule := hPre_schedule)
    ∧ quiescent_ExpertsReferenceIdeal (hExpertsReferenceIdeal := hExpertsReferenceIdeal)
    ∧ quiescent_ExpertsReferenceIdeal_pre_schedule (hExpertsReferenceIdeal := hExpertsReferenceIdeal) (hPre_schedule := hPre_schedule)
    ∧ quiescent_Dense (hDense := hDense)
    ∧ quiescent_DenseIdeal (hDenseIdeal := hDenseIdeal)
    ∧ quiescent_DenseReferenceIdeal (hDenseReferenceIdeal := hDenseReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Experts_ExpertsIdeal
    ∧ algebraic_ExpertsIdeal_ExpertsReferenceIdeal (hExpertsIdeal := hExpertsIdeal) (hExpertsReferenceIdeal := hExpertsReferenceIdeal) (hPre_schedule := hPre_schedule)
    ∧ preserves_Dense_DenseIdeal
    ∧ algebraic_DenseIdeal_DenseReferenceIdeal (hDenseIdeal := hDenseIdeal) (hDenseReferenceIdeal := hDenseReferenceIdeal)
    ∧ preserves_Project_ProjectIdeal
    ∧ algebraic_ProjectIdeal_ProjectReferenceIdeal (hProjectIdeal := hProjectIdeal) (hProjectReferenceIdeal := hProjectReferenceIdeal)
-- ==== Pre_finite_scores.lean ====
abbrev S2x16384x512 : Shape := ⟨3, ![2, 16384, 512]⟩
abbrev S2x16384x256 : Shape := ⟨3, ![2, 16384, 256]⟩
abbrev S2x256x256 : Shape := ⟨3, ![2, 256, 256]⟩
abbrev S8 : Shape := ⟨1, ![8]⟩
abbrev S_ : Shape := ⟨0, ![]⟩

class Facts : Prop where
  bitsLt_bf16_f32 : FTy.bits .bf16 < FTy.bits .f32
  bcast_S_S2x16384x512 : S_.BroadcastsInDim S2x16384x512 (![] : Fin 0 → Fin S2x16384x512.rank)
  bcast_S_S2x16384x256 : S_.BroadcastsInDim S2x16384x256 (![] : Fin 0 → Fin S2x16384x256.rank)
  bcast_S_S2x256x256 : S_.BroadcastsInDim S2x256x256 (![] : Fin 0 → Fin S2x256x256.rank)
  bcast_S_S8 : S_.BroadcastsInDim S8 (![] : Fin 0 → Fin S8.rank)

variable [Facts]

def fn {F : FTy → Type} [FloatOps F] (main_arg0 : FVec F S2x16384x512 .bf16) (main_arg1 : FVec F S2x16384x256 .bf16) (main_arg2 : FVec F S2x16384x256 .bf16) (main_arg3 : FVec F S2x256x256 .bf16) (main_arg4 : FVec F S2x256x256 .bf16) (main_arg5 : FVec F S8 .f32) : IVec S2x16384x512 1 × IVec S2x16384x256 1 × IVec S2x256x256 1 × IVec S8 1 :=
  let main_v0 : FVec F S2x16384x512 .f32 := (extf .f32 · bitsLt_bf16_f32) main_arg0
  let main_v1 : FVec F S2x16384x512 .f32 := Host.absf main_v0
  let main_cst : FVec F S_ .f32 := constant S_ .f32 0x7F800000#32
  let main_v2 : FVec F S2x16384x512 .f32 := broadcastInDim S2x16384x512 ![] bcast_S_S2x16384x512 main_cst
  let main_v3 : IVec S2x16384x512 1 := cmpf .olt main_v1 main_v2
  let main_v4 : FVec F S2x16384x256 .f32 := (extf .f32 · bitsLt_bf16_f32) main_arg1
  let main_v5 : FVec F S2x16384x256 .f32 := Host.absf main_v4
  let main_cst_0 : FVec F S_ .f32 := constant S_ .f32 0x7F800000#32
  let main_v6 : FVec F S2x16384x256 .f32 := broadcastInDim S2x16384x256 ![] bcast_S_S2x16384x256 main_cst_0
  let main_v7 : IVec S2x16384x256 1 := cmpf .olt main_v5 main_v6
  let main_v8 : FVec F S2x256x256 .f32 := (extf .f32 · bitsLt_bf16_f32) main_arg3
  let main_v9 : FVec F S2x256x256 .f32 := Host.absf main_v8
  let main_cst_1 : FVec F S_ .f32 := constant S_ .f32 0x7F800000#32
  let main_v10 : FVec F S2x256x256 .f32 := broadcastInDim S2x256x256 ![] bcast_S_S2x256x256 main_cst_1
  let main_v11 : IVec S2x256x256 1 := cmpf .olt main_v9 main_v10
  let main_v12 : FVec F S8 .f32 := Host.absf main_arg5
  let main_cst_2 : FVec F S_ .f32 := constant S_ .f32 0x7F800000#32
  let main_v13 : FVec F S8 .f32 := broadcastInDim S8 ![] bcast_S_S8 main_cst_2
  let main_v14 : IVec S8 1 := cmpf .olt main_v12 main_v13
  (main_v3, main_v7, main_v11, main_v14)
-- ==== Pre_schedule.lean ====
abbrev S65536x1024 : Shape := ⟨2, ![65536, 1024]⟩
abbrev S71 : Shape := ⟨1, ![71]⟩
abbrev S8x1024x3584 : Shape := ⟨3, ![8, 1024, 3584]⟩
abbrev S8x3584x1024 : Shape := ⟨3, ![8, 3584, 1024]⟩
abbrev S71x1 : Shape := ⟨2, ![71, 1]⟩
abbrev S1x71 : Shape := ⟨2, ![1, 71]⟩
abbrev S71x71 : Shape := ⟨2, ![71, 71]⟩
abbrev S_ : Shape := ⟨0, ![]⟩
abbrev S1 : Shape := ⟨1, ![1]⟩
abbrev S70 : Shape := ⟨1, ![70]⟩

class Facts : Prop where
  bcast_S71_S71x1_0 : S71.BroadcastsInDim S71x1 (![0] : Fin 1 → Fin S71x1.rank)
  bcast_S71_S1x71_1 : S71.BroadcastsInDim S1x71 (![1] : Fin 1 → Fin S1x71.rank)
  bcast_S71x1_S71x71_0_1 : S71x1.BroadcastsInDim S71x71 (![0, 1] : Fin 2 → Fin S71x71.rank)
  bcast_S1x71_S71x71_0_1 : S1x71.BroadcastsInDim S71x71 (![0, 1] : Fin 2 → Fin S71x71.rank)
  bcast_S_S71 : S_.BroadcastsInDim S71 (![] : Fin 0 → Fin S71.rank)
  slices_S71_S1_0 : S71.Slices ![0] S1
  bcast_S_S1 : S_.BroadcastsInDim S1 (![] : Fin 0 → Fin S1.rank)
  slices_S71_S1_70 : S71.Slices ![70] S1
  slices_S71_S70_0 : S71.Slices ![0] S70
  slices_S71_S70_1 : S71.Slices ![1] S70
  bcast_S_S70 : S_.BroadcastsInDim S70 (![] : Fin 0 → Fin S70.rank)

variable [Facts]

def fn_part3 {F : FTy → Type} [FloatOps F] (main_arg3 : IVec S71 32) (main_arg4 : IVec S71 32) (main_v19 : IVec S71 1) (main_v21 : IVec S71 1) (main_v23 : IVec S71 1) (main_v25 : IVec S71 1) (main_v27 : IVec S71 1) (main_v29 : IVec S71 1) (main_v32 : IVec S1 1) (main_v35 : IVec S1 1) (main_v38 : IVec S70 1) (main_v43 : IVec S70 1) (main_v46 : IVec S1 1) (main_v53 : IVec S70 1) (main_v60 : IVec S71x71 1) : IVec S71 1 × IVec S71 1 × IVec S71 1 × IVec S71 1 × IVec S71 1 × IVec S71 1 × IVec S1 1 × IVec S1 1 × IVec S70 1 × IVec S70 1 × IVec S1 1 × IVec S70 1 × IVec S71x71 1 :=
  let main_v61 : IVec S1x71 32 := broadcastInDim S1x71 ![1] bcast_S71_S1x71_1 main_arg4
  let main_v62 : IVec S71x1 32 := broadcastInDim S71x1 ![0] bcast_S71_S71x1_0 main_arg3
  let main_v63 : IVec S71x71 32 := broadcastInDim S71x71 ![0, 1] bcast_S1x71_S71x71_0_1 main_v61
  let main_v64 : IVec S71x71 32 := broadcastInDim S71x71 ![0, 1] bcast_S71x1_S71x71_0_1 main_v62
  let main_v65 : IVec S71x71 1 := cmpi .sle main_v63 main_v64
  let main_v66 : IVec S71x71 1 := ori main_v60 main_v65
  (main_v19, main_v21, main_v23, main_v25, main_v27, main_v29, main_v32, main_v35, main_v38, main_v43, main_v46, main_v53, main_v66)

def fn_part2 {F : FTy → Type} [FloatOps F] (main_arg1 : IVec S71 32) (main_arg3 : IVec S71 32) (main_arg4 : IVec S71 32) (main_arg5 : IVec S71 32) (main_v17 : IVec S71x71 1) (main_v19 : IVec S71 1) (main_v21 : IVec S71 1) (main_v23 : IVec S71 1) (main_v25 : IVec S71 1) (main_v27 : IVec S71 1) (main_v29 : IVec S71 1) (main_v32 : IVec S1 1) (main_v35 : IVec S1 1) (main_v38 : IVec S70 1) (main_v39 : IVec S70 32) : IVec S71 1 × IVec S71 1 × IVec S71 1 × IVec S71 1 × IVec S71 1 × IVec S71 1 × IVec S1 1 × IVec S1 1 × IVec S70 1 × IVec S70 1 × IVec S1 1 × IVec S70 1 × IVec S71x71 1 :=
  let main_v40 : IVec S70 32 := (extractStridedSlice S70 ![0] · slices_S71_S70_0) main_arg1
  let main_c_7 : IVec S_ 32 := constantI S_ 32 1#32
  let main_v41 : IVec S70 32 := broadcastInDim S70 ![] bcast_S_S70 main_c_7
  let main_v42 : IVec S70 32 := addi main_v40 main_v41
  let main_v43 : IVec S70 1 := cmpi .sle main_v39 main_v42
  let main_v44 : IVec S1 32 := (extractStridedSlice S1 ![0] · slices_S71_S1_0) main_arg5
  let main_c_8 : IVec S_ 32 := constantI S_ 32 1#32
  let main_v45 : IVec S1 32 := broadcastInDim S1 ![] bcast_S_S1 main_c_8
  let main_v46 : IVec S1 1 := cmpi .eq main_v44 main_v45
  let main_v47 : IVec S70 32 := (extractStridedSlice S70 ![1] · slices_S71_S70_1) main_arg5
  let main_c_9 : IVec S_ 32 := constantI S_ 32 1#32
  let main_v48 : IVec S70 32 := broadcastInDim S70 ![] bcast_S_S70 main_c_9
  let main_v49 : IVec S70 1 := cmpi .eq main_v47 main_v48
  let main_v50 : IVec S70 32 := (extractStridedSlice S70 ![0] · slices_S71_S70_0) main_arg1
  let main_v51 : IVec S70 32 := (extractStridedSlice S70 ![1] · slices_S71_S70_1) main_arg1
  let main_v52 : IVec S70 1 := cmpi .ne main_v50 main_v51
  let main_v53 : IVec S70 1 := cmpi .eq main_v49 main_v52
  let main_v54 : IVec S71x71 1 := noti main_v17
  let main_v55 : IVec S71x1 32 := broadcastInDim S71x1 ![0] bcast_S71_S71x1_0 main_arg4
  let main_v56 : IVec S1x71 32 := broadcastInDim S1x71 ![1] bcast_S71_S1x71_1 main_arg3
  let main_v57 : IVec S71x71 32 := broadcastInDim S71x71 ![0, 1] bcast_S71x1_S71x71_0_1 main_v55
  let main_v58 : IVec S71x71 32 := broadcastInDim S71x71 ![0, 1] bcast_S1x71_S71x71_0_1 main_v56
  let main_v59 : IVec S71x71 1 := cmpi .sle main_v57 main_v58
  let main_v60 : IVec S71x71 1 := ori main_v54 main_v59
  fn_part3 (F := F) main_arg3 main_arg4 main_v19 main_v21 main_v23 main_v25 main_v27 main_v29 main_v32 main_v35 main_v38 main_v43 main_v46 main_v53 main_v60

def fn_part1 {F : FTy → Type} [FloatOps F] (main_arg1 : IVec S71 32) (main_arg2 : IVec S71 32) (main_arg3 : IVec S71 32) (main_arg4 : IVec S71 32) (main_arg5 : IVec S71 32) (main_v17 : IVec S71x71 1) (main_v19 : IVec S71 1) (main_v21 : IVec S71 1) : IVec S71 1 × IVec S71 1 × IVec S71 1 × IVec S71 1 × IVec S71 1 × IVec S71 1 × IVec S1 1 × IVec S1 1 × IVec S70 1 × IVec S70 1 × IVec S1 1 × IVec S70 1 × IVec S71x71 1 :=
  let main_c_1 : IVec S_ 32 := constantI S_ 32 0#32
  let main_v22 : IVec S71 32 := broadcastInDim S71 ![] bcast_S_S71 main_c_1
  let main_v23 : IVec S71 1 := cmpi .sge main_arg2 main_v22
  let main_c_2 : IVec S_ 32 := constantI S_ 32 8#32
  let main_v24 : IVec S71 32 := broadcastInDim S71 ![] bcast_S_S71 main_c_2
  let main_v25 : IVec S71 1 := cmpi .slt main_arg2 main_v24
  let main_c_3 : IVec S_ 32 := constantI S_ 32 0#32
  let main_v26 : IVec S71 32 := broadcastInDim S71 ![] bcast_S_S71 main_c_3
  let main_v27 : IVec S71 1 := cmpi .sge main_arg3 main_v26
  let main_c_4 : IVec S_ 32 := constantI S_ 32 1024#32
  let main_v28 : IVec S71 32 := broadcastInDim S71 ![] bcast_S_S71 main_c_4
  let main_v29 : IVec S71 1 := cmpi .sle main_arg4 main_v28
  let main_v30 : IVec S1 32 := (extractStridedSlice S1 ![0] · slices_S71_S1_0) main_arg1
  let main_c_5 : IVec S_ 32 := constantI S_ 32 0#32
  let main_v31 : IVec S1 32 := broadcastInDim S1 ![] bcast_S_S1 main_c_5
  let main_v32 : IVec S1 1 := cmpi .eq main_v30 main_v31
  let main_v33 : IVec S1 32 := (extractStridedSlice S1 ![70] · slices_S71_S1_70) main_arg1
  let main_c_6 : IVec S_ 32 := constantI S_ 32 63#32
  let main_v34 : IVec S1 32 := broadcastInDim S1 ![] bcast_S_S1 main_c_6
  let main_v35 : IVec S1 1 := cmpi .eq main_v33 main_v34
  let main_v36 : IVec S70 32 := (extractStridedSlice S70 ![0] · slices_S71_S70_0) main_arg1
  let main_v37 : IVec S70 32 := (extractStridedSlice S70 ![1] · slices_S71_S70_1) main_arg1
  let main_v38 : IVec S70 1 := cmpi .sle main_v36 main_v37
  let main_v39 : IVec S70 32 := (extractStridedSlice S70 ![1] · slices_S71_S70_1) main_arg1
  fn_part2 (F := F) main_arg1 main_arg3 main_arg4 main_arg5 main_v17 main_v19 main_v21 main_v23 main_v25 main_v27 main_v29 main_v32 main_v35 main_v38 main_v39

def fn {F : FTy → Type} [FloatOps F] (main_arg0 : FVec F S65536x1024 .f32) (main_arg1 : IVec S71 32) (main_arg2 : IVec S71 32) (main_arg3 : IVec S71 32) (main_arg4 : IVec S71 32) (main_arg5 : IVec S71 32) (main_arg6 : FVec F S8x1024x3584 .bf16) (main_arg7 : FVec F S8x1024x3584 .bf16) (main_arg8 : FVec F S8x3584x1024 .bf16) : IVec S71 1 × IVec S71 1 × IVec S71 1 × IVec S71 1 × IVec S71 1 × IVec S71 1 × IVec S1 1 × IVec S1 1 × IVec S70 1 × IVec S70 1 × IVec S1 1 × IVec S70 1 × IVec S71x71 1 :=
  let main_v0 : IVec S71 1 := cmpi .sgt main_arg4 main_arg3
  let main_v1 : IVec S71x1 32 := broadcastInDim S71x1 ![0] bcast_S71_S71x1_0 main_arg1
  let main_v2 : IVec S1x71 32 := broadcastInDim S1x71 ![1] bcast_S71_S1x71_1 main_arg1
  let main_v3 : IVec S71x71 32 := broadcastInDim S71x71 ![0, 1] bcast_S71x1_S71x71_0_1 main_v1
  let main_v4 : IVec S71x71 32 := broadcastInDim S71x71 ![0, 1] bcast_S1x71_S71x71_0_1 main_v2
  let main_v5 : IVec S71x71 1 := cmpi .eq main_v3 main_v4
  let main_v6 : IVec S71x1 32 := broadcastInDim S71x1 ![0] bcast_S71_S71x1_0 main_arg2
  let main_v7 : IVec S1x71 32 := broadcastInDim S1x71 ![1] bcast_S71_S1x71_1 main_arg2
  let main_v8 : IVec S71x71 32 := broadcastInDim S71x71 ![0, 1] bcast_S71x1_S71x71_0_1 main_v6
  let main_v9 : IVec S71x71 32 := broadcastInDim S71x71 ![0, 1] bcast_S1x71_S71x71_0_1 main_v7
  let main_v10 : IVec S71x71 1 := cmpi .ne main_v8 main_v9
  let main_v11 : IVec S71x71 1 := andi main_v5 main_v10
  let main_v12 : IVec S71x1 1 := broadcastInDim S71x1 ![0] bcast_S71_S71x1_0 main_v0
  let main_v13 : IVec S71x71 1 := broadcastInDim S71x71 ![0, 1] bcast_S71x1_S71x71_0_1 main_v12
  let main_v14 : IVec S71x71 1 := andi main_v11 main_v13
  let main_v15 : IVec S1x71 1 := broadcastInDim S1x71 ![1] bcast_S71_S1x71_1 main_v0
  let main_v16 : IVec S71x71 1 := broadcastInDim S71x71 ![0, 1] bcast_S1x71_S71x71_0_1 main_v15
  let main_v17 : IVec S71x71 1 := andi main_v14 main_v16
  let main_c : IVec S_ 32 := constantI S_ 32 0#32
  let main_v18 : IVec S71 32 := broadcastInDim S71 ![] bcast_S_S71 main_c
  let main_v19 : IVec S71 1 := cmpi .sge main_arg1 main_v18
  let main_c_0 : IVec S_ 32 := constantI S_ 32 64#32
  let main_v20 : IVec S71 32 := broadcastInDim S71 ![] bcast_S_S71 main_c_0
  let main_v21 : IVec S71 1 := cmpi .slt main_arg1 main_v20
  fn_part1 (F := F) main_arg1 main_arg2 main_arg3 main_arg4 main_arg5 main_v17 main_v19 main_v21
-- ==== Kernel.lean ====
abbrev S2x16384x512 : Shape := ⟨3, ![2, 16384, 512]⟩
abbrev S2x16384x256 : Shape := ⟨3, ![2, 16384, 256]⟩
abbrev S2x256x256 : Shape := ⟨3, ![2, 256, 256]⟩
abbrev S8 : Shape := ⟨1, ![8]⟩
abbrev S1x128x512 : Shape := ⟨3, ![1, 128, 512]⟩
abbrev S1x128x256 : Shape := ⟨3, ![1, 128, 256]⟩
abbrev S1x256x256 : Shape := ⟨3, ![1, 256, 256]⟩
abbrev S1x128x128 : Shape := ⟨3, ![1, 128, 128]⟩
abbrev S128x128 : Shape := ⟨2, ![128, 128]⟩
abbrev S1x256x128 : Shape := ⟨3, ![1, 256, 128]⟩
abbrev S256x128 : Shape := ⟨2, ![256, 128]⟩
abbrev S640x128 : Shape := ⟨2, ![640, 128]⟩
abbrev S128x640 : Shape := ⟨2, ![128, 640]⟩
abbrev S128x512 : Shape := ⟨2, ![128, 512]⟩
abbrev S1 : Shape := ⟨1, ![1]⟩
abbrev S128 : Shape := ⟨1, ![128]⟩
abbrev S128x1 : Shape := ⟨2, ![128, 1]⟩

abbrev nBuf : Space → Nat
  | .hbm => 7
  | .vmem => 20
  | .smem => 1
  | _ => 0

abbrev bufTy : (tb : Table) → Fin (tcTables nBuf tb) → BufTy
  | .hbm, ⟨0, _⟩ => ⟨S2x16384x512, .bf16⟩
  | .hbm, ⟨1, _⟩ => ⟨S2x16384x256, .bf16⟩
  | .hbm, ⟨2, _⟩ => ⟨S2x16384x256, .bf16⟩
  | .hbm, ⟨3, _⟩ => ⟨S2x256x256, .bf16⟩
  | .hbm, ⟨4, _⟩ => ⟨S2x256x256, .bf16⟩
  | .hbm, ⟨5, _⟩ => ⟨S8, .f32⟩
  | .hbm, ⟨6, _⟩ => ⟨S2x16384x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x128x512, .bf16⟩
  | .local _ .vmem, ⟨19, _⟩ => ⟨S1x128x512, .bf16⟩
  | .local _ .smem, ⟨0, _⟩ => ⟨S8, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 128], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c127_i32 : BitVec 32 := 127#32
  let v1 : BitVec 32 := Scalar.minsi v0 c127_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c127_i32 : BitVec 32 := 127#32
  let v1 : BitVec 32 := Scalar.minsi v0 c127_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x16384x512 : Shape := ⟨3, ![2, 16384, 512]⟩
abbrev S2x16384x256 : Shape := ⟨3, ![2, 16384, 256]⟩
abbrev S2x256x256 : Shape := ⟨3, ![2, 256, 256]⟩
abbrev S8 : Shape := ⟨1, ![8]⟩
abbrev S2x16384x8x64 : Shape := ⟨4, ![2, 16384, 8, 64]⟩
abbrev S2x16384x2x1x128 : Shape := ⟨5, ![2, 16384, 2, 1, 128]⟩
abbrev S2x16384x2x2x128 : Shape := ⟨5, ![2, 16384, 2, 2, 128]⟩
abbrev S2x256x2x1x128 : Shape := ⟨5, ![2, 256, 2, 1, 128]⟩
abbrev S2x256x2x2x128 : Shape := ⟨5, ![2, 256, 2, 2, 128]⟩
abbrev S2x256x8x64 : Shape := ⟨4, ![2, 256, 8, 64]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S2x8x16384x16384 : Shape := ⟨4, ![2, 8, 16384, 16384]⟩
abbrev S2x8x16384x256 : Shape := ⟨4, ![2, 8, 16384, 256]⟩
abbrev S1x8x1x1 : Shape := ⟨4, ![1, 8, 1, 1]⟩
abbrev S2x8x16384x1 : Shape := ⟨4, ![2, 8, 16384, 1]⟩
abbrev S2x8x16384x16641 : Shape := ⟨4, ![2, 8, 16384, 16641]⟩
abbrev S2x8x16384 : Shape := ⟨3, ![2, 8, 16384]⟩
abbrev S2x8x64x16384 : Shape := ⟨4, ![2, 8, 64, 16384]⟩

abbrev nBuf : Space → Nat
  | .hbm => 68
  | .vmem => 0
  | .smem => 0
  | _ => 0

abbrev bufTy : (tb : Table) → Fin (tcTables nBuf tb) → BufTy
  | .hbm, ⟨0, _⟩ => ⟨S2x16384x512, .bf16⟩
  | .hbm, ⟨1, _⟩ => ⟨S2x16384x256, .bf16⟩
  | .hbm, ⟨2, _⟩ => ⟨S2x16384x256, .bf16⟩
  | .hbm, ⟨3, _⟩ => ⟨S2x256x256, .bf16⟩
  | .hbm, ⟨4, _⟩ => ⟨S2x256x256, .bf16⟩
  | .hbm, ⟨5, _⟩ => ⟨S8, .f32⟩
  | .hbm, ⟨6, _⟩ => ⟨S2x16384x512, .f32⟩
  | .hbm, ⟨7, _⟩ => ⟨S2x16384x8x64, .f32⟩
  | .hbm, ⟨8, _⟩ => ⟨S2x16384x256, .f32⟩
  | .hbm, ⟨9, _⟩ => ⟨S2x16384x2x1x128, .f32⟩
  | .hbm, ⟨10, _⟩ => ⟨S2x16384x2x2x128, .f32⟩
  | .hbm, ⟨11, _⟩ => ⟨S2x16384x8x64, .f32⟩
  | .hbm, ⟨12, _⟩ => ⟨S2x16384x256, .f32⟩
  | .hbm, ⟨13, _⟩ => ⟨S2x16384x2x1x128, .f32⟩
  | .hbm, ⟨14, _⟩ => ⟨S2x16384x2x2x128, .f32⟩
  | .hbm, ⟨15, _⟩ => ⟨S2x16384x8x64, .f32⟩
  | .hbm, ⟨16, _⟩ => ⟨S2x256x256, .f32⟩
  | .hbm, ⟨17, _⟩ => ⟨S2x256x2x1x128, .f32⟩
  | .hbm, ⟨18, _⟩ => ⟨S2x256x2x2x128, .f32⟩
  | .hbm, ⟨19, _⟩ => ⟨S2x256x8x64, .f32⟩
  | .hbm, ⟨20, _⟩ => ⟨S2x256x256, .f32⟩
  | .hbm, ⟨21, _⟩ => ⟨S2x256x2x1x128, .f32⟩
  | .hbm, ⟨22, _⟩ => ⟨S2x256x2x2x128, .f32⟩
  | .hbm, ⟨23, _⟩ => ⟨S2x256x8x64, .f32⟩
  | .hbm, ⟨24, _⟩ => ⟨S16384, .i32⟩
  | .hbm, ⟨25, _⟩ => ⟨S1x16384, .i32⟩
  | .hbm, ⟨26, _⟩ => ⟨S16384, .i32⟩
  | .hbm, ⟨27, _⟩ => ⟨S16384x1, .i32⟩
  | .hbm, ⟨28, _⟩ => ⟨S16384x16384, .i32⟩
  | .hbm, ⟨29, _⟩ => ⟨S16384x16384, .i32⟩
  | .hbm, ⟨30, _⟩ => ⟨S16384x16384, .i32⟩
  | .hbm, ⟨31, _⟩ => ⟨S16384x16384, .i32⟩
  | .hbm, ⟨32, _⟩ => ⟨S_, .i32⟩
  | .hbm, ⟨33, _⟩ => ⟨S16384x16384, .i32⟩
  | .hbm, ⟨34, _⟩ => ⟨S16384x16384, .i1⟩
  | .hbm, ⟨35, _⟩ => ⟨S2x8x16384x16384, .f32⟩
  | .hbm, ⟨36, _⟩ => ⟨S_, .f32⟩
  | .hbm, ⟨37, _⟩ => ⟨S_, .f32⟩
  | .hbm, ⟨38, _⟩ => ⟨S2x8x16384x16384, .i1⟩
  | .hbm, ⟨39, _⟩ => ⟨S2x8x16384x16384, .f32⟩
  | .hbm, ⟨40, _⟩ => ⟨S2x8x16384x16384, .f32⟩
  | .hbm, ⟨41, _⟩ => ⟨S2x8x16384x256, .f32⟩
  | .hbm, ⟨42, _⟩ => ⟨S1x8x1x1, .f32⟩
  | .hbm, ⟨43, _⟩ => ⟨S2x8x16384x1, .f32⟩
  | .hbm, ⟨44, _⟩ => ⟨S2x8x16384x16641, .f32⟩
  | .hbm, ⟨45, _⟩ => ⟨S_, .f32⟩
  | .hbm, ⟨46, _⟩ => ⟨S2x8x16384, .f32⟩
  | .hbm, ⟨47, _⟩ => ⟨S_, .f32⟩
  | .hbm, ⟨48, _⟩ => ⟨S2x8x16384, .f32⟩
  | .hbm, ⟨49, _⟩ => ⟨S2x8x16384, .f32⟩
  | .hbm, ⟨50, _⟩ => ⟨S2x8x16384x1, .f32⟩
  | .hbm, ⟨51, _⟩ => ⟨S2x8x16384x16641, .f32⟩
  | .hbm, ⟨52, _⟩ => ⟨S2x8x16384x16641, .f32⟩
  | .hbm, ⟨53, _⟩ => ⟨S2x8x16384x16641, .f32⟩
  | .hbm, ⟨54, _⟩ => ⟨S_, .f32⟩
  | .hbm, ⟨55, _⟩ => ⟨S2x8x16384, .f32⟩
  | .hbm, ⟨56, _⟩ => ⟨S2x8x16384x1, .f32⟩
  | .hbm, ⟨57, _⟩ => ⟨S2x8x16384x16641, .f32⟩
  | .hbm, ⟨58, _⟩ => ⟨S2x8x16384x16641, .f32⟩
  | .hbm, ⟨59, _⟩ => ⟨S2x8x16384x16384, .f32⟩
  | .hbm, ⟨60, _⟩ => ⟨S2x8x16384x256, .f32⟩
  | .hbm, ⟨61, _⟩ => ⟨S2x8x64x16384, .f32⟩
  | .hbm, ⟨62, _⟩ => ⟨S2x16384x8x64, .f32⟩
  | .hbm, ⟨63, _⟩ => ⟨S2x8x64x16384, .f32⟩
  | .hbm, ⟨64, _⟩ => ⟨S2x16384x8x64, .f32⟩
  | .hbm, ⟨65, _⟩ => ⟨S2x16384x8x64, .f32⟩
  | .hbm, ⟨66, _⟩ => ⟨S2x16384x512, .f32⟩
  | .hbm, ⟨67, _⟩ => ⟨S2x16384x512, .bf16⟩
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_0 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Experts.lean ====
abbrev S65536x1024 : Shape := ⟨2, ![65536, 1024]⟩
abbrev S71 : Shape := ⟨1, ![71]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1 : Shape := ⟨1, ![1]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 5
  | .vmem => 12
  | .smem => 5
  | _ => 0

abbrev bufTy : (tb : Table) → Fin (tcTables nBuf tb) → BufTy
  | .hbm, ⟨0, _⟩ => ⟨S65536x1024, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | .local _ .smem, ⟨0, _⟩ => ⟨S71, .i32⟩
  | .local _ .smem, ⟨1, _⟩ => ⟨S71, .i32⟩
  | .local _ .smem, ⟨2, _⟩ => ⟨S71, .i32⟩
  | .local _ .smem, ⟨3, _⟩ => ⟨S71, .i32⟩
  | .local _ .smem, ⟨4, _⟩ => ⟨S71, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev main_arg5 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![71, 7], ![false, false]⟩

abbrev pre0 : Pipeline.Prefetch sig := ⟨5, ![main_arg1.idx, main_arg2.idx, main_arg3.idx, main_arg4.idx, main_arg5.idx], fun | 0 => main_arg1.names | 1 => main_arg2.names | 2 => main_arg3.names | 3 => main_arg4.names | 4 => main_arg5.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v6 : BitVec 32) : BitVec 1 :=
  let arg1 : BitVec 32 := BitVec.ofNat 32 (i 1).val
  let c0_i32 : BitVec 32 := 0#32
  let v4 : BitVec 1 := Scalar.cmpi .eq arg1 c0_i32
  let c1_i32 : BitVec 32 := 1#32
  let v7 : BitVec 1 := Scalar.cmpi .eq v6 c1_i32
  let v8 : BitVec 1 := Scalar.andi v4 v7
  let v9 : BitVec 32 := Scalar.extui v8
  let c0_i32_0 : BitVec 32 := 0#32
  let v10 : BitVec 1 := Scalar.cmpi .ne v9 c0_i32_0
  v10

def k0_cond2 (v1 : BitVec 32) (v3 : BitVec 32) : BitVec 1 :=
  let v11 : BitVec 1 := Scalar.cmpi .sgt v3 v1
  let v12 : BitVec 32 := Scalar.extui v11
  let c0_i32_1 : BitVec 32 := 0#32
  let v13 : BitVec 1 := Scalar.cmpi .ne v12 c0_i32_1
  v13

def k0_cond6 (i : grid0.Coords) : BitVec 1 :=
  let arg1 : BitVec 32 := BitVec.ofNat 32 (i 1).val
  let c6_i32 : BitVec 32 := 6#32
  let v37 : BitVec 1 := Scalar.cmpi .eq arg1 c6_i32
  let v38 : BitVec 32 := Scalar.extui v37
  let c0_i32_20 : BitVec 32 := 0#32
  let v39 : BitVec 1 := Scalar.cmpi .ne v38 c0_i32_20
  v39

def cc0_transform_0 (k0_off1_inb : ∀ i : grid0.Coords, ∀ a, (k0_off1 i) a + S1.size a ≤ S71.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S71) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S71) ![v0.toNat] S1.size (k0_off1_inb i)) numel1_S1
  let v2 : Index := Scalar.indexCast arg0
  let v3 : BitVec 32 := pf.at 3 (Rect.unit (s := S71) ![v2.toNat] S1.size (k0_off1_inb i)) numel1_S1
  let v4 : Index := Scalar.indexCast arg0
  let v5 : BitVec 32 := pf.at 2 (Rect.unit (s := S71) ![v4.toNat] S1.size (k0_off1_inb i)) numel1_S1
  let v6 : BitVec 1 := Scalar.cmpi .sgt v3 v5
  let c6_i32 : BitVec 32 := 6#32
  let v7 : BitVec 32 := Scalar.select v6 arg1 c6_i32
  let c0_i32 : BitVec 32 := 0#32
  let c0_i32_0 : BitVec 32 := 0#32
  ![v1.toNat, c0_i32.toNat, v7.toNat]

def cc0_transform_2 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S71) ![v0.toNat] S1.size (k0_off1_inb i)) numel1_S1
  let v2 : Index := Scalar.indexCast arg0
  let v3 : BitVec 32 := pf.at 3 (Rect.unit (s := S71) ![v2.toNat] S1.size (k0_off1_inb i)) numel1_S1
  let v4 : Index := Scalar.indexCast arg0
  let v5 : BitVec 32 := pf.at 2 (Rect.unit (s := S71) ![v4.toNat] S1.size (k0_off1_inb i)) numel1_S1
  let v6 : BitVec 1 := Scalar.cmpi .sgt v3 v5
  let c6_i32 : BitVec 32 := 6#32
  let v7 : BitVec 32 := Scalar.select v6 arg1 c6_i32
  let c0_i32 : BitVec 32 := 0#32
  let c0_i32_0 : BitVec 32 := 0#32
  ![v1.toNat, c0_i32.toNat, v7.toNat]

def cc0_transform_3 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S71) ![v0.toNat] S1.size (k0_off1_inb i)) numel1_S1
  let v2 : Index := Scalar.indexCast arg0
  let v3 : BitVec 32 := pf.at 3 (Rect.unit (s := S71) ![v2.toNat] S1.size (k0_off1_inb i)) numel1_S1
  let v4 : Index := Scalar.indexCast arg0
  let v5 : BitVec 32 := pf.at 2 (Rect.unit (s := S71) ![v4.toNat] S1.size (k0_off1_inb i)) numel1_S1
  let v6 : BitVec 1 := Scalar.cmpi .sgt v3 v5
  let c6_i32 : BitVec 32 := 6#32
  let v7 : BitVec 32 := Scalar.select v6 arg1 c6_i32
  let c0_i32 : BitVec 32 := 0#32
  let c0_i32_0 : BitVec 32 := 0#32
  ![v1.toNat, v7.toNat, c0_i32.toNat]

def cc0_transform_4 (k0_off1_inb : ∀ i : grid0.Coords, ∀ a, (k0_off1 i) a + S1.size a ≤ S71.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S71) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S65536x1024 : Shape := ⟨2, ![65536, 1024]⟩
abbrev S71 : Shape := ⟨1, ![71]⟩
abbrev S8x1024x3584 : Shape := ⟨3, ![8, 1024, 3584]⟩
abbrev S8x3584x1024 : Shape := ⟨3, ![8, 3584, 1024]⟩
abbrev S65536 : Shape := ⟨1, ![65536]⟩
abbrev S65536x1 : Shape := ⟨2, ![65536, 1]⟩
abbrev S_ : Shape := ⟨0, ![]⟩
abbrev S1x71 : Shape := ⟨2, ![1, 71]⟩
abbrev S65536x71 : Shape := ⟨2, ![65536, 71]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S65536x3584 : Shape := ⟨2, ![65536, 3584]⟩

abbrev nBuf : Space → Nat
  | .hbm => 323
  | .vmem => 0
  | .smem => 0
  | _ => 0

abbrev hbmTy0_0 (i : Nat) : BufTy := match i % 128 with
  | 0 => ⟨S65536x1024, .f32⟩
  | 1 => ⟨S71, .i32⟩
  | 2 => ⟨S71, .i32⟩
  | 3 => ⟨S71, .i32⟩
  | 4 => ⟨S71, .i32⟩
  | 5 => ⟨S71, .i32⟩
  | 6 => ⟨S8x1024x3584, .bf16⟩
  | 7 => ⟨S8x1024x3584, .bf16⟩
  | 8 => ⟨S8x3584x1024, .bf16⟩
  | 9 => ⟨S65536, .i32⟩
  | 10 => ⟨S65536x1, .i32⟩
  | 11 => ⟨S_, .i32⟩
  | 12 => ⟨S71, .i32⟩
  | 13 => ⟨S71, .i32⟩
  | 14 => ⟨S1x71, .i32⟩
  | 15 => ⟨S65536x71, .i32⟩
  | 16 => ⟨S65536x71, .i32⟩
  | 17 => ⟨S65536x71, .i32⟩
  | 18 => ⟨S1x71, .i32⟩
  | 19 => ⟨S65536x71, .i32⟩
  | 20 => ⟨S65536x71, .i1⟩
  | 21 => ⟨S1x71, .i32⟩
  | 22 => ⟨S65536x71, .i32⟩
  | 23 => ⟨S65536x71, .i1⟩
  | 24 => ⟨S65536x71, .i1⟩
  | 25 => ⟨S8x1024x3584, .f32⟩
  | 26 => ⟨S8x1024x3584, .f32⟩
  | 27 => ⟨S8x3584x1024, .f32⟩
  | 28 => ⟨S_, .i32⟩
  | 29 => ⟨S71, .i32⟩
  | 30 => ⟨S71, .i1⟩
  | 31 => ⟨S1x71, .i1⟩
  | 32 => ⟨S65536x71, .i1⟩
  | 33 => ⟨S65536x71, .i1⟩
  | 34 => ⟨S_, .i1⟩
  | 35 => ⟨S65536, .i1⟩
  | 36 => ⟨S_, .f32⟩
  | 37 => ⟨S_, .f32⟩
  | 38 => ⟨S65536, .f32⟩
  | 39 => ⟨S65536, .f32⟩
  | 40 => ⟨S65536, .f32⟩
  | 41 => ⟨S65536x1, .f32⟩
  | 42 => ⟨S1x1024x3584, .f32⟩
  | 43 => ⟨S1024x3584, .f32⟩
  | 44 => ⟨S1x1024x3584, .f32⟩
  | 45 => ⟨S1024x3584, .f32⟩
  | 46 => ⟨S1x3584x1024, .f32⟩
  | 47 => ⟨S3584x1024, .f32⟩
  | 48 => ⟨S65536x3584, .f32⟩
  | 49 => ⟨S65536x3584, .f32⟩
  | 50 => ⟨S65536x3584, .f32⟩
  | 51 => ⟨S_, .f32⟩
  | 52 => ⟨S65536x3584, .f32⟩
  | 53 => ⟨S65536x3584, .f32⟩
  | 54 => ⟨S_, .f32⟩
  | 55 => ⟨S65536x3584, .f32⟩
  | 56 => ⟨S65536x3584, .f32⟩
  | 57 => ⟨S65536x3584, .f32⟩
  | 58 => ⟨S65536x3584, .f32⟩
  | 59 => ⟨S65536x3584, .f32⟩
  | 60 => ⟨S65536x1024, .f32⟩
  | 61 => ⟨S65536x1, .f32⟩
  | 62 => ⟨S65536x1024, .f32⟩
  | 63 => ⟨S65536x1024, .f32⟩
  | 64 => ⟨S_, .i32⟩
  | 65 => ⟨S71, .i32⟩
  | 66 => ⟨S71, .i1⟩
  | 67 => ⟨S1x71, .i1⟩
  | 68 => ⟨S65536x71, .i1⟩
  | 69 => ⟨S65536x71, .i1⟩
  | 70 => ⟨S_, .i1⟩
  | 71 => ⟨S65536, .i1⟩
  | 72 => ⟨S_, .f32⟩
  | 73 => ⟨S_, .f32⟩
  | 74 => ⟨S65536, .f32⟩
  | 75 => ⟨S65536, .f32⟩
  | 76 => ⟨S65536, .f32⟩
  | 77 => ⟨S65536x1, .f32⟩
  | 78 => ⟨S1x1024x3584, .f32⟩
  | 79 => ⟨S1024x3584, .f32⟩
  | 80 => ⟨S1x1024x3584, .f32⟩
  | 81 => ⟨S1024x3584, .f32⟩
  | 82 => ⟨S1x3584x1024, .f32⟩
  | 83 => ⟨S3584x1024, .f32⟩
  | 84 => ⟨S65536x3584, .f32⟩
  | 85 => ⟨S65536x3584, .f32⟩
  | 86 => ⟨S65536x3584, .f32⟩
  | 87 => ⟨S_, .f32⟩
  | 88 => ⟨S65536x3584, .f32⟩
  | 89 => ⟨S65536x3584, .f32⟩
  | 90 => ⟨S_, .f32⟩
  | 91 => ⟨S65536x3584, .f32⟩
  | 92 => ⟨S65536x3584, .f32⟩
  | 93 => ⟨S65536x3584, .f32⟩
  | 94 => ⟨S65536x3584, .f32⟩
  | 95 => ⟨S65536x3584, .f32⟩
  | 96 => ⟨S65536x1024, .f32⟩
  | 97 => ⟨S65536x1, .f32⟩
  | 98 => ⟨S65536x1024, .f32⟩
  | 99 => ⟨S65536x1024, .f32⟩
  | 100 => ⟨S65536x1024, .f32⟩
  | 101 => ⟨S_, .i32⟩
  | 102 => ⟨S71, .i32⟩
  | 103 => ⟨S71, .i1⟩
  | 104 => ⟨S1x71, .i1⟩
  | 105 => ⟨S65536x71, .i1⟩
  | 106 => ⟨S65536x71, .i1⟩
  | 107 => ⟨S_, .i1⟩
  | 108 => ⟨S65536, .i1⟩
  | 109 => ⟨S_, .f32⟩
  | 110 => ⟨S_, .f32⟩
  | 111 => ⟨S65536, .f32⟩
  | 112 => ⟨S65536, .f32⟩
  | 113 => ⟨S65536, .f32⟩
  | 114 => ⟨S65536x1, .f32⟩
  | 115 => ⟨S1x1024x3584, .f32⟩
  | 116 => ⟨S1024x3584, .f32⟩
  | 117 => ⟨S1x1024x3584, .f32⟩
  | 118 => ⟨S1024x3584, .f32⟩
  | 119 => ⟨S1x3584x1024, .f32⟩
  | 120 => ⟨S3584x1024, .f32⟩
  | 121 => ⟨S65536x3584, .f32⟩
  | 122 => ⟨S65536x3584, .f32⟩
  | 123 => ⟨S65536x3584, .f32⟩
  | 124 => ⟨S_, .f32⟩
  | 125 => ⟨S65536x3584, .f32⟩
  | 126 => ⟨S65536x3584, .f32⟩
  | 127 => ⟨S_, .f32⟩
  | _ => ⟨S65536x1024, .f32⟩

abbrev hbmTy0_1 (i : Nat) : BufTy := match i % 128 with
  | 0 => ⟨S65536x3584, .f32⟩
  | 1 => ⟨S65536x3584, .f32⟩
  | 2 => ⟨S65536x3584, .f32⟩
  | 3 => ⟨S65536x3584, .f32⟩
  | 4 => ⟨S65536x3584, .f32⟩
  | 5 => ⟨S65536x1024, .f32⟩
  | 6 => ⟨S65536x1, .f32⟩
  | 7 => ⟨S65536x1024, .f32⟩
  | 8 => ⟨S65536x1024, .f32⟩
  | 9 => ⟨S65536x1024, .f32⟩
  | 10 => ⟨S_, .i32⟩
  | 11 => ⟨S71, .i32⟩
  | 12 => ⟨S71, .i1⟩
  | 13 => ⟨S1x71, .i1⟩
  | 14 => ⟨S65536x71, .i1⟩
  | 15 => ⟨S65536x71, .i1⟩
  | 16 => ⟨S_, .i1⟩
  | 17 => ⟨S65536, .i1⟩
  | 18 => ⟨S_, .f32⟩
  | 19 => ⟨S_, .f32⟩
  | 20 => ⟨S65536, .f32⟩
  | 21 => ⟨S65536, .f32⟩
  | 22 => ⟨S65536, .f32⟩
  | 23 => ⟨S65536x1, .f32⟩
  | 24 => ⟨S1x1024x3584, .f32⟩
  | 25 => ⟨S1024x3584, .f32⟩
  | 26 => ⟨S1x1024x3584, .f32⟩
  | 27 => ⟨S1024x3584, .f32⟩
  | 28 => ⟨S1x3584x1024, .f32⟩
  | 29 => ⟨S3584x1024, .f32⟩
  | 30 => ⟨S65536x3584, .f32⟩
  | 31 => ⟨S65536x3584, .f32⟩
  | 32 => ⟨S65536x3584, .f32⟩
  | 33 => ⟨S_, .f32⟩
  | 34 => ⟨S65536x3584, .f32⟩
  | 35 => ⟨S65536x3584, .f32⟩
  | 36 => ⟨S_, .f32⟩
  | 37 => ⟨S65536x3584, .f32⟩
  | 38 => ⟨S65536x3584, .f32⟩
  | 39 => ⟨S65536x3584, .f32⟩
  | 40 => ⟨S65536x3584, .f32⟩
  | 41 => ⟨S65536x3584, .f32⟩
  | 42 => ⟨S65536x1024, .f32⟩
  | 43 => ⟨S65536x1, .f32⟩
  | 44 => ⟨S65536x1024, .f32⟩
  | 45 => ⟨S65536x1024, .f32⟩
  | 46 => ⟨S65536x1024, .f32⟩
  | 47 => ⟨S_, .i32⟩
  | 48 => ⟨S71, .i32⟩
  | 49 => ⟨S71, .i1⟩
  | 50 => ⟨S1x71, .i1⟩
  | 51 => ⟨S65536x71, .i1⟩
  | 52 => ⟨S65536x71, .i1⟩
  | 53 => ⟨S_, .i1⟩
  | 54 => ⟨S65536, .i1⟩
  | 55 => ⟨S_, .f32⟩
  | 56 => ⟨S_, .f32⟩
  | 57 => ⟨S65536, .f32⟩
  | 58 => ⟨S65536, .f32⟩
  | 59 => ⟨S65536, .f32⟩
  | 60 => ⟨S65536x1, .f32⟩
  | 61 => ⟨S1x1024x3584, .f32⟩
  | 62 => ⟨S1024x3584, .f32⟩
  | 63 => ⟨S1x1024x3584, .f32⟩
  | 64 => ⟨S1024x3584, .f32⟩
  | 65 => ⟨S1x3584x1024, .f32⟩
  | 66 => ⟨S3584x1024, .f32⟩
  | 67 => ⟨S65536x3584, .f32⟩
  | 68 => ⟨S65536x3584, .f32⟩
  | 69 => ⟨S65536x3584, .f32⟩
  | 70 => ⟨S_, .f32⟩
  | 71 => ⟨S65536x3584, .f32⟩
  | 72 => ⟨S65536x3584, .f32⟩
  | 73 => ⟨S_, .f32⟩
  | 74 => ⟨S65536x3584, .f32⟩
  | 75 => ⟨S65536x3584, .f32⟩
  | 76 => ⟨S65536x3584, .f32⟩
  | 77 => ⟨S65536x3584, .f32⟩
  | 78 => ⟨S65536x3584, .f32⟩
  | 79 => ⟨S65536x1024, .f32⟩
  | 80 => ⟨S65536x1, .f32⟩
  | 81 => ⟨S65536x1024, .f32⟩
  | 82 => ⟨S65536x1024, .f32⟩
  | 83 => ⟨S65536x1024, .f32⟩
  | 84 => ⟨S_, .i32⟩
  | 85 => ⟨S71, .i32⟩
  | 86 => ⟨S71, .i1⟩
  | 87 => ⟨S1x71, .i1⟩
  | 88 => ⟨S65536x71, .i1⟩
  | 89 => ⟨S65536x71, .i1⟩
  | 90 => ⟨S_, .i1⟩
  | 91 => ⟨S65536, .i1⟩
  | 92 => ⟨S_, .f32⟩
  | 93 => ⟨S_, .f32⟩
  | 94 => ⟨S65536, .f32⟩
  | 95 => ⟨S65536, .f32⟩
  | 96 => ⟨S65536, .f32⟩
  | 97 => ⟨S65536x1, .f32⟩
  | 98 => ⟨S1x1024x3584, .f32⟩
  | 99 => ⟨S1024x3584, .f32⟩
  | 100 => ⟨S1x1024x3584, .f32⟩
  | 101 => ⟨S1024x3584, .f32⟩
  | 102 => ⟨S1x3584x1024, .f32⟩
  | 103 => ⟨S3584x1024, .f32⟩
  | 104 => ⟨S65536x3584, .f32⟩
  | 105 => ⟨S65536x3584, .f32⟩
  | 106 => ⟨S65536x3584, .f32⟩
  | 107 => ⟨S_, .f32⟩
  | 108 => ⟨S65536x3584, .f32⟩
  | 109 => ⟨S65536x3584, .f32⟩
  | 110 => ⟨S_, .f32⟩
  | 111 => ⟨S65536x3584, .f32⟩
  | 112 => ⟨S65536x3584, .f32⟩
  | 113 => ⟨S65536x3584, .f32⟩
  | 114 => ⟨S65536x3584, .f32⟩
  | 115 => ⟨S65536x3584, .f32⟩
  | 116 => ⟨S65536x1024, .f32⟩
  | 117 => ⟨S65536x1, .f32⟩
  | 118 => ⟨S65536x1024, .f32⟩
  | 119 => ⟨S65536x1024, .f32⟩
  | 120 => ⟨S65536x1024, .f32⟩
  | 121 => ⟨S_, .i32⟩
  | 122 => ⟨S71, .i32⟩
  | 123 => ⟨S71, .i1⟩
  | 124 => ⟨S1x71, .i1⟩
  | 125 => ⟨S65536x71, .i1⟩
  | 126 => ⟨S65536x71, .i1⟩
  | 127 => ⟨S_, .i1⟩
  | _ => ⟨S65536x1024, .f32⟩

abbrev hbmTy0_2 (i : Nat) : BufTy := match i % 128 with
  | 0 => ⟨S65536, .i1⟩
  | 1 => ⟨S_, .f32⟩
  | 2 => ⟨S_, .f32⟩
  | 3 => ⟨S65536, .f32⟩
  | 4 => ⟨S65536, .f32⟩
  | 5 => ⟨S65536, .f32⟩
  | 6 => ⟨S65536x1, .f32⟩
  | 7 => ⟨S1x1024x3584, .f32⟩
  | 8 => ⟨S1024x3584, .f32⟩
  | 9 => ⟨S1x1024x3584, .f32⟩
  | 10 => ⟨S1024x3584, .f32⟩
  | 11 => ⟨S1x3584x1024, .f32⟩
  | 12 => ⟨S3584x1024, .f32⟩
  | 13 => ⟨S65536x3584, .f32⟩
  | 14 => ⟨S65536x3584, .f32⟩
  | 15 => ⟨S65536x3584, .f32⟩
  | 16 => ⟨S_, .f32⟩
  | 17 => ⟨S65536x3584, .f32⟩
  | 18 => ⟨S65536x3584, .f32⟩
  | 19 => ⟨S_, .f32⟩
  | 20 => ⟨S65536x3584, .f32⟩
  | 21 => ⟨S65536x3584, .f32⟩
  | 22 => ⟨S65536x3584, .f32⟩
  | 23 => ⟨S65536x3584, .f32⟩
  | 24 => ⟨S65536x3584, .f32⟩
  | 25 => ⟨S65536x1024, .f32⟩
  | 26 => ⟨S65536x1, .f32⟩
  | 27 => ⟨S65536x1024, .f32⟩
  | 28 => ⟨S65536x1024, .f32⟩
  | 29 => ⟨S65536x1024, .f32⟩
  | 30 => ⟨S_, .i32⟩
  | 31 => ⟨S71, .i32⟩
  | 32 => ⟨S71, .i1⟩
  | 33 => ⟨S1x71, .i1⟩
  | 34 => ⟨S65536x71, .i1⟩
  | 35 => ⟨S65536x71, .i1⟩
  | 36 => ⟨S_, .i1⟩
  | 37 => ⟨S65536, .i1⟩
  | 38 => ⟨S_, .f32⟩
  | 39 => ⟨S_, .f32⟩
  | 40 => ⟨S65536, .f32⟩
  | 41 => ⟨S65536, .f32⟩
  | 42 => ⟨S65536, .f32⟩
  | 43 => ⟨S65536x1, .f32⟩
  | 44 => ⟨S1x1024x3584, .f32⟩
  | 45 => ⟨S1024x3584, .f32⟩
  | 46 => ⟨S1x1024x3584, .f32⟩
  | 47 => ⟨S1024x3584, .f32⟩
  | 48 => ⟨S1x3584x1024, .f32⟩
  | 49 => ⟨S3584x1024, .f32⟩
  | 50 => ⟨S65536x3584, .f32⟩
  | 51 => ⟨S65536x3584, .f32⟩
  | 52 => ⟨S65536x3584, .f32⟩
  | 53 => ⟨S_, .f32⟩
  | 54 => ⟨S65536x3584, .f32⟩
  | 55 => ⟨S65536x3584, .f32⟩
  | 56 => ⟨S_, .f32⟩
  | 57 => ⟨S65536x3584, .f32⟩
  | 58 => ⟨S65536x3584, .f32⟩
  | 59 => ⟨S65536x3584, .f32⟩
  | 60 => ⟨S65536x3584, .f32⟩
  | 61 => ⟨S65536x3584, .f32⟩
  | 62 => ⟨S65536x1024, .f32⟩
  | 63 => ⟨S65536x1, .f32⟩
  | 64 => ⟨S65536x1024, .f32⟩
  | 65 => ⟨S65536x1024, .f32⟩
  | 66 => ⟨S65536x1024, .f32⟩
  | _ => ⟨S65536x1024, .f32⟩

abbrev hbmTy (i : Nat) : BufTy := match i / 128 with
  | 0 => hbmTy0_0 i
  | 1 => hbmTy0_1 i
  | 2 => hbmTy0_2 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_cst : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_3 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_4 : Ref sig .tc := ⟨.hbm, 70, rfl⟩
abbrev main_v45 : Ref sig .tc := ⟨.hbm, 71, rfl⟩
abbrev main_cst_5 : Ref sig .tc := ⟨.hbm, 72, rfl⟩
abbrev main_cst_6 : Ref sig .tc := ⟨.hbm, 73, rfl⟩
abbrev main_call2_v0 : Ref sig .tc := ⟨.hbm, 74, rfl⟩
abbrev main_call2_v1 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_7 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_c_8 : Ref sig .tc := ⟨.hbm, 107, rfl⟩
abbrev main_v68 : Ref sig .tc := ⟨.hbm, 108, rfl⟩
abbrev main_cst_9 : Ref sig .tc := ⟨.hbm, 109, rfl⟩
abbrev main_cst_10 : Ref sig .tc := ⟨.hbm, 110, rfl⟩
abbrev main_call4_v0 : Ref sig .tc := ⟨.hbm, 111, rfl⟩
abbrev main_call4_v1 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_call5_v0 : Ref sig .tc := ⟨.hbm, 122, rfl⟩
abbrev main_call5_v1 : Ref sig .tc := ⟨.hbm, 123, rfl⟩
abbrev main_call5_cst : Ref sig .tc := ⟨.hbm, 124, rfl⟩
abbrev main_call5_v2 : Ref sig .tc := ⟨.hbm, 125, rfl⟩
abbrev main_call5_v3 : Ref sig .tc := ⟨.hbm, 126, rfl⟩
abbrev main_call5_cst_0 : Ref sig .tc := ⟨.hbm, 127, rfl⟩
abbrev main_call5_v4 : Ref sig .tc := ⟨.hbm, 128, rfl⟩
abbrev main_call5_v5 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_c_11 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_c_12 : Ref sig .tc := ⟨.hbm, 144, rfl⟩
abbrev main_v91 : Ref sig .tc := ⟨.hbm, 145, rfl⟩
abbrev main_cst_13 : Ref sig .tc := ⟨.hbm, 146, rfl⟩
abbrev main_cst_14 : Ref sig .tc := ⟨.hbm, 147, rfl⟩
abbrev main_call6_v0 : Ref sig .tc := ⟨.hbm, 148, rfl⟩
abbrev main_call6_v1 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_call7_v0 : Ref sig .tc := ⟨.hbm, 159, rfl⟩
abbrev main_call7_v1 : Ref sig .tc := ⟨.hbm, 160, rfl⟩
abbrev main_call7_cst : Ref sig .tc := ⟨.hbm, 161, rfl⟩
abbrev main_call7_v2 : Ref sig .tc := ⟨.hbm, 162, rfl⟩
abbrev main_call7_v3 : Ref sig .tc := ⟨.hbm, 163, rfl⟩
abbrev main_call7_cst_0 : Ref sig .tc := ⟨.hbm, 164, rfl⟩
abbrev main_call7_v4 : Ref sig .tc := ⟨.hbm, 165, rfl⟩
abbrev main_call7_v5 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_c_15 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_c_16 : Ref sig .tc := ⟨.hbm, 181, rfl⟩
abbrev main_v114 : Ref sig .tc := ⟨.hbm, 182, rfl⟩
abbrev main_cst_17 : Ref sig .tc := ⟨.hbm, 183, rfl⟩
abbrev main_cst_18 : Ref sig .tc := ⟨.hbm, 184, rfl⟩
abbrev main_call8_v0 : Ref sig .tc := ⟨.hbm, 185, rfl⟩
abbrev main_call8_v1 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_call9_v0 : Ref sig .tc := ⟨.hbm, 196, rfl⟩
abbrev main_call9_v1 : Ref sig .tc := ⟨.hbm, 197, rfl⟩
abbrev main_call9_cst : Ref sig .tc := ⟨.hbm, 198, rfl⟩
abbrev main_call9_v2 : Ref sig .tc := ⟨.hbm, 199, rfl⟩
abbrev main_call9_v3 : Ref sig .tc := ⟨.hbm, 200, rfl⟩
abbrev main_call9_cst_0 : Ref sig .tc := ⟨.hbm, 201, rfl⟩
abbrev main_call9_v4 : Ref sig .tc := ⟨.hbm, 202, rfl⟩
abbrev main_call9_v5 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_c_19 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_c_20 : Ref sig .tc := ⟨.hbm, 218, rfl⟩
abbrev main_v137 : Ref sig .tc := ⟨.hbm, 219, rfl⟩
abbrev main_cst_21 : Ref sig .tc := ⟨.hbm, 220, rfl⟩
abbrev main_cst_22 : Ref sig .tc := ⟨.hbm, 221, rfl⟩
abbrev main_call10_v0 : Ref sig .tc := ⟨.hbm, 222, rfl⟩
abbrev main_call10_v1 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_call11_v0 : Ref sig .tc := ⟨.hbm, 233, rfl⟩
abbrev main_call11_v1 : Ref sig .tc := ⟨.hbm, 234, rfl⟩
abbrev main_call11_cst : Ref sig .tc := ⟨.hbm, 235, rfl⟩
abbrev main_call11_v2 : Ref sig .tc := ⟨.hbm, 236, rfl⟩
abbrev main_call11_v3 : Ref sig .tc := ⟨.hbm, 237, rfl⟩
abbrev main_call11_cst_0 : Ref sig .tc := ⟨.hbm, 238, rfl⟩
abbrev main_call11_v4 : Ref sig .tc := ⟨.hbm, 239, rfl⟩
abbrev main_call11_v5 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_c_23 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_c_24 : Ref sig .tc := ⟨.hbm, 255, rfl⟩
abbrev main_v160 : Ref sig .tc := ⟨.hbm, 256, rfl⟩
abbrev main_cst_25 : Ref sig .tc := ⟨.hbm, 257, rfl⟩
abbrev main_cst_26 : Ref sig .tc := ⟨.hbm, 258, rfl⟩
abbrev main_call12_v0 : Ref sig .tc := ⟨.hbm, 259, rfl⟩
abbrev main_call12_v1 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_call13_v0 : Ref sig .tc := ⟨.hbm, 270, rfl⟩
abbrev main_call13_v1 : Ref sig .tc := ⟨.hbm, 271, rfl⟩
abbrev main_call13_cst : Ref sig .tc := ⟨.hbm, 272, rfl⟩
abbrev main_call13_v2 : Ref sig .tc := ⟨.hbm, 273, rfl⟩
abbrev main_call13_v3 : Ref sig .tc := ⟨.hbm, 274, rfl⟩
abbrev main_call13_cst_0 : Ref sig .tc := ⟨.hbm, 275, rfl⟩
abbrev main_call13_v4 : Ref sig .tc := ⟨.hbm, 276, rfl⟩
abbrev main_call13_v5 : Ref sig .tc := ⟨.hbm, 277, rfl⟩
abbrev main_v170 : Ref sig .tc := ⟨.hbm, 278, rfl⟩
abbrev main_v171 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_c_27 : Ref sig .tc := ⟨.hbm, 286, rfl⟩
abbrev main_v178 : Ref sig .tc := ⟨.hbm, 287, rfl⟩
abbrev main_v179 : Ref sig .tc := ⟨.hbm, 288, rfl⟩
abbrev main_v180 : Ref sig .tc := ⟨.hbm, 289, rfl⟩
abbrev main_v181 : Ref sig .tc := ⟨.hbm, 290, rfl⟩
abbrev main_v182 : Ref sig .tc := ⟨.hbm, 291, rfl⟩
abbrev main_c_28 : Ref sig .tc := ⟨.hbm, 292, rfl⟩
abbrev main_v183 : Ref sig .tc := ⟨.hbm, 293, rfl⟩
abbrev main_cst_29 : Ref sig .tc := ⟨.hbm, 294, rfl⟩
abbrev main_cst_30 : Ref sig .tc := ⟨.hbm, 295, rfl⟩
abbrev main_call14_v0 : Ref sig .tc := ⟨.hbm, 296, rfl⟩
abbrev main_call14_v1 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_v187 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩
abbrev main_v191 : Ref sig .tc := ⟨.hbm, 305, rfl⟩
abbrev main_v192 : Ref sig .tc := ⟨.hbm, 306, rfl⟩
abbrev main_call15_v0 : Ref sig .tc := ⟨.hbm, 307, rfl⟩
abbrev main_call15_v1 : Ref sig .tc := ⟨.hbm, 308, rfl⟩
abbrev main_call15_cst : Ref sig .tc := ⟨.hbm, 309, rfl⟩
abbrev main_call15_v2 : Ref sig .tc := ⟨.hbm, 310, rfl⟩
abbrev main_call15_v3 : Ref sig .tc := ⟨.hbm, 311, rfl⟩
abbrev main_call15_cst_0 : Ref sig .tc := ⟨.hbm, 312, rfl⟩
abbrev main_call15_v4 : Ref sig .tc := ⟨.hbm, 313, rfl⟩
abbrev main_call15_v5 : Ref sig .tc := ⟨.hbm, 314, rfl⟩
abbrev main_v193 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_v197 : Ref sig .tc := ⟨.hbm, 319, rfl⟩
abbrev main_v198 : Ref sig .tc := ⟨.hbm, 320, rfl⟩
abbrev main_v199 : Ref sig .tc := ⟨.hbm, 321, rfl⟩
abbrev main_v200 : Ref sig .tc := ⟨.hbm, 322, rfl⟩

abbrev nD : Nat := 1
abbrev τ : Topo := Topo.v7x

variable {F : FTy → Type} [FloatOps F]
-- ==== Dense.lean ====
abbrev S2x16384x1024 : Shape := ⟨3, ![2, 16384, 1024]⟩
abbrev S2x1x1024 : Shape := ⟨3, ![2, 1, 1024]⟩
abbrev S1x1024 : Shape := ⟨2, ![1, 1024]⟩
abbrev S1024x2816 : Shape := ⟨2, ![1024, 2816]⟩
abbrev S2816x1024 : Shape := ⟨2, ![2816, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 10
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x512x1024, .f32⟩
  | .local _ .vmem, ⟨14, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== DenseReferenceIdeal.lean ====
abbrev S2x16384x1024 : Shape := ⟨3, ![2, 16384, 1024]⟩
abbrev S2x1x1024 : Shape := ⟨3, ![2, 1, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩

abbrev nBuf : Space → Nat
  | .hbm => 67
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S2x16384x1024, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x1024, .f32⟩
  | .hbm, ⟨24, _⟩ => ⟨S2x16384x1024, .f32⟩
  | .hbm, ⟨25, _⟩ => ⟨S1x1x1024, .f32⟩
  | .hbm, ⟨26, _⟩ => ⟨S2x16384x1024, .f32⟩
  | .hbm, ⟨27, _⟩ => ⟨S2x16384x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x2816, .f32⟩
  | .hbm, ⟨36, _⟩ => ⟨S2x16384x2816, .f32⟩
  | .hbm, ⟨37, _⟩ => ⟨S2x16384x2816, .f32⟩
  | .hbm, ⟨38, _⟩ => ⟨S_, .f32⟩
  | .hbm, ⟨39, _⟩ => ⟨S2x16384x2816, .f32⟩
  | .hbm, ⟨40, _⟩ => ⟨S2x16384x2816, .f32⟩
  | .hbm, ⟨41, _⟩ => ⟨S_, .f32⟩
  | .hbm, ⟨42, _⟩ => ⟨S2x16384x2816, .f32⟩
  | .hbm, ⟨43, _⟩ => ⟨S2x16384x2816, .f32⟩
  | .hbm, ⟨44, _⟩ => ⟨S2x16384x2816, .f32⟩
  | .hbm, ⟨45, _⟩ => ⟨S2x16384x2816, .f32⟩
  | .hbm, ⟨46, _⟩ => ⟨S2x16384x2816, .f32⟩
  | .hbm, ⟨47, _⟩ => ⟨S2x16384x1024, .f32⟩
  | .hbm, ⟨48, _⟩ => ⟨S2x16384x1024, .f32⟩
  | .hbm, ⟨49, _⟩ => ⟨S_, .f32⟩
  | .hbm, ⟨50, _⟩ => ⟨S2x16384, .f32⟩
  | .hbm, ⟨51, _⟩ => ⟨S2x16384x1, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S_, .f32⟩
  | .hbm, ⟨56, _⟩ => ⟨S2x16384x1, .f32⟩
  | .hbm, ⟨57, _⟩ => ⟨S2x16384x1, .f32⟩
  | .hbm, ⟨58, _⟩ => ⟨S2x16384x1, .f32⟩
  | .hbm, ⟨59, _⟩ => ⟨S2x16384x1024, .f32⟩
  | .hbm, ⟨60, _⟩ => ⟨S2x16384x1024, .f32⟩
  | .hbm, ⟨61, _⟩ => ⟨S1x1x1024, .f32⟩
  | .hbm, ⟨62, _⟩ => ⟨S2x16384x1024, .f32⟩
  | .hbm, ⟨63, _⟩ => ⟨S2x16384x1024, .f32⟩
  | .hbm, ⟨64, _⟩ => ⟨S2x16384x1024, .f32⟩
  | .hbm, ⟨65, _⟩ => ⟨S2x16384x1024, .f32⟩
  | .hbm, ⟨66, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Project.lean ====
abbrev S2x16384x1024 : Shape := ⟨3, ![2, 16384, 1024]⟩
abbrev S2x1x1024 : Shape := ⟨3, ![2, 1, 1024]⟩
abbrev S1x1024 : Shape := ⟨2, ![1, 1024]⟩
abbrev S1024x6144 : Shape := ⟨2, ![1024, 6144]⟩
abbrev S16384x128 : Shape := ⟨2, ![16384, 128]⟩
abbrev S2x16384x512 : Shape := ⟨3, ![2, 16384, 512]⟩
abbrev S2x16384x256 : Shape := ⟨3, ![2, 16384, 256]⟩
abbrev S2x16384x3072 : Shape := ⟨3, ![2, 16384, 3072]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x256 : Shape := ⟨3, ![1, 512, 256]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x128 : Shape := ⟨3, ![1, 512, 128]⟩
abbrev S512x256 : Shape := ⟨2, ![512, 256]⟩

abbrev nBuf : Space → Nat
  | .hbm => 14
  | .vmem => 26
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1024x6144, .bf16⟩
  | .hbm, ⟨5, _⟩ => ⟨S16384x128, .f32⟩
  | .hbm, ⟨6, _⟩ => ⟨S16384x128, .f32⟩
  | .hbm, ⟨7, _⟩ => ⟨S2x16384x512, .bf16⟩
  | .hbm, ⟨8, _⟩ => ⟨S2x16384x256, .bf16⟩
  | .hbm, ⟨9, _⟩ => ⟨S2x16384x256, .bf16⟩
  | .hbm, ⟨10, _⟩ => ⟨S2x16384x512, .bf16⟩
  | .hbm, ⟨11, _⟩ => ⟨S2x16384x512, .bf16⟩
  | .hbm, ⟨12, _⟩ => ⟨S2x16384x512, .bf16⟩
  | .hbm, ⟨13, _⟩ => ⟨S2x16384x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x6144, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512x512, .bf16⟩
  | .local _ .vmem, ⟨13, _⟩ => ⟨S1x512x512, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x3072, .bf16⟩
  | .local _ .vmem, ⟨25, _⟩ => ⟨S1x512x3072, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjectReferenceIdeal.lean ====
abbrev S2x16384x1024 : Shape := ⟨3, ![2, 16384, 1024]⟩
abbrev S2x1x1024 : Shape := ⟨3, ![2, 1, 1024]⟩
abbrev S1x1024 : Shape := ⟨2, ![1, 1024]⟩
abbrev S1024x6144 : Shape := ⟨2, ![1024, 6144]⟩
abbrev S16384x128 : Shape := ⟨2, ![16384, 128]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x6144 : Shape := ⟨3, ![2, 16384, 6144]⟩
abbrev S2x16384x512 : Shape := ⟨3, ![2, 16384, 512]⟩
abbrev S2x16384x256 : Shape := ⟨3, ![2, 16384, 256]⟩
abbrev S2x16384x3072 : Shape := ⟨3, ![2, 16384, 3072]⟩
abbrev S16384x1x2x2x32 : Shape := ⟨5, ![16384, 1, 2, 2, 32]⟩
abbrev S2x16384x4x2x2x32 : Shape := ⟨6, ![2, 16384, 4, 2, 2, 32]⟩
abbrev S2x16384x4x2x1x32 : Shape := ⟨6, ![2, 16384, 4, 2, 1, 32]⟩
abbrev S2x16384x4x2x32 : Shape := ⟨5, ![2, 16384, 4, 2, 32]⟩
abbrev S16384x1x2x1x32 : Shape := ⟨5, ![16384, 1, 2, 1, 32]⟩
abbrev S16384x1x2x32 : Shape := ⟨4, ![16384, 1, 2, 32]⟩
abbrev S1x16384x1x2x32 : Shape := ⟨5, ![1, 16384, 1, 2, 32]⟩
abbrev S2x16384x2x2x2x32 : Shape := ⟨6, ![2, 16384, 2, 2, 2, 32]⟩
abbrev S2x16384x2x2x1x32 : Shape := ⟨6, ![2, 16384, 2, 2, 1, 32]⟩
abbrev S2x16384x2x2x32 : Shape := ⟨5, ![2, 16384, 2, 2, 32]⟩

abbrev nBuf : Space → Nat
  | .hbm => 123
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1024x6144, .bf16⟩
  | .hbm, ⟨5, _⟩ => ⟨S16384x128, .f32⟩
  | .hbm, ⟨6, _⟩ => ⟨S16384x128, .f32⟩
  | .hbm, ⟨7, _⟩ => ⟨S2x16384x1024, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x1024, .f32⟩
  | .hbm, ⟨19, _⟩ => ⟨S2x16384x1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S1024x6144, .f32⟩
  | .hbm, ⟨31, _⟩ => ⟨S2x16384x6144, .f32⟩
  | .hbm, ⟨32, _⟩ => ⟨S2x16384x512, .f32⟩
  | .hbm, ⟨33, _⟩ => ⟨S2x16384x256, .f32⟩
  | .hbm, ⟨34, _⟩ => ⟨S2x16384x256, .f32⟩
  | .hbm, ⟨35, _⟩ => ⟨S2x16384x512, .f32⟩
  | .hbm, ⟨36, _⟩ => ⟨S2x16384x512, .f32⟩
  | .hbm, ⟨37, _⟩ => ⟨S2x16384x512, .f32⟩
  | .hbm, ⟨38, _⟩ => ⟨S2x16384x512, .f32⟩
  | .hbm, ⟨39, _⟩ => ⟨S2x16384x3072, .f32⟩
  | .hbm, ⟨40, _⟩ => ⟨S16384x1x2x2x32, .f32⟩
  | .hbm, ⟨41, _⟩ => ⟨S16384x1x2x2x32, .f32⟩
  | .hbm, ⟨42, _⟩ => ⟨S2x16384x4x2x2x32, .f32⟩
  | .hbm, ⟨43, _⟩ => ⟨S2x16384x4x2x1x32, .f32⟩
  | .hbm, ⟨44, _⟩ => ⟨S2x16384x4x2x32, .f32⟩
  | .hbm, ⟨45, _⟩ => ⟨S2x16384x4x2x1x32, .f32⟩
  | .hbm, ⟨46, _⟩ => ⟨S2x16384x4x2x32, .f32⟩
  | .hbm, ⟨47, _⟩ => ⟨S16384x1x2x1x32, .f32⟩
  | .hbm, ⟨48, _⟩ => ⟨S16384x1x2x32, .f32⟩
  | .hbm, ⟨49, _⟩ => ⟨S1x16384x1x2x32, .f32⟩
  | .hbm, ⟨50, _⟩ => ⟨S2x16384x4x2x32, .f32⟩
  | .hbm, ⟨51, _⟩ => ⟨S2x16384x4x2x32, .f32⟩
  | .hbm, ⟨52, _⟩ => ⟨S16384x1x2x1x32, .f32⟩
  | .hbm, ⟨53, _⟩ => ⟨S16384x1x2x32, .f32⟩
  | .hbm, ⟨54, _⟩ => ⟨S1x16384x1x2x32, .f32⟩
  | .hbm, ⟨55, _⟩ => ⟨S2x16384x4x2x32, .f32⟩
  | .hbm, ⟨56, _⟩ => ⟨S2x16384x4x2x32, .f32⟩
  | .hbm, ⟨57, _⟩ => ⟨S2x16384x4x2x32, .f32⟩
  | .hbm, ⟨58, _⟩ => ⟨S16384x1x2x1x32, .f32⟩
  | .hbm, ⟨59, _⟩ => ⟨S16384x1x2x32, .f32⟩
  | .hbm, ⟨60, _⟩ => ⟨S1x16384x1x2x32, .f32⟩
  | .hbm, ⟨61, _⟩ => ⟨S2x16384x4x2x32, .f32⟩
  | .hbm, ⟨62, _⟩ => ⟨S2x16384x4x2x32, .f32⟩
  | .hbm, ⟨63, _⟩ => ⟨S16384x1x2x1x32, .f32⟩
  | .hbm, ⟨64, _⟩ => ⟨S16384x1x2x32, .f32⟩
  | .hbm, ⟨65, _⟩ => ⟨S1x16384x1x2x32, .f32⟩
  | .hbm, ⟨66, _⟩ => ⟨S2x16384x4x2x32, .f32⟩
  | .hbm, ⟨67, _⟩ => ⟨S2x16384x4x2x32, .f32⟩
  | .hbm, ⟨68, _⟩ => ⟨S2x16384x4x2x32, .f32⟩
  | .hbm, ⟨69, _⟩ => ⟨S2x16384x4x2x1x32, .f32⟩
  | .hbm, ⟨70, _⟩ => ⟨S2x16384x4x2x1x32, .f32⟩
  | .hbm, ⟨71, _⟩ => ⟨S2x16384x4x2x2x32, .f32⟩
  | .hbm, ⟨72, _⟩ => ⟨S2x16384x512, .f32⟩
  | .hbm, ⟨73, _⟩ => ⟨S_, .f32⟩
  | .hbm, ⟨74, _⟩ => ⟨S2x16384x512, .f32⟩
  | .hbm, ⟨75, _⟩ => ⟨S2x16384x512, .f32⟩
  | .hbm, ⟨76, _⟩ => ⟨S2x16384x2x2x2x32, .f32⟩
  | .hbm, ⟨77, _⟩ => ⟨S2x16384x2x2x1x32, .f32⟩
  | .hbm, ⟨78, _⟩ => ⟨S2x16384x2x2x32, .f32⟩
  | .hbm, ⟨79, _⟩ => ⟨S2x16384x2x2x1x32, .f32⟩
  | .hbm, ⟨80, _⟩ => ⟨S2x16384x2x2x32, .f32⟩
  | .hbm, ⟨81, _⟩ => ⟨S16384x1x2x1x32, .f32⟩
  | .hbm, ⟨82, _⟩ => ⟨S16384x1x2x32, .f32⟩
  | .hbm, ⟨83, _⟩ => ⟨S1x16384x1x2x32, .f32⟩
  | .hbm, ⟨84, _⟩ => ⟨S2x16384x2x2x32, .f32⟩
  | .hbm, ⟨85, _⟩ => ⟨S2x16384x2x2x32, .f32⟩
  | .hbm, ⟨86, _⟩ => ⟨S16384x1x2x1x32, .f32⟩
  | .hbm, ⟨87, _⟩ => ⟨S16384x1x2x32, .f32⟩
  | .hbm, ⟨88, _⟩ => ⟨S1x16384x1x2x32, .f32⟩
  | .hbm, ⟨89, _⟩ => ⟨S2x16384x2x2x32, .f32⟩
  | .hbm, ⟨90, _⟩ => ⟨S2x16384x2x2x32, .f32⟩
  | .hbm, ⟨91, _⟩ => ⟨S2x16384x2x2x32, .f32⟩
  | .hbm, ⟨92, _⟩ => ⟨S16384x1x2x1x32, .f32⟩
  | .hbm, ⟨93, _⟩ => ⟨S16384x1x2x32, .f32⟩
  | .hbm, ⟨94, _⟩ => ⟨S1x16384x1x2x32, .f32⟩
  | .hbm, ⟨95, _⟩ => ⟨S2x16384x2x2x32, .f32⟩
  | .hbm, ⟨96, _⟩ => ⟨S2x16384x2x2x32, .f32⟩
  | .hbm, ⟨97, _⟩ => ⟨S16384x1x2x1x32, .f32⟩
  | .hbm, ⟨98, _⟩ => ⟨S16384x1x2x32, .f32⟩
  | .hbm, ⟨99, _⟩ => ⟨S1x16384x1x2x32, .f32⟩
  | .hbm, ⟨100, _⟩ => ⟨S2x16384x2x2x32, .f32⟩
  | .hbm, ⟨101, _⟩ => ⟨S2x16384x2x2x32, .f32⟩
  | .hbm, ⟨102, _⟩ => ⟨S2x16384x2x2x32, .f32⟩
  | .hbm, ⟨103, _⟩ => ⟨S2x16384x2x2x1x32, .f32⟩
  | .hbm, ⟨104, _⟩ => ⟨S2x16384x2x2x1x32, .f32⟩
  | .hbm, ⟨105, _⟩ => ⟨S2x16384x2x2x2x32, .f32⟩
  | .hbm, ⟨106, _⟩ => ⟨S2x16384x256, .f32⟩
  | .hbm, ⟨107, _⟩ => ⟨S2x16384x512, .f32⟩
  | .hbm, ⟨108, _⟩ => ⟨S2x16384x3072, .f32⟩
  | .hbm, ⟨109, _⟩ => ⟨S2x16384x3072, .f32⟩
  | .hbm, ⟨110, _⟩ => ⟨S_, .f32⟩
  | .hbm, ⟨111, _⟩ => ⟨S2x16384x3072, .f32⟩
  | .hbm, ⟨112, _⟩ => ⟨S2x16384x3072, .f32⟩
  | .hbm, ⟨113, _⟩ => ⟨S_, .f32⟩
  | .hbm, ⟨114, _⟩ => ⟨S2x16384x3072, .f32⟩
  | .hbm, ⟨115, _⟩ => ⟨S2x16384x3072, .f32⟩
  | .hbm, ⟨116, _⟩ => ⟨S2x16384x512, .bf16⟩
  | .hbm, ⟨117, _⟩ => ⟨S2x16384x256, .bf16⟩
  | .hbm, ⟨118, _⟩ => ⟨S2x16384x256, .bf16⟩
  | .hbm, ⟨119, _⟩ => ⟨S2x16384x512, .bf16⟩
  | .hbm, ⟨120, _⟩ => ⟨S2x16384x512, .bf16⟩
  | .hbm, ⟨121, _⟩ => ⟨S2x16384x512, .bf16⟩
  | .hbm, ⟨122, _⟩ => ⟨S2x16384x3072, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_3 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_cst_4 : Ref sig .tc := ⟨.hbm, 110, rfl⟩
abbrev main_v98 : Ref sig .tc := ⟨.hbm, 111, rfl⟩
abbrev main_v99 : Ref sig .tc := ⟨.hbm, 112, rfl⟩
abbrev main_cst_5 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩

abbrev nD : Nat := 1
abbrev τ : Topo := Topo.v7x

variable {F : FTy → Type} [FloatOps F]
-- ==== Proof.Softmax.lean ====
/- Softmax attention with a sink over the extended reals: dividing the weighted sum by the normaliser, or every weight first; and
   cutting the keys to the window in which the scores are not masked. -/
module

public import Idealize.ShloMosaic.PureOps.Ideal

@[expose] public section

noncomputable section

namespace Cert.Softmax

open Idealize.ShloMosaic
open scoped BigOperators

/-- The largest of the scores and the sink's logit. -/
def top {n : ℕ} (s : Fin n → EReal) (w : EReal) : EReal := max (Finset.univ.fold max ⊥ s) w

/-- The normaliser. -/
def den {n : ℕ} (s : Fin n → EReal) (w : EReal) : EReal := ∑ j, Ideal.exp (s j - top s w) + Ideal.exp (w - top s w)

theorem fold_max_eq {n : ℕ} (s : Fin n → EReal) : Finset.univ.fold max ⊥ s = Finset.univ.sup s := rfl

theorem exp_sub_real {x : EReal} {M : ℝ} (h : x ≤ M) : ∃ r : ℝ, 0 ≤ r ∧ Ideal.exp (x - M) = r ∧ (r = 0 → x = ⊥) := by
  induction x with
  | bot => exact ⟨0, le_rfl, by simp, fun _ => rfl⟩
  | top => exact absurd h (by simp)
  | coe x =>
    refine ⟨Real.exp (x - M), (Real.exp_pos _).le, ?_, fun h => absurd h (Real.exp_pos _).ne'⟩
    rw [← EReal.coe_sub]; rfl

theorem sum_mul_real {ι : Type*} (t : Finset ι) (f : ι → EReal) {c : ℝ} (hc : 0 ≤ c) : (∑ j ∈ t, f j) * (c : EReal) = ∑ j ∈ t, f j * c := by
  classical
  induction t using Finset.induction_on with
  | empty => simp
  | insert a t ha ih =>
    rw [Finset.sum_insert ha, Finset.sum_insert ha, ← ih]
    exact EReal.right_distrib_of_nonneg_of_ne_top (EReal.coe_nonneg.2 hc) (EReal.coe_ne_top c) _ _

theorem sum_real {ι : Type*} (t : Finset ι) (f : ι → EReal) (g : ι → ℝ) (h : ∀ j ∈ t, f j = g j) : ∑ j ∈ t, f j = ((∑ j ∈ t, g j : ℝ) : EReal) := by
  classical
  induction t using Finset.induction_on with
  | empty => simp
  | insert a t ha ih =>
    rw [Finset.sum_insert ha, Finset.sum_insert ha, ih fun j hj => h j (Finset.mem_insert_of_mem hj), h a (Finset.mem_insert_self a t), EReal.coe_add]

/-- With a real maximum the normaliser is a positive real. -/
theorem den_pos {n : ℕ} (s : Fin n → EReal) (w : EReal) {M : ℝ} (hM : top s w = M) : ∃ d : ℝ, 0 < d ∧ den s w = d := by
  have hs : ∀ j, s j ≤ M := fun j => by
    rw [← hM]; exact le_max_of_le_left (by rw [fold_max_eq]; exact Finset.le_sup (Finset.mem_univ j))
  have hw : w ≤ M := by rw [← hM]; exact le_max_right _ _
  choose p hp0 hp hpb using fun j => exp_sub_real (hs j)
  obtain ⟨q, hq0, hq, hqb⟩ := exp_sub_real hw
  refine ⟨∑ j, p j + q, ?_, ?_⟩
  · have hnn : 0 ≤ ∑ j, p j := Finset.sum_nonneg fun j _ => hp0 j
    rcases (add_nonneg hnn hq0).lt_or_eq with h | h
    · exact h
    · exfalso
      have hq' : q = 0 := by linarith
      have hp' : ∑ j, p j = 0 := by linarith
      have hz := (Finset.sum_eq_zero_iff_of_nonneg fun j _ => hp0 j).1 hp'
      have hb : top s w = ⊥ := by
        unfold top
        rw [fold_max_eq, hqb hq', (Finset.sup_eq_bot_iff _ _).2 fun j hj => hpb j (hz j hj)]
        exact max_self _
      rw [hM] at hb
      exact EReal.coe_ne_bot M hb
  · unfold den
    rw [hM, sum_real Finset.univ _ p fun j _ => hp j, hq, EReal.coe_add]

/-- Dividing the weighted sum is dividing every weight, where the maximum is real. -/
theorem normalise {n : ℕ} (s v : Fin n → EReal) (w : EReal) {M : ℝ} (hM : top s w = M) :
    Ideal.div (∑ j, Ideal.exp (s j - top s w) * v j) (den s w) = ∑ j, Ideal.div (Ideal.exp (s j - top s w)) (den s w) * v j := by
  obtain ⟨d, hd, e⟩ := den_pos s w hM
  rw [e, Ideal.div_coe hd.ne', sum_mul_real _ _ (by positivity)]
  refine Finset.sum_congr rfl fun j _ => ?_
  rw [Ideal.div_coe hd.ne', mul_right_comm]

/-- Two sums are equal whose nonzero terms a relation matches one to one. -/
theorem sum_of_match {ι κ : Type*} [Fintype ι] [Fintype κ] (f : ι → EReal) (g : κ → EReal) (R : ι → κ → Prop)
    (inj : ∀ a a' b, R a b → R a' b → a = a') (uniq : ∀ a b b', R a b → R a b' → b = b')
    (hf : ∀ a, f a ≠ 0 → ∃ b, R a b) (hg : ∀ b, g b ≠ 0 → ∃ a, R a b) (h : ∀ a b, R a b → f a = g b) : ∑ a, f a = ∑ b, g b := by
  classical
  refine Finset.sum_bij_ne_zero (fun a _ ha => (hf a ha).choose) (fun _ _ _ => Finset.mem_univ _) ?_ ?_ ?_
  · intro a _ ha b _ hb e
    exact inj _ _ _ (hf a ha).choose_spec (e ▸ (hf b hb).choose_spec)
  · intro b _ hb
    obtain ⟨a, r⟩ := hg b hb
    have ha : f a ≠ 0 := by rw [h a b r]; exact hb
    exact ⟨a, Finset.mem_univ _, ha, uniq _ _ _ (hf a ha).choose_spec r⟩
  · exact fun a _ ha => h _ _ (hf a ha).choose_spec

theorem sum_two {n a b : ℕ} (h : n = a + b) (f : Fin n → EReal) :
    ∑ j, f j = ∑ j : Fin a, f ⟨j, by omega⟩ + ∑ j : Fin b, f ⟨a + j, by omega⟩ := by
  subst h; rw [Fin.sum_univ_add]; rfl

theorem sum_three {n a b : ℕ} (h : n = a + b + 1) (f : Fin n → EReal) :
    ∑ j, f j = ∑ j : Fin a, f ⟨j, by omega⟩ + ∑ j : Fin b, f ⟨a + j, by omega⟩ + f ⟨a + b, by omega⟩ := by
  subst h; rw [Fin.sum_univ_castSucc, Fin.sum_univ_add]; rfl

theorem sup_le_sup_of {ι κ : Type*} [Fintype ι] [Fintype κ] (f : ι → EReal) (g : κ → EReal) (h : ∀ a, f a = ⊥ ∨ ∃ b, f a ≤ g b) :
    Finset.univ.sup f ≤ Finset.univ.sup g := by
  refine Finset.sup_le fun a _ => ?_
  rcases h a with h | ⟨b, h⟩
  · rw [h]; exact bot_le
  · exact h.trans (Finset.le_sup (Finset.mem_univ b))

/-- THE ATTENTION ROW. `s`, `v`: the scores and values of the block's columns, 384 of the window and 256 of the context. `S`: all scores,
    16384 of the sequence, 256 of the context and the sink's. `V`, `VC`: the values. The columns of the window that are not masked
    are the rows of the sequence that are not masked, shifted by `lo`. -/
theorem attend_eq (s v : Fin 640 → EReal) (w : EReal) (S : Fin 16641 → EReal) (V : Fin 16384 → EReal) (VC : Fin 256 → EReal) (lo : ℕ)
    (hw : S ⟨16640, by omega⟩ = w) (hC : ∀ c : Fin 256, s ⟨384 + c, by omega⟩ = S ⟨16384 + c, by omega⟩)
    (hVC : ∀ c : Fin 256, v ⟨384 + c, by omega⟩ = VC c)
    (hA : ∀ j : Fin 16384, S ⟨j, by omega⟩ = ⊥ ∨ ∃ c : Fin 384, (c : ℕ) + lo = j + 128 ∧ s ⟨c, by omega⟩ = S ⟨j, by omega⟩ ∧ v ⟨c, by omega⟩ = V j)
    (hB : ∀ c : Fin 384, s ⟨c, by omega⟩ = ⊥ ∨ ∃ j : Fin 16384, (c : ℕ) + lo = j + 128 ∧ s ⟨c, by omega⟩ = S ⟨j, by omega⟩ ∧ v ⟨c, by omega⟩ = V j)
    (hbot : w ≠ ⊥) (htop : ∀ x, S x ≠ ⊤) :
    Ideal.div (∑ c, Ideal.exp (s c - top s w) * v c) (den s w)
      = ∑ j : Fin 16384, V j * Ideal.div (Ideal.exp (S ⟨j, by omega⟩ - Finset.univ.fold max ⊥ S)) (∑ x, Ideal.exp (S x - Finset.univ.fold max ⊥ S))
        + ∑ j : Fin 256, VC j * Ideal.div (Ideal.exp (S ⟨16384 + j, by omega⟩ - Finset.univ.fold max ⊥ S)) (∑ x, Ideal.exp (S x - Finset.univ.fold max ⊥ S)) := by
  -- the maxima agree
  have hM : top s w = Finset.univ.fold max ⊥ S := by
    unfold top
    rw [fold_max_eq, fold_max_eq]
    refine le_antisymm (max_le (sup_le_sup_of _ _ fun c => ?_) ?_) (Finset.sup_le fun x _ => ?_)
    · by_cases h : (c : ℕ) < 384
      · rcases hB ⟨c, h⟩ with h | ⟨j, -, h, -⟩
        · exact .inl h
        · exact .inr ⟨_, h.le⟩
      · have e : c = ⟨384 + (⟨c - 384, by omega⟩ : Fin 256).val, by simp; omega⟩ := Fin.ext (by simp; omega)
        exact .inr ⟨_, by rw [e, hC]⟩
    · rw [← hw]; exact Finset.le_sup (f := S) (Finset.mem_univ _)
    · by_cases h : (x : ℕ) < 16384
      · rcases hA ⟨x, h⟩ with h | ⟨c, -, h, -⟩
        · exact le_trans (le_of_eq h) bot_le
        · exact le_max_of_le_left (h.ge.trans (Finset.le_sup (f := s) (Finset.mem_univ _)))
      · by_cases h' : (x : ℕ) < 16640
        · have e : x = ⟨16384 + (⟨x - 16384, by omega⟩ : Fin 256).val, by simp; omega⟩ := Fin.ext (by simp; omega)
          rw [e, ← hC]; exact le_max_of_le_left (Finset.le_sup (f := s) (Finset.mem_univ _))
        · have e : x = ⟨16640, by omega⟩ := Fin.ext (by simp; omega)
          rw [e, hw]; exact le_max_right _ _
  -- the maximum is real
  obtain ⟨M, hr⟩ : ∃ M : ℝ, top s w = M := by
    refine ⟨(top s w).toReal, (EReal.coe_toReal ?_ ?_).symm⟩
    · rw [hM, fold_max_eq]
      exact ((Finset.sup_lt_iff bot_lt_top).2 fun x _ => lt_top_iff_ne_top.2 (htop x)).ne
    · exact (lt_of_lt_of_le (bot_lt_iff_ne_bot.2 hbot) (le_max_right _ _)).ne'
  -- a masked score weighs nothing
  have hz : ∀ x : EReal, x = ⊥ → Ideal.exp (x - top s w) = 0 := by
    rintro _ rfl; rw [hr]; simp
  -- sums over the window are sums over the sequence
  have hsum : ∀ f : EReal → EReal → EReal, (∀ x y, x = ⊥ → f x y = 0) →
      ∑ c : Fin 384, f (s ⟨c, by omega⟩) (v ⟨c, by omega⟩) = ∑ j : Fin 16384, f (S ⟨j, by omega⟩) (V j) := fun f hf =>
    sum_of_match _ _ (fun c j => (c : ℕ) + lo = j + 128 ∧ s ⟨c, by omega⟩ = S ⟨j, by omega⟩ ∧ v ⟨c, by omega⟩ = V j)
      (fun a a' b h h' => Fin.ext (by omega)) (fun a b b' h h' => Fin.ext (by omega))
      (fun c h => (hB c).resolve_left fun e => h (hf _ _ e)) (fun j h => (hA j).resolve_left fun e => h (hf _ _ e))
      fun c j h => by rw [h.2.1, h.2.2]
  have hD : den s w = ∑ x, Ideal.exp (S x - Finset.univ.fold max ⊥ S) := by
    unfold den
    rw [sum_two (a := 384) (b := 256) rfl, sum_three (a := 16384) (b := 256) rfl, hw, ← hM,
      hsum (fun x _ => Ideal.exp (x - top s w)) fun x _ h => hz x h]
    simp only [hC]
  rw [normalise s v w hr, sum_two (a := 384) (b := 256) rfl, ← hD, ← hM,
    hsum (fun x y => Ideal.div (Ideal.exp (x - top s w)) (den s w) * y) fun x y h => by
      obtain ⟨d, hd, e⟩ := den_pos s w hr
      rw [hz x h, e, Ideal.div_coe hd.ne', zero_mul, zero_mul]]
  simp only [hC, hVC, mul_comm]

end Cert.Softmax

end
-- ==== Proof.Words.lean ====
/- Signed 32-bit words that hold small whole numbers: differences, absolute values and comparisons. -/
module

public import Idealize.ShloMosaic.Lib.WordCmp
public import Idealize.ShloMosaic.Lib.Pipeline.ValueKit

@[expose] public section

namespace Cert.Words

open Idealize.ShloMosaic

/-- A difference that stays in range is the difference of the numbers. -/
theorem sub_toInt {x y : BitVec 32} {a b : ℤ} (hx : x.toInt = a) (hy : y.toInt = b) (lo : -2147483648 ≤ a - b) (hi : a - b < 2147483648) :
    (x - y).toInt = a - b := by
  rw [BitVec.toInt_sub, hx, hy]
  exact Int.bmod_eq_of_le (by omega) (by omega)

/-- The absolute value of a word that is not the least one. -/
theorem abs_toInt {x : BitVec 32} {a : ℤ} (hx : x.toInt = a) (lo : -2147483648 < a) (hi : a < 2147483648) : (IntOp.absi x).toInt = |a| := by
  unfold IntOp.absi
  rw [BitVec.msb_eq_toInt, hx]
  by_cases h : a < 0
  · rw [if_pos (by simpa using h), BitVec.toInt_neg, hx, abs_of_neg h]
    exact Int.bmod_eq_of_le (by omega) (by omega)
  · rw [if_neg (by simpa using h), hx, abs_of_nonneg (by omega)]

/-- A small number as a word. -/
theorem ofNat_toInt {a : ℕ} (h : a < 2147483648) : (BitVec.ofNat 32 a).toInt = a := WordCmp.toInt_ofNat_of_lt (by omega)

end Cert.Words
-- ==== Proof.Block.lean ====
/- One head of the window attention, as the kernel computes it for a block of 128 queries: read at an index. -/
module

public import proofs.«01_k».proof.Proof.Gen.KernelIdeal.Skeleton
public import proofs.«01_k».proof.Proof.Softmax
public import proofs.«01_k».proof.Proof.Words
public import Idealize.ShloMosaic.Lib.Pipeline.ValueKit

@[expose] public section

set_option maxRecDepth 16384

noncomputable section

namespace Cert.KernelIdeal.Attn

open Cert.KernelIdeal Cert.KernelIdeal.Gen Idealize.ShloMosaic

/-- A head's masked scores: queries against 640 key rows, a masked column at the bottom. -/
def scores (mask : IVec S128x640 1) (q : FVec Ideal S128x128 .bf16) (k : FVec Ideal S640x128 .bf16) : FVec Ideal S128x640 .f32 :=
  select mask (matmul dot_S128x128_S640x128_S128x640_1_1_0_0_n_n none q k (constant S128x640 .f32 0x00000000#32))
    (broadcast S128x640 (Named.named κ "mask" 0xF149F2CA#32))

/-- A head's row maxima, the sink's logit `w` among the entries. -/
def rowMax (s : FVec Ideal S128x640 .f32) (w : Ideal .f32) : FVec Ideal S128x1 .f32 :=
  maximumf (shapeCast S128x1 (multiReduction .maximumf [1] S128 s 0xFF800000#32 reduces_S128x640_S128 (.inl rfl) rfl) shapeCasts_S128_S128x1)
    (broadcast S128x1 w)

/-- A head's weights before normalisation. -/
def weights (s : FVec Ideal S128x640 .f32) (w : Ideal .f32) : FVec Ideal S128x640 .f32 :=
  exp (subf s (broadcastTo S128x640 (rowMax s w) broadcasts_S128x1_S128x640))

/-- A head's output from its scores `s`, its sink logit `w` and the value rows `v`. -/
def head (s : FVec Ideal S128x640 .f32) (w : Ideal .f32) (v : FVec Ideal S640x128 .bf16) : FVec Ideal S128x128 .f32 :=
  divf (matmul dot_S128x640_S640x128_S128x128_1_0_0_1_n_n none (truncf .bf16 (weights s w) bitsLt_bf16_f32) v (constant S128x128 .f32 0x00000000#32))
    (broadcastTo S128x128
      (addf (shapeCast S128x1 (multiReduction .add [1] S128 (weights s w) 0x00000000#32 reduces_S128x640_S128 (.inl rfl) rfl) shapeCasts_S128_S128x1)
        (exp (subf (broadcast S128x1 w) (rowMax s w))))
      broadcasts_S128x1_S128x128)

theorem ninf : Ideal.ofBits .f32 0xFF800000#32 = ⊥ := by simp [Ideal.ofBits, Ideal.ieee]

/-- The masked score: the named constant is the bottom. -/
theorem mask_value : (Named.named κ "mask" 0xF149F2CA#32 : Ideal .f32) = ⊥ := by
  simp [Named.named, κ]

theorem scores_at (mask : IVec S128x640 1) (q : FVec Ideal S128x128 .bf16) (k : FVec Ideal S640x128 .bf16) (i : S128x640.Idx) :
    scores mask q k i = if mask i = 1#1 then ∑ d : Fin 128, q (ix2 (i 0) d) * k (ix2 (i 1) d) else ⊥ := by
  have e : scores mask q k i = Scalar.select (mask i) (∑ d : Fin 128, q (ix2 (i 0) d) * k (ix2 (i 1) d)) (Named.named (F := Ideal) (φ := .f32) κ "mask" 0xF149F2CA#32) := by
    pointwise [scores]
  rw [e, mask_value]
  rfl

theorem rowMax_at (s : FVec Ideal S128x640 .f32) (w : Ideal .f32) (i : S128x1.Idx) :
    rowMax s w i = Softmax.top (fun c => s (ix2 (i 0) c)) w := by
  have e : rowMax s w i = max (Finset.fold max (Ideal.ofBits FTy.f32 0xFF800000#32) (fun x => s (ix2 (i 0) x)) Finset.univ) w := by
    pointwise [rowMax]
  rw [e, ninf]
  rfl

theorem head_at (s : FVec Ideal S128x640 .f32) (w : Ideal .f32) (v : FVec Ideal S640x128 .bf16) (i : S128x128.Idx) :
    head s w v i = Ideal.div (∑ c : Fin 640, Ideal.exp (s (ix2 (i 0) c) - Softmax.top (fun c => s (ix2 (i 0) c)) w) * v (ix2 c (i 1)))
      (Softmax.den (fun c => s (ix2 (i 0) c)) w) := by
  have e : head s w v i = Ideal.div (∑ x : Fin 640, Ideal.exp (s (ix2 (i 0) x) - rowMax s w (ix2 (i 0) 0)) * v (ix2 x (i 1)))
      (∑ x : Fin 640, Ideal.exp (s (ix2 (i 0) x) - rowMax s w (ix2 (i 0) 0)) + Ideal.exp (w - rowMax s w (ix2 (i 0) 0))) := by
    pointwise [head, weights]
  rw [e, rowMax_at]
  rfl

/-- Two heads that share a slice of 128 lanes: the even one reads the low 64 lanes of the queries and keeps the low 64 lanes of its result, the odd one the high ones. -/
def pair (mask : IVec S128x640 1) (q : FVec Ideal S128x128 .bf16) (k v : FVec Ideal S640x128 .bf16) (w0 w1 : Ideal .f32) : FVec Ideal S128x128 .f32 :=
  select k0_pay11
    (head (scores mask (select k0_pay11 q (broadcast S128x128 (Scalar.ofBits .bf16 0x0000#16))) k) w0 v)
    (head (scores mask (select (xori k0_pay11 (constantI S128x128 1 1#1)) q (broadcast S128x128 (Scalar.ofBits .bf16 0x0000#16))) k) w1 v)

/-- The score of query row `r` against key row `c` over the 64 lanes of half `a`. -/
def sc (mask : IVec S128x640 1) (q : FVec Ideal S128x128 .bf16) (k : FVec Ideal S640x128 .bf16) (a : Fin 2) (r : Fin 128) (c : Fin 640) : EReal :=
  if mask (ix2 r c) = 1#1 then ∑ d : Fin 64, q (ix2 r ⟨a * 64 + d, by omega⟩) * k (ix2 c ⟨a * 64 + d, by omega⟩) else ⊥

theorem low_half (f : Fin 128 → EReal) (h : ∀ d : Fin 128, ¬ (d : ℕ) < 64 → f d = 0) :
    ∑ d, f d = ∑ d : Fin 64, f ⟨d, by omega⟩ := by
  refine (Fin.sum_univ_add (a := 64) (b := 64) f).trans ?_
  rw [Finset.sum_eq_zero (s := Finset.univ) (f := fun i : Fin 64 => f (Fin.natAdd 64 i)), add_zero]
  · rfl
  · intro i _
    exact h _ (by simp)

theorem high_half (f : Fin 128 → EReal) (h : ∀ d : Fin 128, (d : ℕ) < 64 → f d = 0) :
    ∑ d, f d = ∑ d : Fin 64, f ⟨64 + d, by omega⟩ := by
  refine (Fin.sum_univ_add (a := 64) (b := 64) f).trans ?_
  rw [Finset.sum_eq_zero (s := Finset.univ) (f := fun i : Fin 64 => f (Fin.castAdd 64 i)), zero_add]
  · rfl
  · intro i _
    exact h _ (by simp)

theorem lane_at (i : S128x128.Idx) : k0_pay11 i = if (i 1 : ℕ) < 64 then 1#1 else 0#1 := by
  have e : k0_pay11 i = IntOp.cmpi .slt (BitVec.ofNat 32 (i 1)) 64#32 := by pointwise [k0_pay11]
  have b : (i 1 : ℕ) < 128 := (i 1).isLt
  rw [e, WordCmp.cmpi_slt_eq, Words.ofNat_toInt (by omega), show (64#32 : BitVec 32).toInt = 64 from rfl]
  by_cases c : (i 1 : ℕ) < 64
  · rw [if_pos c, decide_eq_true (by omega)]; rfl
  · rw [if_neg c, decide_eq_false (by omega)]; rfl

theorem zero16 : Ideal.ofBits .bf16 0x0000#16 = 0 := by simp [Ideal.ofBits, Ideal.ieee]

theorem evenQ_at (q : FVec Ideal S128x128 .bf16) (i : S128x128.Idx) :
    select k0_pay11 q (broadcast S128x128 (Scalar.ofBits .bf16 0x0000#16)) i = if (i 1 : ℕ) < 64 then q i else 0 := by
  have e : select k0_pay11 q (broadcast S128x128 (Scalar.ofBits .bf16 0x0000#16)) i = Scalar.select (k0_pay11 i) (q i) (Ideal.ofBits .bf16 0x0000#16) := rfl
  rw [e, zero16, lane_at]
  split <;> rfl

theorem oddQ_at (q : FVec Ideal S128x128 .bf16) (i : S128x128.Idx) :
    select (xori k0_pay11 (constantI S128x128 1 1#1)) q (broadcast S128x128 (Scalar.ofBits .bf16 0x0000#16)) i = if (i 1 : ℕ) < 64 then 0 else q i := by
  have e : select (xori k0_pay11 (constantI S128x128 1 1#1)) q (broadcast S128x128 (Scalar.ofBits .bf16 0x0000#16)) i
      = Scalar.select (IntOp.xori (k0_pay11 i) 1#1) (q i) (Ideal.ofBits .bf16 0x0000#16) := rfl
  rw [e, zero16, lane_at]
  split <;> rfl

theorem evenScores_at (mask : IVec S128x640 1) (q : FVec Ideal S128x128 .bf16) (k : FVec Ideal S640x128 .bf16) (i : S128x640.Idx) :
    scores mask (select k0_pay11 q (broadcast S128x128 (Scalar.ofBits .bf16 0x0000#16))) k i = sc mask q k 0 (i 0) (i 1) := by
  unfold sc
  rw [scores_at, low_half]
  · have e : i = ix2 (i 0) (i 1) := by ext a; match a with | 0 => rfl | 1 => rfl
    refine if_congr (iff_of_eq (congrArg (fun j => mask j = 1#1) e)) (Finset.sum_congr rfl fun d _ => ?_) rfl
    rw [evenQ_at, if_pos (by exact d.isLt)]
    congr 2 <;> (congr 1; apply Fin.ext; simp)
  · intro d h
    rw [evenQ_at, if_neg (by exact h), zero_mul]

theorem oddScores_at (mask : IVec S128x640 1) (q : FVec Ideal S128x128 .bf16) (k : FVec Ideal S640x128 .bf16) (i : S128x640.Idx) :
    scores mask (select (xori k0_pay11 (constantI S128x128 1 1#1)) q (broadcast S128x128 (Scalar.ofBits .bf16 0x0000#16))) k i = sc mask q k 1 (i 0) (i 1) := by
  unfold sc
  rw [scores_at, high_half]
  · have e : i = ix2 (i 0) (i 1) := by ext a; match a with | 0 => rfl | 1 => rfl
    refine if_congr (iff_of_eq (congrArg (fun j => mask j = 1#1) e)) (Finset.sum_congr rfl fun d _ => ?_) rfl
    rw [oddQ_at, if_neg (by show ¬ 64 + (d : ℕ) < 64; omega)]
    congr 2 <;> (congr 1; apply Fin.ext; simp)
  · intro d h
    rw [oddQ_at, if_pos (by exact h), zero_mul]

/-- An entry of the pair: the normalised sum of one head, the half named by the lane. -/
theorem pair_at (mask : IVec S128x640 1) (q : FVec Ideal S128x128 .bf16) (k v : FVec Ideal S640x128 .bf16) (w0 w1 : Ideal .f32) (i : S128x128.Idx)
    (a : Fin 2) (ha : (a : ℕ) = (i 1 : ℕ) / 64) (w : Ideal .f32) (hw : w = if (a : ℕ) = 0 then w0 else w1) :
    pair mask q k v w0 w1 i = Ideal.div (∑ c : Fin 640, Ideal.exp (sc mask q k a (i 0) c - Softmax.top (sc mask q k a (i 0)) w) * v (ix2 c (i 1)))
      (Softmax.den (sc mask q k a (i 0)) w) := by
  have b : (i 1 : ℕ) < 128 := (i 1).isLt
  have e : pair mask q k v w0 w1 i = Scalar.select (k0_pay11 i)
    (head (scores mask (select k0_pay11 q (broadcast S128x128 (Scalar.ofBits .bf16 0x0000#16))) k) w0 v i)
    (head (scores mask (select (xori k0_pay11 (constantI S128x128 1 1#1)) q (broadcast S128x128 (Scalar.ofBits .bf16 0x0000#16))) k) w1 v i) := rfl
  rw [e, lane_at]
  by_cases c : (i 1 : ℕ) < 64
  · have a0 : a = 0 := Fin.ext (by show (a : ℕ) = 0; omega)
    rw [if_pos c, show ∀ x y : Ideal .f32, Scalar.select 1#1 x y = x from fun _ _ => rfl, head_at]
    simp only [evenScores_at]
    rw [hw, a0]
    rfl
  · have a0 : a = 1 := Fin.ext (by show (a : ℕ) = 1; omega)
    rw [if_neg c, show ∀ x y : Ideal .f32, Scalar.select 0#1 x y = y from fun _ _ => rfl, head_at]
    simp only [oddScores_at]
    rw [hw, a0]
    rfl

end Cert.KernelIdeal.Attn

end
-- ==== Proof.Attn.lean ====
/- The window attention's result array, read at an index from the blocks that a grid point reads. -/
module

public import proofs.«01_k».proof.Proof.Block
public import proofs.«01_k».proof.Proof.Gen.KernelIdeal.Value

@[expose] public section

set_option maxRecDepth 16384

noncomputable section

namespace Cert.KernelIdeal.Attn

open Cert.KernelIdeal Cert.KernelIdeal.Gen Idealize.ShloMosaic Idealize.SL.Sem Idealize.ShloMosaic.Pipeline

/-- The 640 rows of a key-value head: three blocks of the sequence, then the context; the first head's lanes. -/
def rows0 (p c n : Vec Ideal S1x128x256 .bf16) (x : Vec Ideal S1x256x256 .bf16) : FVec Ideal S640x128 .bf16 :=
  k0_pay2 (View.ld p (Rect.unit (s := S1x128x256) ![0, 0, 0] S1x128x128.size inb_S1x128x256_S1x128x128_0_0_0))
    (View.ld c (Rect.unit (s := S1x128x256) ![0, 0, 0] S1x128x128.size inb_S1x128x256_S1x128x128_0_0_0))
    (View.ld n (Rect.unit (s := S1x128x256) ![0, 0, 0] S1x128x128.size inb_S1x128x256_S1x128x128_0_0_0))
    (View.ld x (Rect.unit (s := S1x256x256) ![0, 0, 0] S1x256x128.size inb_S1x256x256_S1x256x128_0_0_0))

/-- The same of the second head's lanes. -/
def rows1 (p c n : Vec Ideal S1x128x256 .bf16) (x : Vec Ideal S1x256x256 .bf16) : FVec Ideal S640x128 .bf16 :=
  k0_pay2 (View.ld p (Rect.unit (s := S1x128x256) ![0, 0, 128] S1x128x128.size inb_S1x128x256_S1x128x128_0_0_128))
    (View.ld c (Rect.unit (s := S1x128x256) ![0, 0, 128] S1x128x128.size inb_S1x128x256_S1x128x128_0_0_128))
    (View.ld n (Rect.unit (s := S1x128x256) ![0, 0, 128] S1x128x128.size inb_S1x128x256_S1x128x128_0_0_128))
    (View.ld x (Rect.unit (s := S1x256x256) ![0, 0, 128] S1x256x128.size inb_S1x256x256_S1x256x128_0_0_128))

/-- Row `r`, lane `l` of the 640 rows that three blocks and the context make. -/
def rowsAt (p c n : Vec Ideal S1x128x256 .bf16) (x : Vec Ideal S1x256x256 .bf16) (r : Fin 640) (l : Fin 256) : EReal :=
  if h : (r : ℕ) < 128 then p (ix3 0 ⟨r, h⟩ l) else if h : (r : ℕ) - 128 < 128 then c (ix3 0 ⟨(r : ℕ) - 128, h⟩ l)
    else if h : (r : ℕ) - 128 - 128 < 128 then n (ix3 0 ⟨(r : ℕ) - 128 - 128, h⟩ l) else x (ix3 0 ⟨(r : ℕ) - 128 - 128 - 128, by omega⟩ l)

theorem rows0_at (p c n : Vec Ideal S1x128x256 .bf16) (x : Vec Ideal S1x256x256 .bf16) (r : Fin 640) (l : Fin 128) :
    rows0 p c n x (ix2 r l) = rowsAt p c n x r ⟨128 * 0 + l, by omega⟩ := by
  pointwise [rows0, k0_pay2, rowsAt]

theorem rows1_at (p c n : Vec Ideal S1x128x256 .bf16) (x : Vec Ideal S1x256x256 .bf16) (r : Fin 640) (l : Fin 128) :
    rows1 p c n x (ix2 r l) = rowsAt p c n x r ⟨128 * 1 + l, by omega⟩ := by
  pointwise [rows1, k0_pay2, rowsAt]

theorem q0_at (q : Vec Ideal S1x128x512 .bf16) (r l : Fin 128) : k0_pay12 q (ix2 r l) = q (ix3 0 r ⟨128 * 0 + l, by omega⟩) := by
  pointwise [k0_pay12, k0_pay10]

theorem q1_at (q : Vec Ideal S1x128x512 .bf16) (r l : Fin 128) : k0_pay18 (k0_pay10 q) (ix2 r l) = q (ix3 0 r ⟨128 * 1 + l, by omega⟩) := by
  pointwise [k0_pay18, k0_pay10]

theorem q2_at (q : Vec Ideal S1x128x512 .bf16) (r l : Fin 128) : k0_pay23 (k0_pay10 q) (ix2 r l) = q (ix3 0 r ⟨128 * 2 + l, by omega⟩) := by
  pointwise [k0_pay23, k0_pay10]

theorem q3_at (q : Vec Ideal S1x128x512 .bf16) (r l : Fin 128) : k0_pay27 (k0_pay10 q) (ix2 r l) = q (ix3 0 r ⟨128 * 3 + l, by omega⟩) := by
  pointwise [k0_pay27, k0_pay10]

/-- The score of head `h`'s query row `r` against row `c` of the 640 rows. -/
def sco (mask : IVec S128x640 1) (q : Vec Ideal S1x128x512 .bf16) (K : Fin 640 → Fin 256 → EReal) (h : Fin 8) (r : Fin 128) (c : Fin 640) : EReal :=
  if mask (ix2 r c) = 1#1 then ∑ d : Fin 64, q (ix3 0 r ⟨(h : ℕ) * 64 + d, by omega⟩) * K c ⟨(h : ℕ) / 4 * 128 + ((h : ℕ) % 2 * 64 + d), by omega⟩ else ⊥

/-- The result of head `h` for query row `r` at its lane `d`. -/
def outAt (mask : IVec S128x640 1) (q : Vec Ideal S1x128x512 .bf16) (K V : Fin 640 → Fin 256 → EReal) (s : Vec Ideal S8 .f32) (h : Fin 8) (r : Fin 128) (d : Fin 64) : EReal :=
  Ideal.div (∑ c : Fin 640, Ideal.exp (sco mask q K h r c - Softmax.top (sco mask q K h r) (s (ix1 h))) * V c ⟨(h : ℕ) / 4 * 128 + ((h : ℕ) % 2 * 64 + d), by omega⟩)
    (Softmax.den (sco mask q K h r) (s (ix1 h)))

theorem sc_eq (mask : IVec S128x640 1) (q : Vec Ideal S1x128x512 .bf16) (K : Fin 640 → Fin 256 → EReal) (j : Fin 4)
    (qs : FVec Ideal S128x128 .bf16) (k : FVec Ideal S640x128 .bf16)
    (hq : ∀ r l : Fin 128, qs (ix2 r l) = q (ix3 0 r ⟨128 * (j : ℕ) + l, by omega⟩))
    (hk : ∀ (r : Fin 640) (l : Fin 128), k (ix2 r l) = K r ⟨128 * ((j : ℕ) / 2) + l, by omega⟩)
    (a : Fin 2) (h : Fin 8) (hh : (h : ℕ) = 2 * j + a) (r : Fin 128) : sc mask qs k a r = sco mask q K h r := by
  funext c
  unfold sc sco
  refine if_congr Iff.rfl (Finset.sum_congr rfl fun d _ => ?_) rfl
  rw [hq, hk]
  have e1 : 128 * (j : ℕ) + ((a : ℕ) * 64 + d) = (h : ℕ) * 64 + d := by omega
  have e2 : 128 * ((j : ℕ) / 2) + ((a : ℕ) * 64 + d) = (h : ℕ) / 4 * 128 + ((h : ℕ) % 2 * 64 + d) := by omega
  simp only [e1, e2]

/-- A pair's entry is the entry of the head and lane that its place in the result names. -/
theorem pair_out (mask : IVec S128x640 1) (q : Vec Ideal S1x128x512 .bf16) (K V : Fin 640 → Fin 256 → EReal) (s : Vec Ideal S8 .f32) (j : Fin 4)
    (qs : FVec Ideal S128x128 .bf16) (k v : FVec Ideal S640x128 .bf16) (w0 w1 : Ideal .f32)
    (hq : ∀ r l : Fin 128, qs (ix2 r l) = q (ix3 0 r ⟨128 * (j : ℕ) + l, by omega⟩))
    (hk : ∀ (r : Fin 640) (l : Fin 128), k (ix2 r l) = K r ⟨128 * ((j : ℕ) / 2) + l, by omega⟩)
    (hv : ∀ (r : Fin 640) (l : Fin 128), v (ix2 r l) = V r ⟨128 * ((j : ℕ) / 2) + l, by omega⟩)
    (h0 : w0 = s (ix1 ⟨2 * (j : ℕ), by omega⟩)) (h1 : w1 = s (ix1 ⟨2 * (j : ℕ) + 1, by omega⟩))
    (r l : Fin 128) (h : Fin 8) (d : Fin 64) (e : 128 * (j : ℕ) + l = (h : ℕ) * 64 + d) :
    pair mask qs k v w0 w1 (ix2 r l) = outAt mask q K V s h r d := by
  have ha : (l : ℕ) / 64 < 2 := by omega
  have hs : s (ix1 h) = if (l : ℕ) / 64 = 0 then w0 else w1 := by
    by_cases c : (l : ℕ) / 64 = 0
    · rw [if_pos c, h0]
      exact congrArg (fun z => s (ix1 z)) (Fin.ext (by show (h : ℕ) = 2 * (j : ℕ); omega))
    · rw [if_neg c, h1]
      exact congrArg (fun z => s (ix1 z)) (Fin.ext (by show (h : ℕ) = 2 * (j : ℕ) + 1; omega))
  refine (pair_at mask qs k v w0 w1 (ix2 r l) ⟨(l : ℕ) / 64, ha⟩ rfl (s (ix1 h)) hs).trans ?_
  rw [show (ix2 r l : S128x128.Idx) 0 = r from rfl, show (ix2 r l : S128x128.Idx) 1 = l from rfl,
    sc_eq mask q K j qs k hq hk ⟨(l : ℕ) / 64, ha⟩ h (by show (h : ℕ) = 2 * j + (l : ℕ) / 64; omega) r]
  unfold outAt
  refine congrArg₂ Ideal.div (Finset.sum_congr rfl fun c _ => congrArg _ ?_) rfl
  rw [hv]
  exact congrArg (V c) (Fin.ext (by show 128 * ((j : ℕ) / 2) + (l : ℕ) = (h : ℕ) / 4 * 128 + ((h : ℕ) % 2 * 64 + d); omega))

variable (m : (ℓ : Loc nD τ sig) → Buf (Elt Ideal) ℓ)

/-- The mask of a grid point. -/
abbrev maskOf (t : Fin cfg0.N) : IVec S128x640 1 := k0_pay9 (BitVec.ofNat 32 (grid0.coords t 1).val)

/-- The keys and the values at a grid point. -/
abbrev keysAt (c : Dev nD) (t : Fin cfg0.N) := rowsAt (iblk m c 2 t) (iblk m c 3 t) (iblk m c 4 t) (iblk m c 8 t)
abbrev valsAt (c : Dev nD) (t : Fin cfg0.N) := rowsAt (iblk m c 5 t) (iblk m c 6 t) (iblk m c 7 t) (iblk m c 9 t)

/-- A load of one sink's logit. -/
theorem sink_at (s : Vec Ideal S8 .f32) (h : Fin 8) (b : ∀ a, (![(h : ℕ)] : Fin 1 → ℕ) a + S1.size a ≤ S8.size a) :
    View.ld s (Rect.unit (s := S8) ![(h : ℕ)] S1.size b) (Shape.Idx.first (show 0 < S1.numel by decide)) = s (ix1 h) := by
  refine congrArg s ?_
  funext a
  match a with
  | 0 => exact Fin.ext (by show (h : ℕ) + 1 * 0 = h; omega)

set_option maxRecDepth 65536 in
set_option maxHeartbeats 2000000 in
/-- The block that a grid point writes, at an index. -/
theorem out_at (c : Dev nD) (t : Fin cfg0.N) (y : S1x128x512.Idx) (h : Fin 8) (d : Fin 64) (e : (y 2 : ℕ) = (h : ℕ) * 64 + d) :
    outsAt0 m c t y = outAt (maskOf t) (iblk m c 1 t) (keysAt m c t) (valsAt m c t) (iblk m c 0 t) h (y 1) d := by
  unfold outsAt0 out0_A_10
  frame_out
  rw [(hs0_2 t).read_unread (iblk m c 2 t)]
  rw [(hs0_3 t).read_unread (iblk m c 3 t)]
  rw [(hs0_4 t).read_unread (iblk m c 4 t)]
  rw [(hs0_5 t).read_unread (iblk m c 5 t)]
  rw [(hs0_6 t).read_unread (iblk m c 6 t)]
  rw [(hs0_7 t).read_unread (iblk m c 7 t)]
  rw [(hs0_8 t).read_unread (iblk m c 8 t)]
  rw [(hs0_9 t).read_unread (iblk m c 9 t)]
  canon_tiles x hx
  case piece0 =>
    refine Eq.trans (b := k0_pay1 (F := Ideal) (truncf .bf16 (pair (maskOf t) (k0_pay27 (k0_pay10 (iblk m c 1 t))) (rows1 (iblk m c 2 t) (iblk m c 3 t) (iblk m c 4 t) (iblk m c 8 t)) (rows1 (iblk m c 5 t) (iblk m c 6 t) (iblk m c 7 t) (iblk m c 9 t))
        (View.ld (iblk m c 0 t) (Rect.unit (s := S8) ![6] S1.size inb_S8_S1_6) (Shape.Idx.first (show 0 < S1.numel by decide)))
        (View.ld (iblk m c 0 t) (Rect.unit (s := S8) ![7] S1.size inb_S8_S1_7) (Shape.Idx.first (show 0 < S1.numel by decide)))) bitsLt_bf16_f32) x) (by rfl) ?_
    refine Eq.trans (b := pair (maskOf t) (k0_pay27 (k0_pay10 (iblk m c 1 t))) (rows1 (iblk m c 2 t) (iblk m c 3 t) (iblk m c 4 t) (iblk m c 8 t)) (rows1 (iblk m c 5 t) (iblk m c 6 t) (iblk m c 7 t) (iblk m c 9 t))
        (View.ld (iblk m c 0 t) (Rect.unit (s := S8) ![6] S1.size inb_S8_S1_6) (Shape.Idx.first (show 0 < S1.numel by decide)))
        (View.ld (iblk m c 0 t) (Rect.unit (s := S8) ![7] S1.size inb_S8_S1_7) (Shape.Idx.first (show 0 < S1.numel by decide))) (ix2 (x 1) (x 2))) (by pointwise [k0_pay1]) ?_
    rw [show y 1 = x 1 from Fin.ext hx1]
    exact pair_out _ _ (keysAt m c t) (valsAt m c t) (iblk m c 0 t) 3 _ _ _ _ _ (q3_at _) (rows1_at _ _ _ _) (rows1_at _ _ _ _)
      (sink_at _ 6 _) (sink_at _ 7 _) (x 1) (x 2) h d (hx2.symm.trans e)
  case piece1 =>
    refine Eq.trans (b := k0_pay33 (F := Ideal) (pair (maskOf t) (k0_pay23 (k0_pay10 (iblk m c 1 t))) (rows1 (iblk m c 2 t) (iblk m c 3 t) (iblk m c 4 t) (iblk m c 8 t)) (rows1 (iblk m c 5 t) (iblk m c 6 t) (iblk m c 7 t) (iblk m c 9 t))
        (View.ld (iblk m c 0 t) (Rect.unit (s := S8) ![4] S1.size inb_S8_S1_4) (Shape.Idx.first (show 0 < S1.numel by decide)))
        (View.ld (iblk m c 0 t) (Rect.unit (s := S8) ![5] S1.size inb_S8_S1_5) (Shape.Idx.first (show 0 < S1.numel by decide)))) x) (by rfl) ?_
    refine Eq.trans (b := pair (maskOf t) (k0_pay23 (k0_pay10 (iblk m c 1 t))) (rows1 (iblk m c 2 t) (iblk m c 3 t) (iblk m c 4 t) (iblk m c 8 t)) (rows1 (iblk m c 5 t) (iblk m c 6 t) (iblk m c 7 t) (iblk m c 9 t))
        (View.ld (iblk m c 0 t) (Rect.unit (s := S8) ![4] S1.size inb_S8_S1_4) (Shape.Idx.first (show 0 < S1.numel by decide)))
        (View.ld (iblk m c 0 t) (Rect.unit (s := S8) ![5] S1.size inb_S8_S1_5) (Shape.Idx.first (show 0 < S1.numel by decide))) (ix2 (x 1) (x 2))) (by pointwise [k0_pay33]) ?_
    rw [show y 1 = x 1 from Fin.ext hx1]
    exact pair_out _ _ (keysAt m c t) (valsAt m c t) (iblk m c 0 t) 2 _ _ _ _ _ (q2_at _) (rows1_at _ _ _ _) (rows1_at _ _ _ _)
      (sink_at _ 4 _) (sink_at _ 5 _) (x 1) (x 2) h d (hx2.symm.trans e)
  case piece2 =>
    refine Eq.trans (b := k0_pay32 (F := Ideal) (pair (maskOf t) (k0_pay18 (k0_pay10 (iblk m c 1 t))) (rows0 (iblk m c 2 t) (iblk m c 3 t) (iblk m c 4 t) (iblk m c 8 t)) (rows0 (iblk m c 5 t) (iblk m c 6 t) (iblk m c 7 t) (iblk m c 9 t))
        (View.ld (iblk m c 0 t) (Rect.unit (s := S8) ![2] S1.size inb_S8_S1_2) (Shape.Idx.first (show 0 < S1.numel by decide)))
        (View.ld (iblk m c 0 t) (Rect.unit (s := S8) ![3] S1.size inb_S8_S1_3) (Shape.Idx.first (show 0 < S1.numel by decide)))) x) (by rfl) ?_
    refine Eq.trans (b := pair (maskOf t) (k0_pay18 (k0_pay10 (iblk m c 1 t))) (rows0 (iblk m c 2 t) (iblk m c 3 t) (iblk m c 4 t) (iblk m c 8 t)) (rows0 (iblk m c 5 t) (iblk m c 6 t) (iblk m c 7 t) (iblk m c 9 t))
        (View.ld (iblk m c 0 t) (Rect.unit (s := S8) ![2] S1.size inb_S8_S1_2) (Shape.Idx.first (show 0 < S1.numel by decide)))
        (View.ld (iblk m c 0 t) (Rect.unit (s := S8) ![3] S1.size inb_S8_S1_3) (Shape.Idx.first (show 0 < S1.numel by decide))) (ix2 (x 1) (x 2))) (by pointwise [k0_pay32]) ?_
    rw [show y 1 = x 1 from Fin.ext hx1]
    exact pair_out _ _ (keysAt m c t) (valsAt m c t) (iblk m c 0 t) 1 _ _ _ _ _ (q1_at _) (rows0_at _ _ _ _) (rows0_at _ _ _ _)
      (sink_at _ 2 _) (sink_at _ 3 _) (x 1) (x 2) h d (hx2.symm.trans e)
  case piece3 =>
    refine Eq.trans (b := k0_pay31 (F := Ideal) (pair (maskOf t) (k0_pay12 (iblk m c 1 t)) (rows0 (iblk m c 2 t) (iblk m c 3 t) (iblk m c 4 t) (iblk m c 8 t)) (rows0 (iblk m c 5 t) (iblk m c 6 t) (iblk m c 7 t) (iblk m c 9 t))
        (View.ld (iblk m c 0 t) (Rect.unit (s := S8) ![0] S1.size inb_S8_S1_0) (Shape.Idx.first (show 0 < S1.numel by decide)))
        (View.ld (iblk m c 0 t) (Rect.unit (s := S8) ![1] S1.size inb_S8_S1_1) (Shape.Idx.first (show 0 < S1.numel by decide)))) x) (by rfl) ?_
    refine Eq.trans (b := pair (maskOf t) (k0_pay12 (iblk m c 1 t)) (rows0 (iblk m c 2 t) (iblk m c 3 t) (iblk m c 4 t) (iblk m c 8 t)) (rows0 (iblk m c 5 t) (iblk m c 6 t) (iblk m c 7 t) (iblk m c 9 t))
        (View.ld (iblk m c 0 t) (Rect.unit (s := S8) ![0] S1.size inb_S8_S1_0) (Shape.Idx.first (show 0 < S1.numel by decide)))
        (View.ld (iblk m c 0 t) (Rect.unit (s := S8) ![1] S1.size inb_S8_S1_1) (Shape.Idx.first (show 0 < S1.numel by decide))) (ix2 (x 1) (x 2))) (by pointwise [k0_pay31]) ?_
    rw [show y 1 = x 1 from Fin.ext hx1]
    exact pair_out _ _ (keysAt m c t) (valsAt m c t) (iblk m c 0 t) 0 _ _ _ _ _ (q0_at _) (rows0_at _ _ _ _) (rows0_at _ _ _ _)
      (sink_at _ 0 _) (sink_at _ 1 _) (x 1) (x 2) h d (by show 128 * 0 + (x 2 : ℕ) = _; omega)

end Cert.KernelIdeal.Attn

end
-- ==== Proof.Ref.lean ====
/- The reference's result, layer by layer, each read at an index. -/
module

public import proofs.«01_k».proof.Proof.Words
public import proofs.«01_k».proof.Proof.Gen.ReferenceIdeal.Run
public import Idealize.ShloMosaic.Lib.Pipeline.ValueKit

@[expose] public section

set_option maxRecDepth 16384

noncomputable section

namespace Cert.ReferenceIdeal.Attn

open Cert.ReferenceIdeal Cert.ReferenceIdeal.Gen Idealize.ShloMosaic Idealize.ShloMosaic.TcCoe

/-- The queries by head. -/
def queries (x : FVec Ideal S2x16384x512 .bf16) : FVec Ideal S2x16384x8x64 .f32 :=
  shapeCast _ (extf .f32 x bitsLt_bf16_f32) shapeCasts_S2x16384x512_S2x16384x8x64

/-- The rows of the sequence that each query head reads. -/
def perHead (x : FVec Ideal S2x16384x256 .bf16) : FVec Ideal S2x16384x8x64 .f32 :=
  shapeCast _ (broadcastInDim S2x16384x2x2x128 ![0, 1, 2, 3, 4] bcast_S2x16384x2x1x128_S2x16384x2x2x128_0_1_2_3_4
    (shapeCast S2x16384x2x1x128 (extf .f32 x bitsLt_bf16_f32) shapeCasts_S2x16384x256_S2x16384x2x1x128)) shapeCasts_S2x16384x2x2x128_S2x16384x8x64

/-- The context rows that each query head reads. -/
def perHeadC (x : FVec Ideal S2x256x256 .bf16) : FVec Ideal S2x256x8x64 .f32 :=
  shapeCast _ (broadcastInDim S2x256x2x2x128 ![0, 1, 2, 3, 4] bcast_S2x256x2x1x128_S2x256x2x2x128_0_1_2_3_4
    (shapeCast S2x256x2x1x128 (extf .f32 x bitsLt_bf16_f32) shapeCasts_S2x256x256_S2x256x2x1x128)) shapeCasts_S2x256x2x2x128_S2x256x8x64

/-- The band: key position within 128 of the query position. -/
def band : IVec S16384x16384 1 :=
  cmpi .sle (absi (subi (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0)))))
    (broadcastInDim S16384x16384 ![] bcast_S_S16384x16384 (constantI S_ 32 128#32))

/-- The banded scores of the queries against the sequence. -/
def local_ (q k : FVec Ideal S2x16384x8x64 .f32) : FVec Ideal S2x8x16384x16384 .f32 :=
  select (broadcastInDim S2x8x16384x16384 ![2, 3] bcast_S16384x16384_S2x8x16384x16384_2_3 band)
    (Host.dotGeneral dot_S2x16384x8x64_S2x16384x8x64_S2x8x16384x16384_3_3_1_1_02_02 none q k)
    (broadcastInDim S2x8x16384x16384 ![] bcast_S_S2x8x16384x16384 (id (constant S_ .f32 0xFF800000#32)))

/-- The scores of the queries against the context. -/
def ctx (q : FVec Ideal S2x16384x8x64 .f32) (k : FVec Ideal S2x256x8x64 .f32) : FVec Ideal S2x8x16384x256 .f32 :=
  Host.dotGeneral dot_S2x16384x8x64_S2x256x8x64_S2x8x16384x256_3_3_1_1_02_02 none q k

/-- The sink logits as a column of scores. -/
def sinks (x : FVec Ideal S8 .f32) : FVec Ideal S2x8x16384x1 .f32 :=
  broadcastInDim S2x8x16384x1 ![0, 1, 2, 3] bcast_S1x8x1x1_S2x8x16384x1_0_1_2_3 (shapeCast S1x8x1x1 x shapeCasts_S8_S1x8x1x1)

/-- All scores of a query: the sequence, the context, the sink. -/
def scores (l : FVec Ideal S2x8x16384x16384 .f32) (k : FVec Ideal S2x8x16384x256 .f32) (s : FVec Ideal S2x8x16384x1 .f32) : FVec Ideal S2x8x16384x16641 .f32 :=
  concatenate S2x8x16384x16641 3 [⟨S2x8x16384x16384, l⟩, ⟨S2x8x16384x256, k⟩, ⟨S2x8x16384x1, s⟩] concatenates_S2x8x16384x16384_S2x8x16384x256_S2x8x16384x1_S2x8x16384x16641_d3

/-- The row maxima of the scores. -/
def rowMax (s : FVec Ideal S2x8x16384x16641 .f32) : FVec Ideal S2x8x16384 .f32 :=
  maximumf (broadcastInDim S2x8x16384 ![] bcast_S_S2x8x16384 (constant S_ .f32 0xFF800000#32))
    (Host.reduce FloatOps.maximumf s (constant S_ .f32 0xFF800000#32) reducesTo_S2x8x16384x16641_S2x8x16384_d3 h_S_)

/-- The exponentials of the scores less their row's maximum. -/
def expo (s : FVec Ideal S2x8x16384x16641 .f32) : FVec Ideal S2x8x16384x16641 .f32 :=
  Host.exp (subf s (broadcastInDim S2x8x16384x16641 ![0, 1, 2, 3] bcast_S2x8x16384x1_S2x8x16384x16641_0_1_2_3
    (broadcastInDim S2x8x16384x1 ![0, 1, 2] bcast_S2x8x16384_S2x8x16384x1_0_1_2 (rowMax s))))

/-- The row sums of the exponentials. -/
def rowSum (e : FVec Ideal S2x8x16384x16641 .f32) : FVec Ideal S2x8x16384 .f32 :=
  Host.reduceAdd e (constant S_ .f32 0x00000000#32) reducesTo_S2x8x16384x16641_S2x8x16384_d3 h_S_

/-- The attention weights. -/
def probs (s : FVec Ideal S2x8x16384x16641 .f32) : FVec Ideal S2x8x16384x16641 .f32 :=
  Host.divf (expo s) (broadcastInDim S2x8x16384x16641 ![0, 1, 2, 3] bcast_S2x8x16384x1_S2x8x16384x16641_0_1_2_3
    (broadcastInDim S2x8x16384x1 ![0, 1, 2] bcast_S2x8x16384_S2x8x16384x1_0_1_2 (rowSum (expo s))))

/-- The weights applied to the values of the sequence and of the context. -/
def mix (p : FVec Ideal S2x8x16384x16641 .f32) (v : FVec Ideal S2x16384x8x64 .f32) (w : FVec Ideal S2x256x8x64 .f32) : FVec Ideal S2x16384x512 .bf16 :=
  truncf .bf16 (shapeCast _ (addf
    (transpose S2x16384x8x64 [0, 3, 1, 2] (Host.dotGeneral dot_S2x16384x8x64_S2x8x16384x16384_S2x8x64x16384_1_3_3_2_02_01 none v
      (extractStridedSlice S2x8x16384x16384 ![0, 0, 0, 0] p slices_S2x8x16384x16641_S2x8x16384x16384_0_0_0_0)) transposes_S2x8x64x16384_S2x16384x8x64_0_3_1_2)
    (transpose S2x16384x8x64 [0, 3, 1, 2] (Host.dotGeneral dot_S2x256x8x64_S2x8x16384x256_S2x8x64x16384_1_3_3_2_02_01 none w
      (extractStridedSlice S2x8x16384x256 ![0, 0, 0, 16384] p slices_S2x8x16384x16641_S2x8x16384x256_0_0_0_16384)) transposes_S2x8x64x16384_S2x16384x8x64_0_3_1_2))
    shapeCasts_S2x16384x8x64_S2x16384x512) bitsLt_bf16_f32

/-- The scores from the arguments. -/
def scoresOf (q : FVec Ideal S2x16384x512 .bf16) (k : FVec Ideal S2x16384x256 .bf16) (kc : FVec Ideal S2x256x256 .bf16) (s : FVec Ideal S8 .f32) :
    FVec Ideal S2x8x16384x16641 .f32 :=
  scores (local_ (queries q) (perHead k)) (ctx (queries q) (perHeadC kc)) (sinks s)

/-- The reference's result from its arguments. -/
def result (q : FVec Ideal S2x16384x512 .bf16) (k v : FVec Ideal S2x16384x256 .bf16) (kc vc : FVec Ideal S2x256x256 .bf16) (s : FVec Ideal S8 .f32) :
    FVec Ideal S2x16384x512 .bf16 :=
  mix (probs (scoresOf q k kc s)) (perHead v) (perHeadC vc)

theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

theorem queries_at (x : FVec Ideal S2x16384x512 .bf16) (i : S2x16384x8x64.Idx) :
    queries x i = x (ix3 (i 0) (i 1) ⟨(i 2 : ℕ) * 64 + i 3, by idx_bounds; omega⟩) := by
  pointwise [queries]

theorem perHead_at (x : FVec Ideal S2x16384x256 .bf16) (i : S2x16384x8x64.Idx) :
    perHead x i = x (ix3 (i 0) (i 1) ⟨(i 2 : ℕ) / 4 * 128 + ((i 2 : ℕ) % 2 * 64 + i 3), by idx_bounds; omega⟩) := by
  pointwise [perHead]

theorem perHeadC_at (x : FVec Ideal S2x256x256 .bf16) (i : S2x256x8x64.Idx) :
    perHeadC x i = x (ix3 (i 0) (i 1) ⟨(i 2 : ℕ) / 4 * 128 + ((i 2 : ℕ) % 2 * 64 + i 3), by idx_bounds; omega⟩) := by
  pointwise [perHeadC]

theorem ninf : Ideal.ofBits .f32 0xFF800000#32 = ⊥ := by simp [Ideal.ofBits, Ideal.ieee]

theorem inBand_iff (a b : ℕ) (ha : a < 16384) (hb : b < 16384) :
    IntOp.cmpi .sle (IntOp.absi (IntOp.subi (BitVec.ofNat 32 a) (BitVec.ofNat 32 b))) 128#32 = if a ≤ b + 128 ∧ b ≤ a + 128 then 1#1 else 0#1 := by
  have e : (IntOp.absi (IntOp.subi (BitVec.ofNat 32 a) (BitVec.ofNat 32 b))).toInt = |(a : ℤ) - b| :=
    Words.abs_toInt (Words.sub_toInt (Words.ofNat_toInt (by omega)) (Words.ofNat_toInt (by omega)) (by omega) (by omega)) (by omega) (by omega)
  rw [WordCmp.cmpi_sle_eq, e, show (128#32 : BitVec 32).toInt = 128 from rfl]
  have h : |(a : ℤ) - b| ≤ 128 ↔ a ≤ b + 128 ∧ b ≤ a + 128 := by rw [abs_le]; omega
  by_cases c : a ≤ b + 128 ∧ b ≤ a + 128
  · rw [if_pos c, decide_eq_true (h.2 c)]; rfl
  · rw [if_neg c, decide_eq_false (fun x => c (h.1 x))]; rfl

theorem local_at (q k : FVec Ideal S2x16384x8x64 .f32) (i : S2x8x16384x16384.Idx) :
    local_ q k i = if (i 3 : ℕ) ≤ i 2 + 128 ∧ (i 2 : ℕ) ≤ i 3 + 128 then ∑ d : Fin 64, q (ix4 (i 0) (i 2) (i 1) d) * k (ix4 (i 0) (i 3) (i 1) d) else ⊥ := by
  have e : local_ q k i = Scalar.select
      (IntOp.cmpi CmpIPredicate.sle (IntOp.absi (IntOp.subi (BitVec.ofNat 32 ↑(i 3)) (BitVec.ofNat 32 ↑(i 2)))) 128#32)
      (∑ d : Fin 64, q (ix4 (i 0) (i 2) (i 1) d) * k (ix4 (i 0) (i 3) (i 1) d)) (Ideal.ofBits .f32 0xFF800000#32) := by
    pointwise [local_, band]
    rfl
  rw [e, ninf, inBand_iff _ _ (i 3).isLt (i 2).isLt]
  split <;> rfl

theorem ctx_at (q : FVec Ideal S2x16384x8x64 .f32) (k : FVec Ideal S2x256x8x64 .f32) (i : S2x8x16384x256.Idx) :
    ctx q k i = ∑ d : Fin 64, q (ix4 (i 0) (i 2) (i 1) d) * k (ix4 (i 0) (i 3) (i 1) d) := by
  pointwise [ctx]

theorem sinks_at (x : FVec Ideal S8 .f32) (i : S2x8x16384x1.Idx) : sinks x i = x (ix1 (i 1)) := by
  pointwise [sinks]

theorem scores_at (l : FVec Ideal S2x8x16384x16384 .f32) (k : FVec Ideal S2x8x16384x256 .f32) (s : FVec Ideal S2x8x16384x1 .f32) (i : S2x8x16384x16641.Idx) :
    scores l k s i = if h : (i 3 : ℕ) < 16384 then l (ix4 (i 0) (i 1) (i 2) ⟨i 3, h⟩)
      else if h : (i 3 : ℕ) - 16384 < 256 then k (ix4 (i 0) (i 1) (i 2) ⟨(i 3 : ℕ) - 16384, h⟩)
      else s (ix4 (i 0) (i 1) (i 2) ⟨(i 3 : ℕ) - 16384 - 256, by idx_bounds; omega⟩) := by
  pointwise [scores]

theorem hostMax_at (s : FVec Ideal S2x8x16384x16641 .f32) (b : FVec Ideal S_ .f32) (i : S2x8x16384.Idx) :
    Host.reduce FloatOps.maximumf s b reducesTo_S2x8x16384x16641_S2x8x16384_d3 h_S_ i
      = Finset.univ.fold max (b (Shape.Idx.first h_S_)) fun k : Fin 16641 => s (ix4 (i 0) (i 1) (i 2) k) := by
  simp only [pointwise]

theorem maxf_at (a b : FVec Ideal S2x8x16384 .f32) (i : S2x8x16384.Idx) : maximumf a b i = max (a i) (b i) := rfl

theorem rowMax_at (s : FVec Ideal S2x8x16384x16641 .f32) (i : S2x8x16384.Idx) :
    rowMax s i = Finset.univ.fold max ⊥ fun k : Fin 16641 => s (ix4 (i 0) (i 1) (i 2) k) := by
  unfold rowMax
  rw [maxf_at, hostMax_at]
  have c : (constant S_ .f32 0xFF800000#32 : FVec Ideal S_ .f32) (Shape.Idx.first h_S_) = ⊥ := ninf
  have d : broadcastInDim S2x8x16384 ![] bcast_S_S2x8x16384 (constant S_ .f32 0xFF800000#32 : FVec Ideal S_ .f32) i = ⊥ := ninf
  rw [c, d, max_eq_right bot_le]

theorem probs_at (s : FVec Ideal S2x8x16384x16641 .f32) (i : S2x8x16384x16641.Idx) :
    probs s i = Ideal.div (Ideal.exp (s i - rowMax s (ix3 (i 0) (i 1) (i 2))))
      (∑ x : Fin 16641, Ideal.exp (s (ix4 (i 0) (i 1) (i 2) x) - rowMax s (ix3 (i 0) (i 1) (i 2)))) := by
  pointwise [probs, expo, rowSum]

theorem mix_at (p : FVec Ideal S2x8x16384x16641 .f32) (v : FVec Ideal S2x16384x8x64 .f32) (w : FVec Ideal S2x256x8x64 .f32) (i : S2x16384x512.Idx) :
    mix p v w i = ∑ x : Fin 16384, v (ix4 (i 0) x ⟨(i 2 : ℕ) / 64, by idx_bounds; omega⟩ ⟨(i 2 : ℕ) % 64, by omega⟩)
          * p (ix4 (i 0) ⟨(i 2 : ℕ) / 64, by idx_bounds; omega⟩ (i 1) ⟨x, by omega⟩)
      + ∑ x : Fin 256, w (ix4 (i 0) x ⟨(i 2 : ℕ) / 64, by idx_bounds; omega⟩ ⟨(i 2 : ℕ) % 64, by omega⟩)
          * p (ix4 (i 0) ⟨(i 2 : ℕ) / 64, by idx_bounds; omega⟩ (i 1) ⟨16384 + x, by omega⟩) := by
  pointwise [mix]

end Cert.ReferenceIdeal.Attn

end
-- ==== Proof.Match.lean ====
/- A block of the window attention against the attention written over the whole sequence: the entries agree. -/
module

public import proofs.«01_k».proof.Proof.Attn
public import proofs.«01_k».proof.Proof.Ref

@[expose] public section

set_option maxRecDepth 16384

noncomputable section

namespace Cert.Match

open Idealize.ShloMosaic Cert.KernelIdeal

/-- A number that is neither infinity. -/
def Fin' (x : EReal) : Prop := ∃ r : ℝ, x = r

theorem Fin'.of {x : EReal} (h : x ≠ ⊤) (h' : x ≠ ⊥) : Fin' x := ⟨x.toReal, (EReal.coe_toReal h h').symm⟩

theorem Fin'.ne_top {x : EReal} (h : Fin' x) : x ≠ ⊤ := by obtain ⟨r, rfl⟩ := h; exact EReal.coe_ne_top r

theorem Fin'.ne_bot {x : EReal} (h : Fin' x) : x ≠ ⊥ := by obtain ⟨r, rfl⟩ := h; exact EReal.coe_ne_bot r

theorem Fin'.mul {x y : EReal} (h : Fin' x) (h' : Fin' y) : Fin' (x * y) := by
  obtain ⟨r, rfl⟩ := h; obtain ⟨s, rfl⟩ := h'; exact ⟨r * s, (EReal.coe_mul r s).symm⟩

theorem Fin'.sum {n : ℕ} {f : Fin n → EReal} (h : ∀ i, Fin' (f i)) : Fin' (∑ i, f i) := by
  refine Finset.sum_induction f Fin' ?_ ⟨0, rfl⟩ fun i _ => h i
  rintro _ _ ⟨r, rfl⟩ ⟨s, rfl⟩
  exact ⟨r + s, (EReal.coe_add r s).symm⟩

variable (q : FVec Ideal S2x16384x512 .bf16) (k v : FVec Ideal S2x16384x256 .bf16) (kc vc : FVec Ideal S2x256x256 .bf16) (s : FVec Ideal S8 .f32)

/-- The lane of the keys and of the values that lane `L` of the queries meets. -/
def lane (L : Fin 512) (d : Fin 64) : Fin 256 := ⟨(L : ℕ) / 64 / 4 * 128 + ((L : ℕ) / 64 % 2 * 64 + d), by omega⟩

/-- The score of the head that lane `L` belongs to, query `n` against a key row. -/
def dotL (n : Fin 16384) (b : Fin 2) (L : Fin 512) (row : Fin 256 → EReal) : EReal :=
  ∑ d : Fin 64, q (ix3 b n ⟨(L : ℕ) / 64 * 64 + d, by omega⟩) * row (lane L d)

/-- The scores of the reference at a query and a head. -/
def refS (b : Fin 2) (n : Fin 16384) (L : Fin 512) (x : Fin 16641) : EReal :=
  ReferenceIdeal.Attn.scoresOf q k kc s (ix4 b ⟨(L : ℕ) / 64, by omega⟩ n x)

theorem refS_sink (b : Fin 2) (n : Fin 16384) (L : Fin 512) : refS q k kc s b n L ⟨16640, by omega⟩ = s (ix1 ⟨(L : ℕ) / 64, by omega⟩) := by
  unfold refS ReferenceIdeal.Attn.scoresOf
  rw [ReferenceIdeal.Attn.scores_at, dif_neg (by show ¬ (16640 < 16384); omega), dif_neg (by show ¬ (16640 - 16384 < 256); omega), ReferenceIdeal.Attn.sinks_at]
  rfl

theorem refS_ctx (b : Fin 2) (n : Fin 16384) (L : Fin 512) (c : Fin 256) :
    refS q k kc s b n L ⟨16384 + c, by omega⟩ = dotL q n b L fun l => kc (ix3 b c l) := by
  unfold refS ReferenceIdeal.Attn.scoresOf
  rw [ReferenceIdeal.Attn.scores_at, dif_neg (by show ¬ (16384 + (c : ℕ) < 16384); omega), dif_pos (by show 16384 + (c : ℕ) - 16384 < 256; omega), ReferenceIdeal.Attn.ctx_at]
  refine Finset.sum_congr rfl fun d _ => ?_
  rw [ReferenceIdeal.Attn.queries_at, ReferenceIdeal.Attn.perHeadC_at]
  have e : (⟨16384 + (c : ℕ) - 16384, by omega⟩ : Fin 256) = c := Fin.ext (by show 16384 + (c : ℕ) - 16384 = c; omega)
  exact congrArg₂ (· * ·) rfl (congrArg (fun z => kc (ix3 b z (lane L d))) e)

theorem refS_seq (b : Fin 2) (n : Fin 16384) (L : Fin 512) (j : Fin 16384) :
    refS q k kc s b n L ⟨j, by omega⟩ = if (j : ℕ) ≤ n + 128 ∧ (n : ℕ) ≤ j + 128 then dotL q n b L fun l => k (ix3 b j l) else ⊥ := by
  unfold refS ReferenceIdeal.Attn.scoresOf
  rw [ReferenceIdeal.Attn.scores_at, dif_pos (by exact j.isLt), ReferenceIdeal.Attn.local_at]
  refine if_congr Iff.rfl (Finset.sum_congr rfl fun d _ => ?_) rfl
  rw [ReferenceIdeal.Attn.queries_at, ReferenceIdeal.Attn.perHead_at]
  rfl

/-- An entry of the reference's result: the normalised sums over the sequence and over the context. -/
theorem result_at (b : Fin 2) (n : Fin 16384) (L : Fin 512) :
    ReferenceIdeal.Attn.result q k v kc vc s (ix3 b n L)
      = ∑ j : Fin 16384, v (ix3 b j (lane L ⟨(L : ℕ) % 64, by omega⟩))
            * Ideal.div (Ideal.exp (refS q k kc s b n L ⟨j, by omega⟩ - Finset.univ.fold max ⊥ (refS q k kc s b n L)))
              (∑ x, Ideal.exp (refS q k kc s b n L x - Finset.univ.fold max ⊥ (refS q k kc s b n L)))
        + ∑ j : Fin 256, vc (ix3 b j (lane L ⟨(L : ℕ) % 64, by omega⟩))
            * Ideal.div (Ideal.exp (refS q k kc s b n L ⟨16384 + j, by omega⟩ - Finset.univ.fold max ⊥ (refS q k kc s b n L)))
              (∑ x, Ideal.exp (refS q k kc s b n L x - Finset.univ.fold max ⊥ (refS q k kc s b n L))) := by
  unfold ReferenceIdeal.Attn.result
  rw [ReferenceIdeal.Attn.mix_at]
  refine congrArg₂ (· + ·) (Finset.sum_congr rfl fun j _ => ?_) (Finset.sum_congr rfl fun j _ => ?_)
  · rw [ReferenceIdeal.Attn.perHead_at, ReferenceIdeal.Attn.probs_at, ReferenceIdeal.Attn.rowMax_at]
    rfl
  · rw [ReferenceIdeal.Attn.perHeadC_at, ReferenceIdeal.Attn.probs_at, ReferenceIdeal.Attn.rowMax_at]
    rfl

theorem dotL_fin (hq : ∀ i, Fin' (q i)) (n : Fin 16384) (b : Fin 2) (L : Fin 512) (row : Fin 256 → EReal) (hr : ∀ l, Fin' (row l)) :
    Fin' (dotL q n b L row) := Fin'.sum fun _ => (hq _).mul (hr _)

theorem refS_ne_top (hq : ∀ i, Fin' (q i)) (hk : ∀ i, Fin' (k i)) (hkc : ∀ i, Fin' (kc i)) (hs : ∀ i, Fin' (s i)) (b : Fin 2) (n : Fin 16384) (L : Fin 512) (x : Fin 16641) :
    refS q k kc s b n L x ≠ ⊤ := by
  by_cases h1 : (x : ℕ) < 16384
  · rw [show x = ⟨((⟨x, h1⟩ : Fin 16384) : ℕ), by omega⟩ from rfl, refS_seq]
    split
    · exact (dotL_fin q hq n b L _ fun l => hk _).ne_top
    · exact bot_ne_top
  by_cases h2 : (x : ℕ) < 16640
  · rw [show x = ⟨16384 + ((⟨(x : ℕ) - 16384, by omega⟩ : Fin 256) : ℕ), by show 16384 + ((x : ℕ) - 16384) < 16641; omega⟩ from
      Fin.ext (by show (x : ℕ) = 16384 + ((x : ℕ) - 16384); omega), refS_ctx]
    exact (dotL_fin q hq n b L _ fun l => hkc _).ne_top
  · rw [show x = ⟨16640, by omega⟩ from Fin.ext (by show (x : ℕ) = 16640; omega), refS_sink]
    exact (hs _).ne_top

/-- Which key rows a query row of block `β` may see. -/
def sees (β : ℕ) (r : Fin 128) (c : Fin 640) : Prop :=
  384 ≤ (c : ℕ) ∨ (((r : ℕ) ≤ c ∧ (c : ℕ) ≤ r + 256) ∧ (if 0 < β then 0 else 128) ≤ (c : ℕ)) ∧ (c : ℕ) < if β < 127 then 384 else 256

/-- THE BLOCK LEMMA: a block's entry is the reference's entry at its place in the sequence. -/
theorem block_eq (hq : ∀ i, Fin' (q i)) (hk : ∀ i, Fin' (k i)) (hkc : ∀ i, Fin' (kc i)) (hs : ∀ i, Fin' (s i))
    (b : Fin 2) (β : ℕ) (hβ : β < 128) (mask : IVec S128x640 1) (hm : ∀ r c, mask (ix2 r c) = 1#1 ↔ sees β r c)
    (qb : Vec Ideal S1x128x512 .bf16) (hqb : ∀ (r : Fin 128) (L : Fin 512), qb (ix3 0 r L) = q (ix3 b ⟨β * 128 + r, by omega⟩ L))
    (K V : Fin 640 → Fin 256 → EReal) (hKC : ∀ (c : Fin 256) l, K ⟨384 + c, by omega⟩ l = kc (ix3 b c l)) (hVC : ∀ (c : Fin 256) l, V ⟨384 + c, by omega⟩ l = vc (ix3 b c l))
    (hK : ∀ (c : Fin 384) (j : Fin 16384) l, (c : ℕ) + β * 128 = j + 128 → K ⟨c, by omega⟩ l = k (ix3 b j l))
    (hV : ∀ (c : Fin 384) (j : Fin 16384) l, (c : ℕ) + β * 128 = j + 128 → V ⟨c, by omega⟩ l = v (ix3 b j l))
    (sb : Vec Ideal S8 .f32) (hsb : ∀ h, sb (ix1 h) = s (ix1 h)) (r : Fin 128) (L : Fin 512) :
    Attn.outAt mask qb K V sb ⟨(L : ℕ) / 64, by omega⟩ r ⟨(L : ℕ) % 64, by omega⟩
      = ReferenceIdeal.Attn.result q k v kc vc s (ix3 b ⟨β * 128 + r, by omega⟩ L) := by
  have hsco : ∀ c : Fin 640, Attn.sco mask qb K ⟨(L : ℕ) / 64, by omega⟩ r c
      = if mask (ix2 r c) = 1#1 then dotL q ⟨β * 128 + r, by omega⟩ b L (K c) else ⊥ := by
    intro c
    unfold Attn.sco dotL
    refine if_congr Iff.rfl (Finset.sum_congr rfl fun d _ => ?_) rfl
    rw [hqb]
    rfl
  rw [result_at]
  unfold Attn.outAt
  refine Softmax.attend_eq _ (fun c => V c (lane L ⟨(L : ℕ) % 64, by omega⟩)) _ (refS q k kc s b ⟨β * 128 + r, by omega⟩ L)
    (fun j => v (ix3 b j (lane L ⟨(L : ℕ) % 64, by omega⟩))) (fun j => vc (ix3 b j (lane L ⟨(L : ℕ) % 64, by omega⟩))) (β * 128) ?_ ?_ ?_ ?_ ?_ ?_ ?_
  · rw [refS_sink, hsb]
  · intro c
    rw [hsco, if_pos ((hm _ _).2 (.inl (by show 384 ≤ 384 + (c : ℕ); omega))), refS_ctx]
    exact congrArg _ (funext fun l => hKC c l)
  · intro c
    exact hVC c _
  · intro j
    rw [refS_seq]
    by_cases h : (j : ℕ) ≤ (β * 128 + r) + 128 ∧ (β * 128 + (r : ℕ)) ≤ j + 128
    · refine .inr ⟨⟨(j : ℕ) + 128 - β * 128, by omega⟩, by show (j : ℕ) + 128 - β * 128 + β * 128 = j + 128; omega, ?_, ?_⟩
      · rw [hsco, if_pos ((hm _ _).2 (.inr ?_)), if_pos (by exact h)]
        · exact congrArg _ (funext fun l => hK _ j l (by show (j : ℕ) + 128 - β * 128 + β * 128 = j + 128; omega))
        · show (((r : ℕ) ≤ (j : ℕ) + 128 - β * 128 ∧ (j : ℕ) + 128 - β * 128 ≤ r + 256) ∧ (if 0 < β then 0 else 128) ≤ (j : ℕ) + 128 - β * 128)
            ∧ (j : ℕ) + 128 - β * 128 < if β < 127 then 384 else 256
          refine ⟨⟨⟨by omega, by omega⟩, ?_⟩, ?_⟩ <;> split <;> omega
      · exact hV _ j _ (by show (j : ℕ) + 128 - β * 128 + β * 128 = j + 128; omega)
    · exact .inl (if_neg (by exact h))
  · intro c
    rw [hsco]
    by_cases h : mask (ix2 r ⟨c, by omega⟩) = 1#1
    · refine .inr ?_
      have h' : (((r : ℕ) ≤ c ∧ (c : ℕ) ≤ r + 256) ∧ (if 0 < β then 0 else 128) ≤ (c : ℕ)) ∧ (c : ℕ) < if β < 127 then 384 else 256 := by
        rcases (hm _ _).1 h with h | h
        · exact absurd (show 384 ≤ (c : ℕ) from h) (by omega)
        · exact h
      have lo : 128 ≤ (c : ℕ) + β * 128 := by
        by_cases z : 0 < β
        · omega
        · have := h'.1.2; rw [if_neg z] at this; omega
      have hi : (c : ℕ) + β * 128 - 128 < 16384 := by
        by_cases z : β < 127
        · omega
        · have := h'.2; rw [if_neg z] at this; omega
      have ej : (c : ℕ) + β * 128 = ((⟨(c : ℕ) + β * 128 - 128, hi⟩ : Fin 16384) : ℕ) + 128 := by
        show (c : ℕ) + β * 128 = (c : ℕ) + β * 128 - 128 + 128; omega
      refine ⟨⟨(c : ℕ) + β * 128 - 128, hi⟩, ej, ?_, hV c _ _ ej⟩
      rw [if_pos h, refS_seq, if_pos]
      · exact congrArg _ (funext fun l => hK c _ l ej)
      · show (c : ℕ) + β * 128 - 128 ≤ (β * 128 + r) + 128 ∧ (β * 128 + (r : ℕ)) ≤ (c : ℕ) + β * 128 - 128 + 128
        omega
    · exact .inl (if_neg h)
  · rw [hsb]
    exact (hs _).ne_bot
  · exact refS_ne_top q k kc s hq hk hkc hs b _ L

end Cert.Match

end
-- ==== Proof.Result.lean ====
/- The window attention kernel's result array is the reference's result. -/
module

public import proofs.«01_k».proof.Proof.Match

@[expose] public section

set_option maxRecDepth 16384

noncomputable section

namespace Cert.KernelIdeal.Attn

open Cert.KernelIdeal Cert.KernelIdeal.Gen Idealize.ShloMosaic Idealize.SL.Sem Idealize.ShloMosaic.Pipeline Cert.Match

/-- One bit of a conjunction, of a disjunction, of a comparison. -/
theorem and_one (x y : BitVec 1) : IntOp.andi x y = 1#1 ↔ x = 1#1 ∧ y = 1#1 := by
  revert x y; decide

theorem or_one (x y : BitVec 1) : IntOp.ori x y = 1#1 ↔ x = 1#1 ∨ y = 1#1 := by
  revert x y; decide

theorem sge_one (x y : BitVec 32) : IntOp.cmpi .sge x y = 1#1 ↔ y.toInt ≤ x.toInt := by
  rw [WordCmp.cmpi_sge_eq, WordCmp.ofBool_decide_eq_one_iff]

theorem sle_one (x y : BitVec 32) : IntOp.cmpi .sle x y = 1#1 ↔ x.toInt ≤ y.toInt := by
  rw [WordCmp.cmpi_sle_eq, WordCmp.ofBool_decide_eq_one_iff]

theorem slt_one (x y : BitVec 32) : IntOp.cmpi .slt x y = 1#1 ↔ x.toInt < y.toInt := by
  rw [WordCmp.cmpi_slt_eq, WordCmp.ofBool_decide_eq_one_iff]

theorem sgt_one (x y : BitVec 32) : IntOp.cmpi .sgt x y = 1#1 ↔ y.toInt < x.toInt := by
  rw [WordCmp.cmpi_sgt_eq, WordCmp.ofBool_decide_eq_one_iff]

theorem low_toInt (β : ℕ) (hβ : β < 128) : (Scalar.select (Scalar.cmpi .sgt (BitVec.ofNat 32 β) 0#32) 0#32 128#32 : BitVec 32).toInt = if 0 < β then 0 else 128 := by
  have h : Scalar.cmpi .sgt (BitVec.ofNat 32 β) 0#32 = 1#1 ↔ 0 < β := by
    rw [show Scalar.cmpi .sgt (BitVec.ofNat 32 β) 0#32 = IntOp.cmpi .sgt (BitVec.ofNat 32 β) 0#32 from rfl, sgt_one, Words.ofNat_toInt (a := β) (by omega),
      show (0#32 : BitVec 32).toInt = 0 from rfl]
    omega
  unfold Scalar.select
  by_cases z : 0 < β
  · rw [if_pos z, if_pos (show _ = (1 : BitVec 1) from h.2 z)]; rfl
  · rw [if_neg z, if_neg (show ¬ _ = (1 : BitVec 1) from fun x => z (h.1 x))]; rfl

theorem high_toInt (β : ℕ) (hβ : β < 128) : (Scalar.select (Scalar.cmpi .slt (BitVec.ofNat 32 β) 127#32) 384#32 256#32 : BitVec 32).toInt = if β < 127 then 384 else 256 := by
  have h : Scalar.cmpi .slt (BitVec.ofNat 32 β) 127#32 = 1#1 ↔ β < 127 := by
    rw [show Scalar.cmpi .slt (BitVec.ofNat 32 β) 127#32 = IntOp.cmpi .slt (BitVec.ofNat 32 β) 127#32 from rfl, slt_one, Words.ofNat_toInt (a := β) (by omega),
      show (127#32 : BitVec 32).toInt = 127 from rfl]
    omega
  unfold Scalar.select
  by_cases z : β < 127
  · rw [if_pos z, if_pos (show _ = (1 : BitVec 1) from h.2 z)]; rfl
  · rw [if_neg z, if_neg (show ¬ _ = (1 : BitVec 1) from fun x => z (h.1 x))]; rfl

/-- The mask as a condition on the row and the column. -/
theorem mask_iff (β : ℕ) (hβ : β < 128) (r : Fin 128) (c : Fin 640) : k0_pay9 (BitVec.ofNat 32 β) (ix2 r c) = 1#1 ↔ sees β r c := by
  have e : k0_pay9 (BitVec.ofNat 32 β) (ix2 r c) = IntOp.ori (IntOp.cmpi .sge (BitVec.ofNat 32 c) 384#32)
      (IntOp.andi (IntOp.andi (IntOp.andi
        (IntOp.cmpi .sge (IntOp.subi (IntOp.subi (BitVec.ofNat 32 c) 128#32) (BitVec.ofNat 32 r)) 4294967168#32)
        (IntOp.cmpi .sle (IntOp.subi (IntOp.subi (BitVec.ofNat 32 c) 128#32) (BitVec.ofNat 32 r)) 128#32))
        (IntOp.cmpi .sge (BitVec.ofNat 32 c) (Scalar.select (Scalar.cmpi .sgt (BitVec.ofNat 32 β) 0#32) 0#32 128#32)))
        (IntOp.cmpi .slt (BitVec.ofNat 32 c) (Scalar.select (Scalar.cmpi .slt (BitVec.ofNat 32 β) 127#32) 384#32 256#32))) := by
    pointwise [k0_pay9]
  have d : (IntOp.subi (IntOp.subi (BitVec.ofNat 32 c) 128#32) (BitVec.ofNat 32 r)).toInt = (c : ℤ) - 128 - r :=
    Words.sub_toInt (Words.sub_toInt (Words.ofNat_toInt (by omega)) rfl (by omega) (by omega)) (Words.ofNat_toInt (by omega)) (by omega) (by omega)
  rw [e, or_one, and_one, and_one, and_one, sge_one, sge_one, sge_one, sle_one, slt_one, d, low_toInt β hβ, high_toInt β hβ, Words.ofNat_toInt (a := (c : ℕ)) (by omega),
    show (384#32 : BitVec 32).toInt = 384 from rfl, show (128#32 : BitVec 32).toInt = 128 from rfl, show (4294967168#32 : BitVec 32).toInt = -128 from rfl]
  unfold sees
  split <;> split <;> omega

/-- The windows' block indices. -/
theorem idx_val : ∀ t : Fin cfg0.N, win0_0.index t = ![0] ∧ win0_1.index t = ![(grid0.coords t 0).val, (grid0.coords t 1).val, 0]
    ∧ win0_2.index t = ![(grid0.coords t 0).val, (grid0.coords t 1).val - 1, 0] ∧ win0_3.index t = ![(grid0.coords t 0).val, (grid0.coords t 1).val, 0]
    ∧ win0_4.index t = ![(grid0.coords t 0).val, min ((grid0.coords t 1).val + 1) 127, 0]
    ∧ win0_5.index t = ![(grid0.coords t 0).val, (grid0.coords t 1).val - 1, 0] ∧ win0_6.index t = ![(grid0.coords t 0).val, (grid0.coords t 1).val, 0]
    ∧ win0_7.index t = ![(grid0.coords t 0).val, min ((grid0.coords t 1).val + 1) 127, 0]
    ∧ win0_8.index t = ![(grid0.coords t 0).val, 0, 0] ∧ win0_9.index t = ![(grid0.coords t 0).val, 0, 0]
    ∧ win0_10.index t = ![(grid0.coords t 0).val, (grid0.coords t 1).val, 0] :=
  (by decide +kernel : ∀ t : Fin grid0.N, _)

variable (m : (ℓ : Loc nD τ sig) → Buf (Elt Ideal) ℓ)

theorem blk0_at (c : Dev nD) (t : Fin cfg0.N) (h : Fin 8) : iblk m c 0 t (ix1 h) = m ((c.tc : Thread nD τ).loc main_arg5) (ix1 h) := by
  blk_point [iblk, V, idx_val t]

theorem blk1_at (c : Dev nD) (t : Fin cfg0.N) (r : Fin 128) (l : Fin 512) (j : S2x16384x512.Idx) (h0 : (j 0 : ℕ) = grid0.coords t 0)
    (h1 : (j 1 : ℕ) = (grid0.coords t 1 : ℕ) * 128 + r) (h2 : (j 2 : ℕ) = l) : iblk m c 1 t (ix3 0 r l) = m ((c.tc : Thread nD τ).loc main_arg0) j := by
  blk_point [iblk, V, idx_val t]

theorem blk2_at (c : Dev nD) (t : Fin cfg0.N) (r : Fin 128) (l : Fin 256) (j : S2x16384x256.Idx) (h0 : (j 0 : ℕ) = grid0.coords t 0)
    (h1 : (j 1 : ℕ) = ((grid0.coords t 1 : ℕ) - 1) * 128 + r) (h2 : (j 2 : ℕ) = l) : iblk m c 2 t (ix3 0 r l) = m ((c.tc : Thread nD τ).loc main_arg1) j := by
  blk_point [iblk, V, idx_val t]

theorem blk3_at (c : Dev nD) (t : Fin cfg0.N) (r : Fin 128) (l : Fin 256) (j : S2x16384x256.Idx) (h0 : (j 0 : ℕ) = grid0.coords t 0)
    (h1 : (j 1 : ℕ) = (grid0.coords t 1 : ℕ) * 128 + r) (h2 : (j 2 : ℕ) = l) : iblk m c 3 t (ix3 0 r l) = m ((c.tc : Thread nD τ).loc main_arg1) j := by
  blk_point [iblk, V, idx_val t]

theorem blk4_at (c : Dev nD) (t : Fin cfg0.N) (r : Fin 128) (l : Fin 256) (j : S2x16384x256.Idx) (h0 : (j 0 : ℕ) = grid0.coords t 0)
    (h1 : (j 1 : ℕ) = (min ((grid0.coords t 1 : ℕ) + 1) 127) * 128 + r) (h2 : (j 2 : ℕ) = l) : iblk m c 4 t (ix3 0 r l) = m ((c.tc : Thread nD τ).loc main_arg1) j := by
  blk_point [iblk, V, idx_val t]

theorem blk5_at (c : Dev nD) (t : Fin cfg0.N) (r : Fin 128) (l : Fin 256) (j : S2x16384x256.Idx) (h0 : (j 0 : ℕ) = grid0.coords t 0)
    (h1 : (j 1 : ℕ) = ((grid0.coords t 1 : ℕ) - 1) * 128 + r) (h2 : (j 2 : ℕ) = l) : iblk m c 5 t (ix3 0 r l) = m ((c.tc : Thread nD τ).loc main_arg2) j := by
  blk_point [iblk, V, idx_val t]

theorem blk6_at (c : Dev nD) (t : Fin cfg0.N) (r : Fin 128) (l : Fin 256) (j : S2x16384x256.Idx) (h0 : (j 0 : ℕ) = grid0.coords t 0)
    (h1 : (j 1 : ℕ) = (grid0.coords t 1 : ℕ) * 128 + r) (h2 : (j 2 : ℕ) = l) : iblk m c 6 t (ix3 0 r l) = m ((c.tc : Thread nD τ).loc main_arg2) j := by
  blk_point [iblk, V, idx_val t]

theorem blk7_at (c : Dev nD) (t : Fin cfg0.N) (r : Fin 128) (l : Fin 256) (j : S2x16384x256.Idx) (h0 : (j 0 : ℕ) = grid0.coords t 0)
    (h1 : (j 1 : ℕ) = (min ((grid0.coords t 1 : ℕ) + 1) 127) * 128 + r) (h2 : (j 2 : ℕ) = l) : iblk m c 7 t (ix3 0 r l) = m ((c.tc : Thread nD τ).loc main_arg2) j := by
  blk_point [iblk, V, idx_val t]

theorem blk8_at (c : Dev nD) (t : Fin cfg0.N) (r : Fin 256) (l : Fin 256) (j : S2x256x256.Idx) (h0 : (j 0 : ℕ) = grid0.coords t 0)
    (h1 : (j 1 : ℕ) = r) (h2 : (j 2 : ℕ) = l) : iblk m c 8 t (ix3 0 r l) = m ((c.tc : Thread nD τ).loc main_arg3) j := by
  blk_point [iblk, V, idx_val t]

theorem blk9_at (c : Dev nD) (t : Fin cfg0.N) (r : Fin 256) (l : Fin 256) (j : S2x256x256.Idx) (h0 : (j 0 : ℕ) = grid0.coords t 0)
    (h1 : (j 1 : ℕ) = r) (h2 : (j 2 : ℕ) = l) : iblk m c 9 t (ix3 0 r l) = m ((c.tc : Thread nD τ).loc main_arg4) j := by
  blk_point [iblk, V, idx_val t]

/-- The context rows come last among the 640. -/
theorem rowsAt_ctx (p c n : Vec Ideal S1x128x256 .bf16) (x : Vec Ideal S1x256x256 .bf16) (r : Fin 256) (l : Fin 256) :
    rowsAt p c n x ⟨384 + r, by omega⟩ l = x (ix3 0 r l) := by
  unfold rowsAt
  rw [dif_neg (by show ¬ 384 + (r : ℕ) < 128; omega), dif_neg (by show ¬ 384 + (r : ℕ) - 128 < 128; omega), dif_neg (by show ¬ 384 + (r : ℕ) - 128 - 128 < 128; omega)]
  exact congrArg (fun z => x (ix3 0 z l)) (Fin.ext (by show 384 + (r : ℕ) - 128 - 128 - 128 = r; omega))

/-- The sequence's rows among the 640 are the rows at their places. -/
theorem rowsAt_seq (A : FVec Ideal S2x16384x256 .bf16) (b : Fin 2) (β : ℕ) (hβ : β < 128) (p c n : Vec Ideal S1x128x256 .bf16) (x : Vec Ideal S1x256x256 .bf16)
    (hp : ∀ (r : Fin 128) (j : Fin 16384) l, (j : ℕ) = (β - 1) * 128 + r → p (ix3 0 r l) = A (ix3 b j l))
    (hc : ∀ (r : Fin 128) (j : Fin 16384) l, (j : ℕ) = β * 128 + r → c (ix3 0 r l) = A (ix3 b j l))
    (hn : ∀ (r : Fin 128) (j : Fin 16384) l, (j : ℕ) = min (β + 1) 127 * 128 + r → n (ix3 0 r l) = A (ix3 b j l))
    (r : Fin 384) (j : Fin 16384) (l : Fin 256) (h : (r : ℕ) + β * 128 = j + 128) : rowsAt p c n x ⟨r, by omega⟩ l = A (ix3 b j l) := by
  unfold rowsAt
  by_cases h1 : (r : ℕ) < 128
  · rw [dif_pos (by exact h1)]
    exact hp _ j l (by show (j : ℕ) = (β - 1) * 128 + (r : ℕ); omega)
  rw [dif_neg (by exact h1)]
  by_cases h2 : (r : ℕ) - 128 < 128
  · rw [dif_pos (by exact h2)]
    exact hc _ j l (by show (j : ℕ) = β * 128 + ((r : ℕ) - 128); omega)
  rw [dif_neg (by exact h2), dif_pos (by show (r : ℕ) - 128 - 128 < 128; omega)]
  exact hn _ j l (by show (j : ℕ) = min (β + 1) 127 * 128 + ((r : ℕ) - 128 - 128); omega)

/-- The result array. -/
theorem final (c : Dev nD) (hq : ∀ i : S2x16384x512.Idx, Fin' (m ((c.tc : Thread nD τ).loc main_arg0) i)) (hk : ∀ i : S2x16384x256.Idx, Fin' (m ((c.tc : Thread nD τ).loc main_arg1) i))
    (hkc : ∀ i : S2x256x256.Idx, Fin' (m ((c.tc : Thread nD τ).loc main_arg3) i)) (hs : ∀ i : S8.Idx, Fin' (m ((c.tc : Thread nD τ).loc main_arg5) i)) :
    (dats m 0 c).arrAt 10 cfg0.N = ReferenceIdeal.Attn.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  refine (dats m 0 c).arrAt_eq_of_covers 10 _ (by decide +kernel) fun t hf y => ?_
  blk_simp
  rw [after0_10]
  have b0 : (y 0 : ℕ) < 1 := (y 0).isLt
  have b1 : (y 1 : ℕ) < 128 := (y 1).isLt
  have b2 : (y 2 : ℕ) < 512 := (y 2).isLt
  have bt : (grid0.coords t 0 : ℕ) < 2 := (grid0.coords t 0).isLt
  have hβ : (grid0.coords t 1 : ℕ) < 128 := (grid0.coords t 1).isLt
  refine (out_at m c t y ⟨(y 2 : ℕ) / 64, by omega⟩ ⟨(y 2 : ℕ) % 64, by omega⟩ (by show (y 2 : ℕ) = (y 2 : ℕ) / 64 * 64 + (y 2 : ℕ) % 64; omega)).trans ?_
  have e := block_eq (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) hq hk hkc hs
      ⟨grid0.coords t 0, bt⟩ (grid0.coords t 1) hβ (maskOf t) (fun r x => mask_iff _ hβ r x) (iblk m c 1 t) (fun r L => blk1_at m c t r L _ rfl rfl rfl)
      (keysAt m c t) (valsAt m c t)
      (fun r l => (rowsAt_ctx _ _ _ _ r l).trans (blk8_at m c t r l _ rfl rfl rfl)) (fun r l => (rowsAt_ctx _ _ _ _ r l).trans (blk9_at m c t r l _ rfl rfl rfl))
      (rowsAt_seq _ ⟨grid0.coords t 0, bt⟩ (grid0.coords t 1) hβ _ _ _ _ (fun r j l h => blk2_at m c t r l _ rfl h rfl) (fun r j l h => blk3_at m c t r l _ rfl h rfl) (fun r j l h => blk4_at m c t r l _ rfl h rfl))
      (rowsAt_seq _ ⟨grid0.coords t 0, bt⟩ (grid0.coords t 1) hβ _ _ _ _ (fun r j l h => blk5_at m c t r l _ rfl h rfl) (fun r j l h => blk6_at m c t r l _ rfl h rfl) (fun r j l h => blk7_at m c t r l _ rfl h rfl))
      (iblk m c 0 t) (fun h => blk0_at m c t h) (y 1) (y 2)
  refine e.trans (congrArg _ ?_)
  funext a
  match a with
  | 0 => exact Fin.ext (by blk_simp [idx_val t]; try omega)
  | 1 => exact Fin.ext (by blk_simp [idx_val t]; try omega)
  | 2 => exact Fin.ext (by blk_simp [idx_val t]; try omega)

end Cert.KernelIdeal.Attn

end
-- ==== Proof.Steps.lean ====
/- One grid point of the experts' call: what its body leaves in the output block and in the two scratch buffers, from what they
   held before, for any contents of the five tables. -/
module

public import proofs.«01_k».proof.Proof.Gen.ExpertsIdeal.Skeleton
public import proofs.«01_k».proof.Proof.Gen.ExpertsIdeal.Launch
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.ExpertsIdeal.Sched

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables and the scratch buffers, whole. -/
abbrev tb0 : Memref sig .tc .smem S71 .i32 := Memref.whole main_arg1
abbrev tb1 : Memref sig .tc .smem S71 .i32 := Memref.whole main_arg2
abbrev tb2 : Memref sig .tc .smem S71 .i32 := Memref.whole main_arg3
abbrev tb3 : Memref sig .tc .smem S71 .i32 := Memref.whole main_arg4
abbrev tb4 : Memref sig .tc .smem S71 .i32 := Memref.whole main_arg5
abbrev scX : Memref sig .tc .vmem S1024x1024 .bf16 := Memref.whole cc0_scratch0
abbrev scA : Memref sig .tc .vmem S1024x1024 .f32 := Memref.whole cc0_scratch1

/-- Step `s` as an index of a table. -/
def ix1 (s : Fin 71) : S71.Idx := fun a => ⟨s.val, by fin_cases a; exact s.isLt⟩

theorem off1_val (i : grid0.Coords) (a : Fin 1) : k0_off1 i a = (i 0).val := by
  have h : (i 0).val < 71 := (i 0).isLt
  have : k0_off1 i a = (BitVec.ofNat 32 (i 0).val).toNat := by
    fin_cases a; rfl
  rw [this, BitVec.toNat_ofNat]; omega

/-- The word of step `i 0` of a table, in the form in which the body reads it. -/
abbrev wordAt (M : Memref sig .tc .smem S71 .i32) (i : grid0.Coords) (T : M.view.ty.Contents (Elt F)) : BitVec 32 :=
  View.readAt (Elt F) M.view (Rect.unit (s := S71) (k0_off1 i) S1.size (k0_off1_inb i)).toLoadRect T (Shape.Idx.first (numel1_S1.symm ▸ Nat.one_pos))

/-- The block, the cast input and the running sum. -/
abbrev St (F : FTy → Type) : Type := Vec F S1024x1024 .f32 × Vec F S1024x1024 .bf16 × Vec F S1024x1024 .f32

/-- One step of the body: zeros where a tile begins, the cast of the input at the first part, the parts' sum, and after the
    last part the rows `lo ≤ row < hi` of the sum. -/
def step (i : grid0.Coords) (x0 : Vec F S1024x1024 .f32) (x1 x2 : Vec F S1x1024x512 .bf16) (x3 : Vec F S1x512x1024 .bf16)
    (lo hi first : BitVec 32) (p : St F) : St F :=
  let y := if k0_cond1 i first = 1#1 then k0_pay1 else p.1
  if k0_cond2 lo hi = 1#1 then
    let xb := if (i 1).val = 0 then k0_pay2 x0 else p.2.1
    let acc := if (i 1).val = 0 then k0_pay4 xb x1 x2 x3 else k0_pay5 xb x1 x2 x3 p.2.2
    (if (i 1).val = 6 then k0_pay6 lo hi acc y else y, xb, acc)
  else (y, p.2)

/-- The body at a grid point `i`, on the blocks `x0 … x3`, takes what the output block and the scratch buffers hold from `p` to `q`. -/
def Runs (c : Dev nD) (i : grid0.Coords) (arg7 : Memref sig .tc .vmem S1024x1024 .f32) (harg7 : arg7.IsWhole)
    (arg8 : Memref sig .tc .vmem S1x1024x512 .bf16) (harg8 : arg8.IsWhole) (arg9 : Memref sig .tc .vmem S1x1024x512 .bf16) (harg9 : arg9.IsWhole)
    (arg10 : Memref sig .tc .vmem S1x512x1024 .bf16) (harg10 : arg10.IsWhole) (arg11 : Memref sig .tc .vmem S1024x1024 .f32) (harg11 : arg11.IsWhole)
    (T0 T1 T2 T3 T4 : S71.Idx → Elt F .i32)
    (x0 : Vec F S1024x1024 .f32) (x1 x2 : Vec F S1x1024x512 .bf16) (x3 : Vec F S1x512x1024 .bf16) (p q : St F) : Prop :=
  ∀ K : PUnit → sProp 𝕄,
    iprop((arg7.view.loc (c : Thread nD τ) ↦[arg7.view.set]{fullShare} arg7.view.rep x0)
      ∗ (arg8.view.loc (c : Thread nD τ) ↦[arg8.view.set]{fullShare} arg8.view.rep x1)
      ∗ (arg9.view.loc (c : Thread nD τ) ↦[arg9.view.set]{fullShare} arg9.view.rep x2)
      ∗ (arg10.view.loc (c : Thread nD τ) ↦[arg10.view.set]{fullShare} arg10.view.rep x3)
      ∗ (tb0.view.loc (c : Thread nD τ) ↦{fullShare.right} T0) ∗ (tb1.view.loc (c : Thread nD τ) ↦{fullShare.right} T1)
      ∗ (tb2.view.loc (c : Thread nD τ) ↦{fullShare.right} T2) ∗ (tb3.view.loc (c : Thread nD τ) ↦{fullShare.right} T3)
      ∗ (tb4.view.loc (c : Thread nD τ) ↦{fullShare.right} T4)
      ∗ (arg11.view.loc (c : Thread nD τ) ↦[arg11.view.set]{fullShare} arg11.view.rep p.1)
      ∗ (scX.view.loc (c : Thread nD τ) ↦[scX.view.set]{fullShare} scX.view.rep p.2.1)
      ∗ (scA.view.loc (c : Thread nD τ) ↦[scA.view.set]{fullShare} scA.view.rep p.2.2)
      ∗ (iprop((arg7.view.loc (c : Thread nD τ) ↦[arg7.view.set]{fullShare} arg7.view.rep x0)
        ∗ (arg8.view.loc (c : Thread nD τ) ↦[arg8.view.set]{fullShare} arg8.view.rep x1)
        ∗ (arg9.view.loc (c : Thread nD τ) ↦[arg9.view.set]{fullShare} arg9.view.rep x2)
        ∗ (arg10.view.loc (c : Thread nD τ) ↦[arg10.view.set]{fullShare} arg10.view.rep x3)
        ∗ (tb0.view.loc (c : Thread nD τ) ↦{fullShare.right} T0) ∗ (tb1.view.loc (c : Thread nD τ) ↦{fullShare.right} T1)
        ∗ (tb2.view.loc (c : Thread nD τ) ↦{fullShare.right} T2) ∗ (tb3.view.loc (c : Thread nD τ) ↦{fullShare.right} T3)
        ∗ (tb4.view.loc (c : Thread nD τ) ↦{fullShare.right} T4)
        ∗ owns (c : Thread nD τ) arg11 fullShare q.1 ∗ owns (c : Thread nD τ) scX fullShare q.2.1
        ∗ owns (c : Thread nD τ) scA fullShare q.2.2) -∗ K ⟨⟩))
      ⊢ wp frame (wpE (defs₀ (F := F)) Variants.none c none) Set.univ (cc0_moe_experts i tb0 (Memref.isWhole_whole _) tb1 (Memref.isWhole_whole _)
        tb2 (Memref.isWhole_whole _) tb3 (Memref.isWhole_whole _) tb4 (Memref.isWhole_whole _) arg7 harg7 arg8 harg8 arg9 harg9 arg10 harg10
        arg11 harg11 scX (Memref.isWhole_whole _) scA (Memref.isWhole_whole _)) K

/-- The words by which the body tells the first, the later and the last parts apart. -/
abbrev isFirst (i : grid0.Coords) : Prop := Scalar.cmpi .ne (Scalar.extui (Scalar.cmpi .eq (BitVec.ofNat 32 (i 1).val) 0#32)) 0#32 = 1#1
abbrev isLater (i : grid0.Coords) : Prop := Scalar.cmpi .ne (Scalar.extui (Scalar.cmpi .sgt (BitVec.ofNat 32 (i 1).val) 0#32)) 0#32 = 1#1

theorem isFirst_iff (i : grid0.Coords) : isFirst i ↔ (i 1).val = 0 :=
  (show ∀ n : Fin 7, Scalar.cmpi .ne (Scalar.extui (Scalar.cmpi .eq (BitVec.ofNat 32 n.val) 0#32)) 0#32 = 1#1 ↔ n.val = 0 by decide) (i 1)

theorem isLater_iff (i : grid0.Coords) : isLater i ↔ 0 < (i 1).val :=
  (show ∀ n : Fin 7, Scalar.cmpi .ne (Scalar.extui (Scalar.cmpi .sgt (BitVec.ofNat 32 n.val) 0#32)) 0#32 = 1#1 ↔ 0 < n.val by decide) (i 1)

theorem cond6_iff (i : grid0.Coords) : k0_cond6 i = 1#1 ↔ (i 1).val = 6 :=
  (show ∀ n : Fin 7, Scalar.cmpi .ne (Scalar.extui (Scalar.cmpi .eq (BitVec.ofNat 32 n.val) 6#32)) 0#32 = 1#1 ↔ n.val = 6 by decide) (i 1)

theorem cond1_iff (i : grid0.Coords) (f : BitVec 32) : k0_cond1 i f = 1#1 ↔ (i 1).val = 0 ∧ f = 1#32 := by
  have e : ∀ (n : Fin 7) (b : Bool), Scalar.cmpi .ne (Scalar.extui (Scalar.andi (Scalar.cmpi .eq (BitVec.ofNat 32 n.val) 0#32) (BitVec.ofBool b))) 0#32 = 1#1
      ↔ n.val = 0 ∧ b = true := by decide
  refine (e (i 1) (f == 1#32)).trans ?_
  rw [beq_iff_eq]

theorem cond2_iff (lo hi : BitVec 32) : k0_cond2 lo hi = 1#1 ↔ lo.toInt < hi.toInt := by
  have e : Scalar.cmpi .sgt hi lo = BitVec.ofBool (lo.slt hi) := rfl
  unfold k0_cond2; dsimp only; rw [e, ← BitVec.slt_iff_toInt_lt]
  cases lo.slt hi <;> decide

theorem pay4_congr {a a' : Vec F S1024x1024 .bf16} {b b' e e' : Vec F S1x1024x512 .bf16} {d d' : Vec F S1x512x1024 .bf16}
    (ha : a = a') (hb : b = b') (he : e = e') (hd : d = d') : k0_pay4 a b e d = k0_pay4 a' b' e' d' := by
  subst ha hb he hd; rfl

theorem pay5_congr {a a' : Vec F S1024x1024 .bf16} {b b' e e' : Vec F S1x1024x512 .bf16} {d d' : Vec F S1x512x1024 .bf16}
    {u u' : Vec F S1024x1024 .f32} (ha : a = a') (hb : b = b') (he : e = e') (hd : d = d') (hu : u = u') :
    k0_pay5 a b e d u = k0_pay5 a' b' e' d' u' := by
  subst ha hb he hd hu; rfl

theorem pay6_congr {a a' b b' : Elt F .i32} {u u' v v' : Vec F S1024x1024 .f32} (ha : a = a') (hb : b = b') (hu : u = u') (hv : v = v') :
    k0_pay6 a b u v = k0_pay6 a' b' u' v' := by
  subst ha hb hu hv; rfl

section runs

variable (c : Dev nD) (i : grid0.Coords) (arg7 : Memref sig .tc .vmem S1024x1024 .f32) (harg7 : arg7.IsWhole)
  (arg8 : Memref sig .tc .vmem S1x1024x512 .bf16) (harg8 : arg8.IsWhole) (arg9 : Memref sig .tc .vmem S1x1024x512 .bf16) (harg9 : arg9.IsWhole)
  (arg10 : Memref sig .tc .vmem S1x512x1024 .bf16) (harg10 : arg10.IsWhole) (arg11 : Memref sig .tc .vmem S1024x1024 .f32) (harg11 : arg11.IsWhole)
  (T0 T1 T2 T3 T4 : S71.Idx → Elt F .i32)
  (x0 : Vec F S1024x1024 .f32) (x1 x2 : Vec F S1x1024x512 .bf16) (x3 : Vec F S1x512x1024 .bf16) (p : St F)

set_option backward.proofsInPublic true in
set_option maxHeartbeats 8000000 in
/-- A tile's first step with rows, first part. -/
theorem run_A (k0_h1 : k0_cond1 i (wordAt tb4 i T4) = 1#1) (k0_h2 : k0_cond2 (wordAt tb2 i T2) (wordAt tb3 i T3) = 1#1)
    (k0_h3 : isFirst i) (k0_h5 : ¬(isLater i)) (k0_h6 : ¬(k0_cond6 i = 1#1)) :
    Runs c i arg7 harg7 arg8 harg8 arg9 harg9 arg10 harg10 arg11 harg11 T0 T1 T2 T3 T4 x0 x1 x2 x3 p
      (k0_pay1, k0_pay2 x0, k0_pay4 (k0_pay2 x0) x1 x2 x3) := by
  intro K
  unfold owns
  rw [cc0_moe_experts_eq_skeleton]; unfold cc0_moe_experts_skel
  iintro ⟨H0, H1, H2, H3, HT0, HT1, HT2, HT3, HT4, HO, HS0, HS1, Hk⟩
  have hS0 : scX.IsWhole := Memref.isWhole_whole _
  have hS1 : scA.IsWhole := Memref.isWhole_whole _
  have hT0 : tb0.IsWhole := Memref.isWhole_whole _
  have hT1 : tb1.IsWhole := Memref.isWhole_whole _
  have hT2 : tb2.IsWhole := Memref.isWhole_whole _
  have hT3 : tb3.IsWhole := Memref.isWhole_whole _
  have hT4 : tb4.IsWhole := Memref.isWhole_whole _
  sl_exec! (disch := first
    | (guard_target = k0_cond1 _ _ = _; exact k0_h1)
    | (guard_target = k0_cond2 _ _ = _; exact k0_h2)
    | (guard_target = ¬(Scalar.cmpi = _); first | exact k0_h3 | exact k0_h5)
    | (guard_target = Scalar.cmpi = _; first | exact k0_h3 | exact k0_h5)
    | (guard_target = ¬(k0_cond6 _ = _); exact k0_h6))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [HT3]; · iexact HT3
  isplitl [HT4]; · iexact HT4
  isplitl [HO]
  · iexists _; isplitr; swap
    · iexact HO
    · ipureintro
      exact (View.read_writes_full _ _ _ _ _).trans rfl
  isplitl [HS0]
  · iexists _; isplitr; swap
    · iexact HS0
    · ipureintro
      exact (View.read_writes_full _ _ _ _ _).trans (congrArg k0_pay2 (View.readAt_rep_full _ _ _))
  · iexists _; isplitr; swap
    · iexact HS1
    · ipureintro
      exact (View.read_writes_full _ _ _ _ _).trans (pay4_congr ((View.readCov_full _ _ _ _ _).trans (congrArg k0_pay2 (View.readAt_rep_full _ _ _))) (View.readAt_rep_full _ _ _) (View.readAt_rep_full _ _ _) (View.readAt_rep_full _ _ _))

set_option backward.proofsInPublic true in
set_option maxHeartbeats 8000000 in
/-- A tile's first step without rows, first part. -/
theorem run_E (k0_h1 : k0_cond1 i (wordAt tb4 i T4) = 1#1) (k0_h2 : ¬(k0_cond2 (wordAt tb2 i T2) (wordAt tb3 i T3) = 1#1))
     :
    Runs c i arg7 harg7 arg8 harg8 arg9 harg9 arg10 harg10 arg11 harg11 T0 T1 T2 T3 T4 x0 x1 x2 x3 p
      (k0_pay1, p.2) := by
  intro K
  unfold owns
  rw [cc0_moe_experts_eq_skeleton]; unfold cc0_moe_experts_skel
  iintro ⟨H0, H1, H2, H3, HT0, HT1, HT2, HT3, HT4, HO, HS0, HS1, Hk⟩
  have hS0 : scX.IsWhole := Memref.isWhole_whole _
  have hS1 : scA.IsWhole := Memref.isWhole_whole _
  have hT0 : tb0.IsWhole := Memref.isWhole_whole _
  have hT1 : tb1.IsWhole := Memref.isWhole_whole _
  have hT2 : tb2.IsWhole := Memref.isWhole_whole _
  have hT3 : tb3.IsWhole := Memref.isWhole_whole _
  have hT4 : tb4.IsWhole := Memref.isWhole_whole _
  sl_exec! (disch := first
    | (guard_target = k0_cond1 _ _ = _; exact k0_h1)
    | (guard_target = ¬(k0_cond2 _ _ = _); exact k0_h2))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [HT3]; · iexact HT3
  isplitl [HT4]; · iexact HT4
  isplitl [HO]
  · iexists _; isplitr; swap
    · iexact HO
    · ipureintro
      exact (View.read_writes_full _ _ _ _ _).trans rfl
  isplitl [HS0]
  · iexists _; isplitr; swap
    · iexact HS0
    · ipureintro
      exact View.read_rep _ _
  · iexists _; isplitr; swap
    · iexact HS1
    · ipureintro
      exact View.read_rep _ _

set_option backward.proofsInPublic true in
set_option maxHeartbeats 8000000 in
/-- A later step of a tile, with rows, first part. -/
theorem run_B0 (k0_h1 : ¬(k0_cond1 i (wordAt tb4 i T4) = 1#1)) (k0_h2 : k0_cond2 (wordAt tb2 i T2) (wordAt tb3 i T3) = 1#1)
    (k0_h3 : isFirst i) (k0_h5 : ¬(isLater i)) (k0_h6 : ¬(k0_cond6 i = 1#1)) :
    Runs c i arg7 harg7 arg8 harg8 arg9 harg9 arg10 harg10 arg11 harg11 T0 T1 T2 T3 T4 x0 x1 x2 x3 p
      (p.1, k0_pay2 x0, k0_pay4 (k0_pay2 x0) x1 x2 x3) := by
  intro K
  unfold owns
  rw [cc0_moe_experts_eq_skeleton]; unfold cc0_moe_experts_skel
  iintro ⟨H0, H1, H2, H3, HT0, HT1, HT2, HT3, HT4, HO, HS0, HS1, Hk⟩
  have hS0 : scX.IsWhole := Memref.isWhole_whole _
  have hS1 : scA.IsWhole := Memref.isWhole_whole _
  have hT0 : tb0.IsWhole := Memref.isWhole_whole _
  have hT1 : tb1.IsWhole := Memref.isWhole_whole _
  have hT2 : tb2.IsWhole := Memref.isWhole_whole _
  have hT3 : tb3.IsWhole := Memref.isWhole_whole _
  have hT4 : tb4.IsWhole := Memref.isWhole_whole _
  sl_exec! (disch := first
    | (guard_target = ¬(k0_cond1 _ _ = _); exact k0_h1)
    | (guard_target = k0_cond2 _ _ = _; exact k0_h2)
    | (guard_target = ¬(Scalar.cmpi = _); first | exact k0_h3 | exact k0_h5)
    | (guard_target = Scalar.cmpi = _; first | exact k0_h3 | exact k0_h5)
    | (guard_target = ¬(k0_cond6 _ = _); exact k0_h6))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [HT3]; · iexact HT3
  isplitl [HT4]; · iexact HT4
  isplitl [HO]
  · iexists _; isplitr; swap
    · iexact HO
    · ipureintro
      exact View.read_rep _ _
  isplitl [HS0]
  · iexists _; isplitr; swap
    · iexact HS0
    · ipureintro
      exact (View.read_writes_full _ _ _ _ _).trans (congrArg k0_pay2 (View.readAt_rep_full _ _ _))
  · iexists _; isplitr; swap
    · iexact HS1
    · ipureintro
      exact (View.read_writes_full _ _ _ _ _).trans (pay4_congr ((View.readCov_full _ _ _ _ _).trans (congrArg k0_pay2 (View.readAt_rep_full _ _ _))) (View.readAt_rep_full _ _ _) (View.readAt_rep_full _ _ _) (View.readAt_rep_full _ _ _))

set_option backward.proofsInPublic true in
set_option maxHeartbeats 8000000 in
/-- A step with rows, a part between the first and the last. -/
theorem run_B (k0_h1 : ¬(k0_cond1 i (wordAt tb4 i T4) = 1#1)) (k0_h2 : k0_cond2 (wordAt tb2 i T2) (wordAt tb3 i T3) = 1#1)
    (k0_h3 : ¬(isFirst i)) (k0_h5 : isLater i) (k0_h6 : ¬(k0_cond6 i = 1#1)) :
    Runs c i arg7 harg7 arg8 harg8 arg9 harg9 arg10 harg10 arg11 harg11 T0 T1 T2 T3 T4 x0 x1 x2 x3 p
      (p.1, p.2.1, k0_pay5 p.2.1 x1 x2 x3 p.2.2) := by
  intro K
  unfold owns
  rw [cc0_moe_experts_eq_skeleton]; unfold cc0_moe_experts_skel
  iintro ⟨H0, H1, H2, H3, HT0, HT1, HT2, HT3, HT4, HO, HS0, HS1, Hk⟩
  have hS0 : scX.IsWhole := Memref.isWhole_whole _
  have hS1 : scA.IsWhole := Memref.isWhole_whole _
  have hT0 : tb0.IsWhole := Memref.isWhole_whole _
  have hT1 : tb1.IsWhole := Memref.isWhole_whole _
  have hT2 : tb2.IsWhole := Memref.isWhole_whole _
  have hT3 : tb3.IsWhole := Memref.isWhole_whole _
  have hT4 : tb4.IsWhole := Memref.isWhole_whole _
  sl_exec! (disch := first
    | (guard_target = ¬(k0_cond1 _ _ = _); exact k0_h1)
    | (guard_target = k0_cond2 _ _ = _; exact k0_h2)
    | (guard_target = ¬(Scalar.cmpi = _); first | exact k0_h3 | exact k0_h5)
    | (guard_target = Scalar.cmpi = _; first | exact k0_h3 | exact k0_h5)
    | (guard_target = ¬(k0_cond6 _ = _); exact k0_h6))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [HT3]; · iexact HT3
  isplitl [HT4]; · iexact HT4
  isplitl [HO]
  · iexists _; isplitr; swap
    · iexact HO
    · ipureintro
      exact View.read_rep _ _
  isplitl [HS0]
  · iexists _; isplitr; swap
    · iexact HS0
    · ipureintro
      exact View.read_rep _ _
  · iexists _; isplitr; swap
    · iexact HS1
    · ipureintro
      exact (View.read_writes_full _ _ _ _ _).trans (pay5_congr (View.readAt_rep_full _ _ _) (View.readAt_rep_full _ _ _) (View.readAt_rep_full _ _ _) (View.readAt_rep_full _ _ _) (View.readAt_rep_full _ _ _))

set_option backward.proofsInPublic true in
set_option maxHeartbeats 8000000 in
/-- A step with rows, last part. -/
theorem run_C (k0_h1 : ¬(k0_cond1 i (wordAt tb4 i T4) = 1#1)) (k0_h2 : k0_cond2 (wordAt tb2 i T2) (wordAt tb3 i T3) = 1#1)
    (k0_h3 : ¬(isFirst i)) (k0_h5 : isLater i) (k0_h6 : k0_cond6 i = 1#1) :
    Runs c i arg7 harg7 arg8 harg8 arg9 harg9 arg10 harg10 arg11 harg11 T0 T1 T2 T3 T4 x0 x1 x2 x3 p
      (k0_pay6 (wordAt tb2 i T2) (wordAt tb3 i T3) (k0_pay5 p.2.1 x1 x2 x3 p.2.2) p.1, p.2.1, k0_pay5 p.2.1 x1 x2 x3 p.2.2) := by
  intro K
  unfold owns
  rw [cc0_moe_experts_eq_skeleton]; unfold cc0_moe_experts_skel
  iintro ⟨H0, H1, H2, H3, HT0, HT1, HT2, HT3, HT4, HO, HS0, HS1, Hk⟩
  have hS0 : scX.IsWhole := Memref.isWhole_whole _
  have hS1 : scA.IsWhole := Memref.isWhole_whole _
  have hT0 : tb0.IsWhole := Memref.isWhole_whole _
  have hT1 : tb1.IsWhole := Memref.isWhole_whole _
  have hT2 : tb2.IsWhole := Memref.isWhole_whole _
  have hT3 : tb3.IsWhole := Memref.isWhole_whole _
  have hT4 : tb4.IsWhole := Memref.isWhole_whole _
  sl_exec! (disch := first
    | (guard_target = ¬(k0_cond1 _ _ = _); exact k0_h1)
    | (guard_target = k0_cond2 _ _ = _; exact k0_h2)
    | (guard_target = ¬(Scalar.cmpi = _); first | exact k0_h3 | exact k0_h5)
    | (guard_target = Scalar.cmpi = _; first | exact k0_h3 | exact k0_h5)
    | (guard_target = k0_cond6 _ = _; exact k0_h6))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [HT3]; · iexact HT3
  isplitl [HT4]; · iexact HT4
  isplitl [HO]
  · iexists _; isplitr; swap
    · iexact HO
    · ipureintro
      exact (View.read_writes_full _ _ _ _ _).trans (pay6_congr rfl rfl ((View.readCov_full _ _ _ _ _).trans (pay5_congr (View.readAt_rep_full _ _ _) (View.readAt_rep_full _ _ _) (View.readAt_rep_full _ _ _) (View.readAt_rep_full _ _ _) (View.readAt_rep_full _ _ _))) (View.readAt_rep_full _ _ _))
  isplitl [HS0]
  · iexists _; isplitr; swap
    · iexact HS0
    · ipureintro
      exact View.read_rep _ _
  · iexists _; isplitr; swap
    · iexact HS1
    · ipureintro
      exact (View.read_writes_full _ _ _ _ _).trans (pay5_congr (View.readAt_rep_full _ _ _) (View.readAt_rep_full _ _ _) (View.readAt_rep_full _ _ _) (View.readAt_rep_full _ _ _) (View.readAt_rep_full _ _ _))

set_option backward.proofsInPublic true in
set_option maxHeartbeats 8000000 in
/-- A step without rows. -/
theorem run_D (k0_h1 : ¬(k0_cond1 i (wordAt tb4 i T4) = 1#1)) (k0_h2 : ¬(k0_cond2 (wordAt tb2 i T2) (wordAt tb3 i T3) = 1#1))
     :
    Runs c i arg7 harg7 arg8 harg8 arg9 harg9 arg10 harg10 arg11 harg11 T0 T1 T2 T3 T4 x0 x1 x2 x3 p
      p := by
  intro K
  unfold owns
  rw [cc0_moe_experts_eq_skeleton]; unfold cc0_moe_experts_skel
  iintro ⟨H0, H1, H2, H3, HT0, HT1, HT2, HT3, HT4, HO, HS0, HS1, Hk⟩
  have hS0 : scX.IsWhole := Memref.isWhole_whole _
  have hS1 : scA.IsWhole := Memref.isWhole_whole _
  have hT0 : tb0.IsWhole := Memref.isWhole_whole _
  have hT1 : tb1.IsWhole := Memref.isWhole_whole _
  have hT2 : tb2.IsWhole := Memref.isWhole_whole _
  have hT3 : tb3.IsWhole := Memref.isWhole_whole _
  have hT4 : tb4.IsWhole := Memref.isWhole_whole _
  sl_exec! (disch := first
    | (guard_target = ¬(k0_cond1 _ _ = _); exact k0_h1)
    | (guard_target = ¬(k0_cond2 _ _ = _); exact k0_h2))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [HT3]; · iexact HT3
  isplitl [HT4]; · iexact HT4
  isplitl [HO]
  · iexists _; isplitr; swap
    · iexact HO
    · ipureintro
      exact View.read_rep _ _
  isplitl [HS0]
  · iexists _; isplitr; swap
    · iexact HS0
    · ipureintro
      exact View.read_rep _ _
  · iexists _; isplitr; swap
    · iexact HS1
    · ipureintro
      exact View.read_rep _ _

/-- The body at any point and any table contents: `step`. -/
theorem run_step : Runs c i arg7 harg7 arg8 harg8 arg9 harg9 arg10 harg10 arg11 harg11 T0 T1 T2 T3 T4 x0 x1 x2 x3 p
    (step i x0 x1 x2 x3 (wordAt tb2 i T2) (wordAt tb3 i T3) (wordAt tb4 i T4) p) := by
  by_cases h1 : k0_cond1 i (wordAt tb4 i T4) = 1#1
  · have h0 := (cond1_iff i _).1 h1
    by_cases h2 : k0_cond2 (wordAt tb2 i T2) (wordAt tb3 i T3) = 1#1
    · have e : step i x0 x1 x2 x3 (wordAt tb2 i T2) (wordAt tb3 i T3) (wordAt tb4 i T4) p
          = (k0_pay1, k0_pay2 x0, k0_pay4 (k0_pay2 x0) x1 x2 x3) := by
        simp only [step, h1, h2, h0.1, ↓reduceIte, show ¬(0 = 6) by decide]
      rw [e]
      exact run_A c i arg7 harg7 arg8 harg8 arg9 harg9 arg10 harg10 arg11 harg11 T0 T1 T2 T3 T4 x0 x1 x2 x3 p h1 h2
        ((isFirst_iff i).2 h0.1) (fun h => absurd ((isLater_iff i).1 h) (by omega)) (fun h => absurd ((cond6_iff i).1 h) (by omega))
    · have e : step i x0 x1 x2 x3 (wordAt tb2 i T2) (wordAt tb3 i T3) (wordAt tb4 i T4) p = (k0_pay1, p.2) := by
        simp only [step, h1, h2, ↓reduceIte]
      rw [e]
      exact run_E c i arg7 harg7 arg8 harg8 arg9 harg9 arg10 harg10 arg11 harg11 T0 T1 T2 T3 T4 x0 x1 x2 x3 p h1 h2
  · by_cases h2 : k0_cond2 (wordAt tb2 i T2) (wordAt tb3 i T3) = 1#1
    · by_cases h0 : (i 1).val = 0
      · have e : step i x0 x1 x2 x3 (wordAt tb2 i T2) (wordAt tb3 i T3) (wordAt tb4 i T4) p
            = (p.1, k0_pay2 x0, k0_pay4 (k0_pay2 x0) x1 x2 x3) := by
          simp only [step, h1, h2, h0, ↓reduceIte, show ¬(0 = 6) by decide]
        rw [e]
        exact run_B0 c i arg7 harg7 arg8 harg8 arg9 harg9 arg10 harg10 arg11 harg11 T0 T1 T2 T3 T4 x0 x1 x2 x3 p h1 h2
          ((isFirst_iff i).2 h0) (fun h => absurd ((isLater_iff i).1 h) (by omega)) (fun h => absurd ((cond6_iff i).1 h) (by omega))
      · by_cases h6 : (i 1).val = 6
        · have e : step i x0 x1 x2 x3 (wordAt tb2 i T2) (wordAt tb3 i T3) (wordAt tb4 i T4) p
              = (k0_pay6 (wordAt tb2 i T2) (wordAt tb3 i T3) (k0_pay5 p.2.1 x1 x2 x3 p.2.2) p.1, p.2.1, k0_pay5 p.2.1 x1 x2 x3 p.2.2) := by
            simp only [step, h1, h2, h6, ↓reduceIte, show ¬(6 = 0) by decide]
          rw [e]
          exact run_C c i arg7 harg7 arg8 harg8 arg9 harg9 arg10 harg10 arg11 harg11 T0 T1 T2 T3 T4 x0 x1 x2 x3 p h1 h2
            (fun h => h0 ((isFirst_iff i).1 h)) ((isLater_iff i).2 (by omega)) ((cond6_iff i).2 h6)
        · have e : step i x0 x1 x2 x3 (wordAt tb2 i T2) (wordAt tb3 i T3) (wordAt tb4 i T4) p
              = (p.1, p.2.1, k0_pay5 p.2.1 x1 x2 x3 p.2.2) := by
            simp only [step, h1, h2, h0, h6, ↓reduceIte]
          rw [e]
          exact run_B c i arg7 harg7 arg8 harg8 arg9 harg9 arg10 harg10 arg11 harg11 T0 T1 T2 T3 T4 x0 x1 x2 x3 p h1 h2
            (fun h => h0 ((isFirst_iff i).1 h)) ((isLater_iff i).2 (by omega)) (fun h => h6 ((cond6_iff i).1 h))
    · have e : step i x0 x1 x2 x3 (wordAt tb2 i T2) (wordAt tb3 i T3) (wordAt tb4 i T4) p = p := by
        simp only [step, h1, h2, ↓reduceIte]
      rw [e]
      exact run_D c i arg7 harg7 arg8 harg8 arg9 harg9 arg10 harg10 arg11 harg11 T0 T1 T2 T3 T4 x0 x1 x2 x3 p h1 h2

end runs

end Cert.ExpertsIdeal.Sched

end
-- ==== Proof.Tables.lean ====
/- The tables of the experts' call: what is asked of them, the blocks that the index maps then name, and what a step, its part
   and the schedule's order say about the output block. -/
module

public import proofs.«01_k».proof.Proof.Steps

@[expose] public section

set_option maxRecDepth 16384

noncomputable section

namespace Cert.ExpertsIdeal.Sched

open Cert.ExpertsIdeal Cert.ExpertsIdeal.Gen
open Idealize.ShloMosaic Idealize.ShloMosaic.TcCoe
open Idealize.SL.Sem

variable {F : FTy → Type} [FloatOps F]

/-- The five tables of a launch. -/
structure Tables where
  (tile ex lo hi first : S71.Idx → BitVec 32)

/-- What is asked of the tables. -/
structure Tables.Valid (T : Tables) : Prop where
  tile_lt : ∀ s, (T.tile (ix1 s)).toNat < 64
  ex_lt : ∀ s, (T.ex (ix1 s)).toNat < 8
  lo_nonneg : ∀ s, 0 ≤ (T.lo (ix1 s)).toInt
  hi_le : ∀ s, (T.hi (ix1 s)).toInt ≤ 1024
  tile_zero : (T.tile (ix1 0)).toNat = 0
  tile_last : (T.tile (ix1 70)).toNat = 63
  tile_mono : ∀ (s : ℕ) (h : s + 1 < 71), (T.tile (ix1 ⟨s, by omega⟩)).toNat ≤ (T.tile (ix1 ⟨s + 1, h⟩)).toNat
  tile_step : ∀ (s : ℕ) (h : s + 1 < 71), (T.tile (ix1 ⟨s + 1, h⟩)).toNat ≤ (T.tile (ix1 ⟨s, by omega⟩)).toNat + 1
  first_zero : T.first (ix1 0) = 1#32
  first_succ : ∀ (s : ℕ) (h : s + 1 < 71), T.first (ix1 ⟨s + 1, h⟩) = 1#32 ↔ T.tile (ix1 ⟨s, by omega⟩) ≠ T.tile (ix1 ⟨s + 1, h⟩)
  apart : ∀ s s', T.tile (ix1 s) = T.tile (ix1 s') → ∀ r : ℤ, (T.lo (ix1 s)).toInt ≤ r → r < (T.hi (ix1 s)).toInt →
    (T.lo (ix1 s')).toInt ≤ r → r < (T.hi (ix1 s')).toInt → T.ex (ix1 s) = T.ex (ix1 s')

/-- The prefetched contents that the tables are. -/
def Tables.pf (T : Tables) : pre0.Contents (Elt F) :=
  fun | ⟨0, _⟩ => T.tile | ⟨1, _⟩ => T.ex | ⟨2, _⟩ => T.lo | ⟨3, _⟩ => T.hi | ⟨4, _⟩ => T.first | ⟨_ + 5, h⟩ => absurd h (by simp)

/-! ## A step's word -/

theorem word2 (i : grid0.Coords) (T : S71.Idx → BitVec 32) : wordAt (F := F) tb2 i T = T (ix1 (i 0)) :=
  congrArg T (funext fun a => Fin.ext (by
    have h := off1_val i a
    show k0_off1 i a + 1 * 0 = _
    rw [h]; rfl))

theorem word3 (i : grid0.Coords) (T : S71.Idx → BitVec 32) : wordAt (F := F) tb3 i T = T (ix1 (i 0)) := word2 (F := F) i T
theorem word4 (i : grid0.Coords) (T : S71.Idx → BitVec 32) : wordAt (F := F) tb4 i T = T (ix1 (i 0)) := word2 (F := F) i T

theorem emb_off1 (i : grid0.Coords) (h : ∀ a, k0_off1 i a + S1.size a ≤ S71.size a) (n : S1.numel = 1) :
    (Rect.unit (s := S71) (k0_off1 i) S1.size h).emb (Shape.Idx.first (n.symm ▸ Nat.one_pos)) = ix1 (i 0) :=
  funext fun a => Fin.ext (by
    have h := off1_val i a
    show k0_off1 i a + 1 * 0 = _
    rw [h]; rfl)

theorem at_off1 (T : Tables) (i : grid0.Coords) :
    (T.pf (F := F)).atD 4 (k0_off1 i) = T.first (ix1 (i 0)) ∧ (T.pf (F := F)).atD 2 (k0_off1 i) = T.lo (ix1 (i 0))
      ∧ (T.pf (F := F)).atD 3 (k0_off1 i) = T.hi (ix1 (i 0)) := by
  have hb : ∀ a : Fin 1, k0_off1 i a + 1 ≤ S71.size a := fun a => by
    rw [off1_val]; fin_cases a; exact (i 0).isLt
  have e : (fun a : Fin 1 => (⟨k0_off1 i a, hb a⟩ : Fin (S71.size a))) = ix1 (i 0) := funext fun a => Fin.ext (off1_val i a)
  refine ⟨?_, ?_, ?_⟩
  · exact (dif_pos hb).trans (congrArg T.first e)
  · exact (dif_pos hb).trans (congrArg T.lo e)
  · exact (dif_pos hb).trans (congrArg T.hi e)

/-! ## The blocks -/

/-- The part of the weights that a point works on: its own, or for a step without rows the last. -/
def part (T : Tables) (i : grid0.Coords) : ℕ := if (T.lo (ix1 (i 0))).toInt < (T.hi (ix1 (i 0))).toInt then (i 1).val else 6

theorem part_lt (T : Tables) (i : grid0.Coords) : part T i < 7 := by
  have h : (i 1).val < 7 := (i 1).isLt
  unfold part; split <;> omega

theorem select_part (T : Tables) (i : grid0.Coords) :
    (Scalar.select (Scalar.cmpi .sgt (T.hi (ix1 (i 0))) (T.lo (ix1 (i 0)))) (BitVec.ofNat 32 (i 1).val) 6#32).toNat = part T i := by
  have h : (i 1).val < 7 := (i 1).isLt
  have e : Scalar.cmpi .sgt (T.hi (ix1 (i 0))) (T.lo (ix1 (i 0))) = BitVec.ofBool ((T.lo (ix1 (i 0))).slt (T.hi (ix1 (i 0)))) := rfl
  unfold part
  rw [e]
  by_cases hb : (T.lo (ix1 (i 0))).toInt < (T.hi (ix1 (i 0))).toInt
  · rw [if_pos hb, BitVec.slt_iff_toInt_lt.2 hb]
    show (BitVec.ofNat 32 (i 1).val).toNat = _
    rw [BitVec.toNat_ofNat]; omega
  · rw [if_neg hb, Bool.eq_false_iff.2 (fun h => hb (BitVec.slt_iff_toInt_lt.1 h))]
    rfl

theorem tr0 (T : Tables) (i : grid0.Coords) :
    cc0_transform_0 k0_off1_inb numel1_S1 (T.pf (F := F)) i = ![(T.tile (ix1 (i 0))).toNat, 0] := by
  have e := congrArg T.tile (emb_off1 i (k0_off1_inb i) numel1_S1)
  exact congrArg (fun w : BitVec 32 => ![w.toNat, 0]) e

theorem tr4 (T : Tables) (i : grid0.Coords) :
    cc0_transform_4 k0_off1_inb numel1_S1 (T.pf (F := F)) i = ![(T.tile (ix1 (i 0))).toNat, 0] := tr0 (F := F) T i

theorem tr1 (T : Tables) (i : grid0.Coords) :
    cc0_transform_1 k0_off1_inb numel1_S1 (T.pf (F := F)) i = ![(T.ex (ix1 (i 0))).toNat, 0, part T i] := by
  have e1 := congrArg T.ex (emb_off1 i (k0_off1_inb i) numel1_S1)
  have e2 := congrArg T.lo (emb_off1 i (k0_off1_inb i) numel1_S1)
  have e3 := congrArg T.hi (emb_off1 i (k0_off1_inb i) numel1_S1)
  rw [← select_part, ← e1, ← e2, ← e3]
  rfl

theorem tr2 (T : Tables) (i : grid0.Coords) :
    cc0_transform_2 k0_off1_inb numel1_S1 (T.pf (F := F)) i = ![(T.ex (ix1 (i 0))).toNat, 0, part T i] := tr1 (F := F) T i

theorem tr3 (T : Tables) (i : grid0.Coords) :
    cc0_transform_3 k0_off1_inb numel1_S1 (T.pf (F := F)) i = ![(T.ex (ix1 (i 0))).toNat, part T i, 0] := by
  have e1 := congrArg T.ex (emb_off1 i (k0_off1_inb i) numel1_S1)
  have e2 := congrArg T.lo (emb_off1 i (k0_off1_inb i) numel1_S1)
  have e3 := congrArg T.hi (emb_off1 i (k0_off1_inb i) numel1_S1)
  rw [← select_part, ← e1, ← e2, ← e3]
  rfl

/-- Every block lies in its array. -/
theorem ok (T : Tables) (hT : T.Valid) : ok0 (T.pf (F := F)) := by
  have b0 : ∀ i : grid0.Coords, ∀ a, (cc0_transform_0 k0_off1_inb numel1_S1 (T.pf (F := F)) i a + 1) * S1024x1024.size a ≤ S65536x1024.size a := by
    intro i a
    have h := hT.tile_lt (i 0)
    rw [tr0]
    fin_cases a
    · show ((T.tile (ix1 (i 0))).toNat + 1) * 1024 ≤ 65536; omega
    · show (0 + 1) * 1024 ≤ 1024; omega
  have b1 : ∀ i : grid0.Coords, ∀ a, (cc0_transform_1 k0_off1_inb numel1_S1 (T.pf (F := F)) i a + 1) * S1x1024x512.size a ≤ S8x1024x3584.size a := by
    intro i a
    have h := hT.ex_lt (i 0)
    have h' := part_lt T i
    rw [tr1]
    fin_cases a
    · show ((T.ex (ix1 (i 0))).toNat + 1) * 1 ≤ 8; omega
    · show (0 + 1) * 1024 ≤ 1024; omega
    · show (part T i + 1) * 512 ≤ 3584; omega
  have b3 : ∀ i : grid0.Coords, ∀ a, (cc0_transform_3 k0_off1_inb numel1_S1 (T.pf (F := F)) i a + 1) * S1x512x1024.size a ≤ S8x3584x1024.size a := by
    intro i a
    have h := hT.ex_lt (i 0)
    have h' := part_lt T i
    rw [tr3]
    fin_cases a
    · show ((T.ex (ix1 (i 0))).toNat + 1) * 1 ≤ 8; omega
    · show (part T i + 1) * 512 ≤ 3584; omega
    · show (0 + 1) * 1024 ≤ 1024; omega
  exact ⟨fun i => ⟨b0 i, .inl rfl⟩,
    fun i => ⟨b1 i, .inr (Affine.block_words_dvd (s := S8x1024x3584) (p := EltTy.packing .bf16) (by decide) (by decide))⟩,
    fun i => ⟨b1 i, .inr (Affine.block_words_dvd (s := S8x1024x3584) (p := EltTy.packing .bf16) (by decide) (by decide))⟩,
    fun i => ⟨b3 i, .inr (Affine.block_words_dvd (s := S8x3584x1024) (p := EltTy.packing .bf16) (by decide) (by decide))⟩,
    fun i => ⟨b0 i, .inl rfl⟩⟩

/-! ## The points in order -/

theorem coords0 : ∀ t : Fin grid0.N, (grid0.coords t 0).val = t.val / 7 := by decide +kernel
theorem coords1 : ∀ t : Fin grid0.N, (grid0.coords t 1).val = t.val % 7 := by decide +kernel

section order

variable (T : Tables) (hT : T.Valid)

/-- The call at the tables, on its grid of 497 points. -/
abbrev adm : (pcfg0 (F := F)).Adm := ⟨T.pf, ok T hT⟩
abbrev cfgA : Pipeline.Cfg sig Λ₀ := cfg0 (F := F) (adm T hT)

theorem index4 (t : Fin (cfgA (F := F) T hT).N) :
    ((cfgA (F := F) T hT).win (4 : Fin 5)).index t = ![(T.tile (ix1 (grid0.coords t 0))).toNat, 0] := tr4 (F := F) T (grid0.coords t)

/-- The output block is idle where the body stores nothing in it. -/
theorem idle4 (i : grid0.Coords) :
    (cfgA (F := F) T hT).idle (4 : Fin 5) i = (!(k0_cond1 i (T.first (ix1 (i 0))) == 1#1)
      && !(k0_cond2 (T.lo (ix1 (i 0))) (T.hi (ix1 (i 0))) == 1#1 && k0_cond6 i == 1#1)) := by
  obtain ⟨h4, h2, h3⟩ := at_off1 (F := F) T i
  show (!(k0_cond1 i ((T.pf (F := F)).atD 4 (k0_off1 i)) == 1#1) && !(k0_cond2 ((T.pf (F := F)).atD 2 (k0_off1 i)) ((T.pf (F := F)).atD 3 (k0_off1 i)) == 1#1
    && k0_cond6 i == 1#1)) = _
  rw [h4, h2, h3]

theorem isOut4 : ((cfgA (F := F) T hT).win (4 : Fin 5)).isOut = true := rfl

/-- A block is written back after the last point, and after a tile's last step. -/
theorem flush4 (t : Fin (cfgA (F := F) T hT).N) : ((cfgA (F := F) T hT).win (4 : Fin 5)).flush t = true ↔
    t.val = 496 ∨ ∃ h : t.val / 7 + 1 < 71, t.val % 7 = 6
      ∧ T.tile (ix1 ⟨t.val / 7, by omega⟩) ≠ T.tile (ix1 ⟨t.val / 7 + 1, h⟩) := by
  have hN : (cfgA (F := F) T hT).N = 497 := N_0
  have ht : t.val < 497 := t.isLt
  rw [Pipeline.Window.flush_eq_flushF]
  unfold Pipeline.Window.flushF
  rw [isOut4, Bool.true_and, Bool.or_eq_true, decide_eq_true_iff, decide_eq_true_iff]
  refine or_congr ⟨fun h => ?_, fun h => ?_⟩ ⟨?_, ?_⟩
  · have : t.val + 1 = 497 := h
    omega
  · show t.val + 1 = 497; omega
  · rintro ⟨h, a, ha⟩
    have h' : t.val + 1 < 497 := h
    have e := fun h => ha (congrFun (h : ((cfgA (F := F) T hT).win (4 : Fin 5)).index ⟨t.val + 1, h'⟩ = ((cfgA (F := F) T hT).win (4 : Fin 5)).index t) a)
    rw [index4, index4] at e
    have q : grid0.coords ⟨t.val + 1, h'⟩ 0 ≠ grid0.coords t 0 := fun h => e (by rw [h])
    have q' : (t.val + 1) / 7 ≠ t.val / 7 := fun h => q (Fin.ext (by rw [coords0, coords0]; exact h))
    refine ⟨by omega, by omega, fun h => e ?_⟩
    have e0 : grid0.coords t 0 = (⟨t.val / 7, by omega⟩ : Fin 71) := Fin.ext (coords0 t)
    have e1 : grid0.coords ⟨t.val + 1, h'⟩ 0 = (⟨t.val / 7 + 1, by omega⟩ : Fin 71) := Fin.ext ((coords0 ⟨t.val + 1, h'⟩).trans (by show (t.val + 1) / 7 = t.val / 7 + 1; omega))
    rw [e0, e1, h]
  · rintro ⟨h, h6, hne⟩
    have h' : t.val + 1 < 497 := by omega
    refine ⟨h', 0, ?_⟩
    have e0 : grid0.coords t 0 = (⟨t.val / 7, by omega⟩ : Fin 71) := Fin.ext (coords0 t)
    have e1 : grid0.coords ⟨t.val + 1, h'⟩ 0 = (⟨t.val / 7 + 1, by omega⟩ : Fin 71) := Fin.ext ((coords0 ⟨t.val + 1, h'⟩).trans (by show (t.val + 1) / 7 = t.val / 7 + 1; omega))
    rw [index4, index4, e0, e1]
    exact fun h => hne (BitVec.eq_of_toNat_eq h.symm)

/-- The body starts the block at a tile's first point. -/
theorem cond1_first (t : Fin (cfgA (F := F) T hT).N) (h7 : t.val % 7 = 0) (h : T.first (ix1 (grid0.coords t 0)) = 1#32) :
    k0_cond1 (grid0.coords t) (T.first (ix1 (grid0.coords t 0))) = 1#1 :=
  (cond1_iff _ _).2 ⟨(coords1 t).trans h7, h⟩

/-- Nothing is stored yet only where the body starts the block. -/
theorem fresh4 : ∀ (n : ℕ) (hn : n < 497), (cfgA (F := F) T hT).fresh (4 : Fin 5) n = true →
    n % 7 = 0 ∧ T.first (ix1 (grid0.coords ⟨n, hn⟩ 0)) = 1#32
  | 0, hn, _ => ⟨rfl, by
      have e : grid0.coords ⟨0, hn⟩ 0 = (0 : Fin 71) := Fin.ext ((coords0 ⟨0, hn⟩).trans (by show 0 / 7 = 0; rfl))
      rw [e]; exact hT.first_zero⟩
  | n + 1, hn, h => by
    have hn' : n < 497 := by omega
    have hN : n < (cfgA (F := F) T hT).N := hn'
    rw [Pipeline.Cfg.fresh_succ (cfgA (F := F) T hT) (4 : Fin 5) n hn', Bool.or_eq_true, Bool.and_eq_true] at h
    rcases h with h | ⟨hi, hf⟩
    · rcases (flush4 T hT ⟨n, hN⟩).1 h with h | ⟨h, h6, hne⟩
      · have : n = 496 := h
        omega
      · have h6' : n % 7 = 6 := h6
        have e : grid0.coords ⟨n + 1, hn⟩ 0 = (⟨n / 7 + 1, h⟩ : Fin 71) := Fin.ext ((coords0 ⟨n + 1, hn⟩).trans (by show (n + 1) / 7 = n / 7 + 1; omega))
        exact ⟨by omega, by rw [e]; exact (hT.first_succ _ h).2 hne⟩
    · obtain ⟨h7, h1⟩ := fresh4 n hn' hf
      have hi' := (idle4 (F := F) T hT (grid0.coords ⟨n, hn'⟩)).symm.trans hi
      rw [cond1_first (F := F) T hT ⟨n, hN⟩ h7 h1] at hi'
      exact absurd hi' (by simp)

end order

end Cert.ExpertsIdeal.Sched

end
-- ==== Proof.Launch.lean ====
/- The experts' call run whole: what the output block and the scratch buffers hold after each grid point, the body at a point,
   and the launch: it terminates, faults nowhere and leaves every argument as it was. -/
module

public import proofs.«01_k».proof.Proof.Tables

@[expose] public section

set_option maxRecDepth 16384

noncomputable section

namespace Cert.ExpertsIdeal.Sched

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The resources of the pipeline's own cells. -/
abbrev EP : Emb (UR sig nD τ) 𝕄 := emb₁

variable (T : Tables) (hT : T.Valid)
variable (m : (ℓ : Loc nD τ sig) → Buf (Elt F) ℓ) (ρ : Dev nD → PrngReg)

abbrev pcs : Fin 1 → Pipeline.Cfg sig Λ₀ := Pipeline.pin (pcfgs (F := F)) fun _ => adm T hT

/-- The memory at launch. -/
abbrev s₀ : MemSt nD τ sig (Elt F) := ⟨m, fun _ => 0, ρ⟩

/-! ## A point's coordinates, words, buffers and blocks -/

abbrev crd (t : Fin (cfgA (F := F) T hT).N) : grid0.Coords := grid0.coords t
abbrev exW (t : Fin (cfgA (F := F) T hT).N) : BitVec 32 := T.ex (ix1 (crd (F := F) T hT t 0))
abbrev loW (t : Fin (cfgA (F := F) T hT).N) : BitVec 32 := T.lo (ix1 (crd (F := F) T hT t 0))
abbrev hiW (t : Fin (cfgA (F := F) T hT).N) : BitVec 32 := T.hi (ix1 (crd (F := F) T hT t 0))
abbrev firstW (t : Fin (cfgA (F := F) T hT).N) : BitVec 32 := T.first (ix1 (crd (F := F) T hT t 0))

abbrev st0 (t : Fin (cfgA (F := F) T hT).N) : Memref sig .tc .vmem S1024x1024 .f32 := spec0_0.stage ((cfgA (F := F) T hT).slots t (0 : Fin 5))
abbrev wh0 (t : Fin (cfgA (F := F) T hT).N) : (st0 (F := F) T hT t).IsWhole := hstage0_0 (((cfgA (F := F) T hT).slots t (0 : Fin 5)).cast nbuf0_0)
abbrev st1 (t : Fin (cfgA (F := F) T hT).N) : Memref sig .tc .vmem S1x1024x512 .bf16 := spec0_1.stage ((cfgA (F := F) T hT).slots t (1 : Fin 5))
abbrev wh1 (t : Fin (cfgA (F := F) T hT).N) : (st1 (F := F) T hT t).IsWhole := hstage0_1 (((cfgA (F := F) T hT).slots t (1 : Fin 5)).cast nbuf0_1)
abbrev st2 (t : Fin (cfgA (F := F) T hT).N) : Memref sig .tc .vmem S1x1024x512 .bf16 := spec0_2.stage ((cfgA (F := F) T hT).slots t (2 : Fin 5))
abbrev wh2 (t : Fin (cfgA (F := F) T hT).N) : (st2 (F := F) T hT t).IsWhole := hstage0_2 (((cfgA (F := F) T hT).slots t (2 : Fin 5)).cast nbuf0_2)
abbrev st3 (t : Fin (cfgA (F := F) T hT).N) : Memref sig .tc .vmem S1x512x1024 .bf16 := spec0_3.stage ((cfgA (F := F) T hT).slots t (3 : Fin 5))
abbrev wh3 (t : Fin (cfgA (F := F) T hT).N) : (st3 (F := F) T hT t).IsWhole := hstage0_3 (((cfgA (F := F) T hT).slots t (3 : Fin 5)).cast nbuf0_3)
abbrev st4 (t : Fin (cfgA (F := F) T hT).N) : Memref sig .tc .vmem S1024x1024 .f32 := spec0_4.stage ((cfgA (F := F) T hT).slots t (4 : Fin 5))
abbrev wh4 (t : Fin (cfgA (F := F) T hT).N) : (st4 (F := F) T hT t).IsWhole := hstage0_4 (((cfgA (F := F) T hT).slots t (4 : Fin 5)).cast nbuf0_4)

/-- Window `w`'s block at point `t`, read off its array at launch. -/
def inBlk (c : Dev nD) (w : Fin (cfgA (F := F) T hT).W) (t : Fin (cfgA (F := F) T hT).N) :
    (((cfgA (F := F) T hT).win w).xblock (crd (F := F) T hT t)).Idx → Elt F ((cfgA (F := F) T hT).win w).elt :=
  (((cfgA (F := F) T hT).win w).blk t).view.read (Elt F) ((s₀ m ρ).mem (((cfgA (F := F) T hT).win w).arr.view.loc (c : Thread nD τ)))

/-! ## What the output block and the scratch buffers hold -/

/-- The body's step at point `t`. -/
def stepAt (c : Dev nD) (t : Fin (cfgA (F := F) T hT).N) (p : St F) : St F :=
  step (crd (F := F) T hT t) (inBlk T hT m ρ c (0 : Fin 5) t) (inBlk T hT m ρ c (1 : Fin 5) t) (inBlk T hT m ρ c (2 : Fin 5) t)
    (inBlk T hT m ρ c (3 : Fin 5) t) (loW (F := F) T hT t) (hiW (F := F) T hT t) (firstW (F := F) T hT t) p

/-- What they hold before the first point counts for nothing. -/
def start : St F := (k0_pay1, k0_pay2 k0_pay1, k0_pay1)

/-- After point `n`. -/
def traj (c : Dev nD) : (n : ℕ) → n < (cfgA (F := F) T hT).N → St F
  | 0, h => stepAt T hT m ρ c ⟨0, h⟩ start
  | n + 1, h => stepAt T hT m ρ c ⟨n + 1, h⟩ (traj c n (Nat.lt_of_succ_lt h))

/-- Before position `t`. -/
def prevT (c : Dev nD) (t : Fin ((cfgA (F := F) T hT).N + 1)) : St F :=
  if h : t.val = 0 then start else traj T hT m ρ c (t.val - 1) (by omega)

theorem traj_eq (c : Dev nD) (t : Fin (cfgA (F := F) T hT).N) :
    traj T hT m ρ c t.val t.isLt = stepAt T hT m ρ c t (prevT T hT m ρ c t.castSucc) := by
  obtain ⟨n, hn⟩ := t
  cases n with
  | zero => rfl
  | succ n => unfold prevT; simp only [Fin.val_castSucc, Nat.add_one_ne_zero, dif_neg, not_false_eq_true]; rfl

theorem prevT_succ (c : Dev nD) (t : Fin (cfgA (F := F) T hT).N) : prevT T hT m ρ c t.succ = traj T hT m ρ c t.val t.isLt := by
  unfold prevT; simp only [Fin.val_succ, Nat.add_one_ne_zero, ↓reduceDIte, Nat.add_one_sub_one]

theorem prevT_pos (c : Dev nD) (t : Fin (cfgA (F := F) T hT).N) (h : t.val ≠ 0) :
    prevT T hT m ρ c t.castSucc = traj T hT m ρ c (t.val - 1) (by omega) := by
  unfold prevT; rw [dif_neg (by simpa using h)]; rfl

/-- The scratch buffers are in use before position `n`: inside a step that has rows. -/
def Live (n : ℕ) : Prop := n % 7 ≠ 0 ∧ ∃ h : n / 7 < 71, (T.lo (ix1 ⟨n / 7, h⟩)).toInt < (T.hi (ix1 ⟨n / 7, h⟩)).toInt

theorem crd_eq (t : Fin (cfgA (F := F) T hT).N) (h : t.val / 7 < 71) : crd (F := F) T hT t 0 = (⟨t.val / 7, h⟩ : Fin 71) := Fin.ext (coords0 t)

/-- What a step leaves depends on the output block unless it begins a tile, and on the scratch buffers only where they are in use. -/
theorem stepAt_fst (c : Dev nD) (t : Fin (cfgA (F := F) T hT).N) (y y' : Vec F S1024x1024 .f32) (s s' : Vec F S1024x1024 .bf16 × Vec F S1024x1024 .f32)
    (hy : y = y' ∨ k0_cond1 (crd (F := F) T hT t) (firstW (F := F) T hT t) = 1#1) (hs : Live T t.val → s = s') :
    (stepAt T hT m ρ c t (y, s)).1 = (stepAt T hT m ρ c t (y', s')).1 ∧ (Live T (t.val + 1) → (stepAt T hT m ρ c t (y, s)).2 = (stepAt T hT m ρ c t (y', s')).2) := by
  have h1 : (grid0.coords t 1).val = t.val % 7 := coords1 t
  have ht : t.val < 497 := t.isLt
  have e0 := crd_eq (F := F) T hT t (by omega)
  have ey : (if k0_cond1 (crd (F := F) T hT t) (firstW (F := F) T hT t) = 1#1 then k0_pay1 (F := F) else y)
      = if k0_cond1 (crd (F := F) T hT t) (firstW (F := F) T hT t) = 1#1 then k0_pay1 (F := F) else y' := by
    rcases hy with rfl | h
    · rfl
    · rw [if_pos h, if_pos h]
  unfold stepAt step
  by_cases h2 : k0_cond2 (loW (F := F) T hT t) (hiW (F := F) T hT t) = 1#1
  · simp only [h2, ↓reduceIte, ey]
    have hl := (cond2_iff _ _).1 h2
    by_cases hj : (crd (F := F) T hT t 1).val = 0
    · simp only [hj, ↓reduceIte, and_self, implies_true]
    · have : s = s' := hs ⟨fun h => hj (h1.trans h), by omega, by rw [← e0]; exact hl⟩
      subst this
      simp only [hj, ↓reduceIte, and_self, implies_true]
  · simp only [h2, ↓reduceIte, ey, true_and]
    rintro ⟨h7, h', hl⟩
    refine absurd ((cond2_iff _ _).2 ?_) h2
    have e : (⟨(t.val + 1) / 7, h'⟩ : Fin 71) = ⟨t.val / 7, by omega⟩ := Fin.ext (by show (t.val + 1) / 7 = t.val / 7; omega)
    rw [e, ← e0] at hl
    exact hl

/-- Where the body stores nothing in the output block, it keeps it. -/
theorem step_idle (c : Dev nD) (t : Fin (cfgA (F := F) T hT).N) (p : St F) (h : (cfgA (F := F) T hT).idle (4 : Fin 5) (crd (F := F) T hT t) = true) :
    (stepAt T hT m ρ c t p).1 = p.1 := by
  have h' := (idle4 (F := F) T hT (crd (F := F) T hT t)).symm.trans h
  simp only [Bool.and_eq_true, Bool.not_eq_true', beq_eq_false_iff_ne, Bool.and_eq_false_iff] at h'
  obtain ⟨h1, h2⟩ := h'
  unfold stepAt step
  simp only [h1, ↓reduceIte]
  split
  · rename_i hc
    have h6 : ¬(crd (F := F) T hT t 1).val = 6 := fun h => by
      rcases h2 with h2 | h2
      · exact h2 hc
      · exact h2 ((cond6_iff _).2 h)
    simp only [h6, ↓reduceIte]
  · rfl

theorem idle_fresh (t : Fin (cfgA (F := F) T hT).N) (h : (cfgA (F := F) T hT).idle (4 : Fin 5) (crd (F := F) T hT t) = true) :
    (cfgA (F := F) T hT).fresh (4 : Fin 5) t.val = false := by
  rw [Bool.eq_false_iff]
  intro hf
  obtain ⟨h7, h1⟩ := fresh4 T hT t.val t.isLt hf
  have h' := (idle4 (F := F) T hT (crd (F := F) T hT t)).symm.trans h
  rw [cond1_first (F := F) T hT t h7 h1] at h'
  exact absurd h' (by simp)

theorem fresh_cond1 (t : Fin (cfgA (F := F) T hT).N) (hf : (cfgA (F := F) T hT).fresh (4 : Fin 5) t.val = true) :
    k0_cond1 (crd (F := F) T hT t) (firstW (F := F) T hT t) = 1#1 := by
  obtain ⟨h7, h1⟩ := fresh4 T hT t.val t.isLt hf
  exact cond1_first (F := F) T hT t h7 h1

/-! ## The pipeline's proof data -/

/-- Before position `t`: the scratch buffers, at what the steps left where they are in use, and the body's halves of the tables. -/
def Phi (c : Dev nD) (t : Fin ((cfgA (F := F) T hT).N + 1)) : sProp 𝕄 :=
  iprop((∃ x a, ⌜Live T t.val → (x, a) = (prevT T hT m ρ c t).2⌝ ∗ owns (c : Thread nD τ) scX fullShare x ∗ owns (c : Thread nD τ) scA fullShare a)
    ∗ (tb0.view.loc (c : Thread nD τ) ↦{fullShare.right} T.tile) ∗ (tb1.view.loc (c : Thread nD τ) ↦{fullShare.right} T.ex)
    ∗ (tb2.view.loc (c : Thread nD τ) ↦{fullShare.right} T.lo) ∗ (tb3.view.loc (c : Thread nD τ) ↦{fullShare.right} T.hi)
    ∗ (tb4.view.loc (c : Thread nD τ) ↦{fullShare.right} T.first))

/-- The proof data of the one pipeline on core `c`. -/
def dats (_ : Fin 1) (c : Dev nD) : Dat τ (Elt F) Unit ℕ (UR sig nD τ) ℕ (cfgA (F := F) T hT) c where
  A w := (s₀ m ρ).mem (((cfgA (F := F) T hT).win w).arr.view.loc (c : Thread nD τ))
  after w t := match w with
    | ⟨0, _⟩ => inBlk T hT m ρ c (0 : Fin 5) t
    | ⟨1, _⟩ => inBlk T hT m ρ c (1 : Fin 5) t
    | ⟨2, _⟩ => inBlk T hT m ρ c (2 : Fin 5) t
    | ⟨3, _⟩ => inBlk T hT m ρ c (3 : Fin 5) t
    | ⟨4, _⟩ => (traj T hT m ρ c t.val t.isLt).1
  Φ t := Phi T hT m ρ c t
  q _ := fullShare
  owed _ := 0

theorem after_0 (c : Dev nD) (t : Fin (cfgA (F := F) T hT).N) : (dats T hT m ρ 0 c).after (0 : Fin 5) t = inBlk T hT m ρ c (0 : Fin 5) t := rfl
theorem after_1 (c : Dev nD) (t : Fin (cfgA (F := F) T hT).N) : (dats T hT m ρ 0 c).after (1 : Fin 5) t = inBlk T hT m ρ c (1 : Fin 5) t := rfl
theorem after_2 (c : Dev nD) (t : Fin (cfgA (F := F) T hT).N) : (dats T hT m ρ 0 c).after (2 : Fin 5) t = inBlk T hT m ρ c (2 : Fin 5) t := rfl
theorem after_3 (c : Dev nD) (t : Fin (cfgA (F := F) T hT).N) : (dats T hT m ρ 0 c).after (3 : Fin 5) t = inBlk T hT m ρ c (3 : Fin 5) t := rfl
theorem after_4 (c : Dev nD) (t : Fin (cfgA (F := F) T hT).N) : (dats T hT m ρ 0 c).after (4 : Fin 5) t = (traj T hT m ρ c t.val t.isLt).1 := rfl

theorem before_0 (c : Dev nD) (t : Fin (cfgA (F := F) T hT).N) (d) : (dats T hT m ρ 0 c).before (0 : Fin 5) t d = inBlk T hT m ρ c (0 : Fin 5) t :=
  ((dats T hT m ρ 0 c).before_in_eq_fetched (0 : Fin 5) rfl (fun _ => rfl) (fun _ _ _ => rfl)
    (fun t => by rw [after_0]; unfold Dat.blockOf inBlk; rfl) t d).trans (by unfold Dat.fetched Dat.blockOf inBlk; rfl)
theorem before_1 (c : Dev nD) (t : Fin (cfgA (F := F) T hT).N) (d) : (dats T hT m ρ 0 c).before (1 : Fin 5) t d = inBlk T hT m ρ c (1 : Fin 5) t :=
  ((dats T hT m ρ 0 c).before_in_eq_fetched (1 : Fin 5) rfl (fun _ => rfl) (fun _ _ _ => rfl)
    (fun t => by rw [after_1]; unfold Dat.blockOf inBlk; rfl) t d).trans (by unfold Dat.fetched Dat.blockOf inBlk; rfl)
theorem before_2 (c : Dev nD) (t : Fin (cfgA (F := F) T hT).N) (d) : (dats T hT m ρ 0 c).before (2 : Fin 5) t d = inBlk T hT m ρ c (2 : Fin 5) t :=
  ((dats T hT m ρ 0 c).before_in_eq_fetched (2 : Fin 5) rfl (fun _ => rfl) (fun _ _ _ => rfl)
    (fun t => by rw [after_2]; unfold Dat.blockOf inBlk; rfl) t d).trans (by unfold Dat.fetched Dat.blockOf inBlk; rfl)
theorem before_3 (c : Dev nD) (t : Fin (cfgA (F := F) T hT).N) (d) : (dats T hT m ρ 0 c).before (3 : Fin 5) t d = inBlk T hT m ρ c (3 : Fin 5) t :=
  ((dats T hT m ρ 0 c).before_in_eq_fetched (3 : Fin 5) rfl (fun _ => rfl) (fun _ _ _ => rfl)
    (fun t => by rw [after_3]; unfold Dat.blockOf inBlk; rfl) t d).trans (by unfold Dat.fetched Dat.blockOf inBlk; rfl)

/-- The output block before point `t`: anything where nothing is stored yet, else what the point before left. -/
theorem before_4 (c : Dev nD) (t : Fin (cfgA (F := F) T hT).N) (d) : (dats T hT m ρ 0 c).before (4 : Fin 5) t d
    = if (cfgA (F := F) T hT).fresh (4 : Fin 5) t.val then d else (prevT T hT m ρ c t.castSucc).1 := by
  rw [(dats T hT m ρ 0 c).before_out_traj (4 : Fin 5) rfl (fun _ _ => rfl) (fun t ht hi _ => by
    rw [after_4, after_4, traj_eq, step_idle T hT m ρ c t _ hi, prevT_pos T hT m ρ c t ht]) t.val t rfl d]
  by_cases hf : (cfgA (F := F) T hT).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after_4]
    rw [prevT_pos T hT m ρ c t h0]

/-! ## The body at a point -/

abbrev bodyAt (t : Fin (cfgA (F := F) T hT).N) : Prog (TpuEff nD τ sig (Elt F) Λ₀ .tc) PUnit :=
  cc0_moe_experts (crd (F := F) T hT t) tb0 (Memref.isWhole_whole _) tb1 (Memref.isWhole_whole _) tb2 (Memref.isWhole_whole _)
    tb3 (Memref.isWhole_whole _) tb4 (Memref.isWhole_whole _) (st0 (F := F) T hT t) (wh0 T hT t) (st1 (F := F) T hT t) (wh1 T hT t)
    (st2 (F := F) T hT t) (wh2 T hT t) (st3 (F := F) T hT t) (wh3 T hT t) (st4 (F := F) T hT t) (wh4 T hT t)
    scX (Memref.isWhole_whole _) scA (Memref.isWhole_whole _)

/-- The step at a point runs, from any contents of the scratch buffers that agree where they are in use. -/
theorem run_at (c : Dev nD) (t : Fin (cfgA (F := F) T hT).N) (p : St F) :
    Runs c (crd (F := F) T hT t) (st0 (F := F) T hT t) (wh0 T hT t) (st1 (F := F) T hT t) (wh1 T hT t)
      (st2 (F := F) T hT t) (wh2 T hT t) (st3 (F := F) T hT t) (wh3 T hT t) (st4 (F := F) T hT t) (wh4 T hT t)
      T.tile T.ex T.lo T.hi T.first (inBlk T hT m ρ c (0 : Fin 5) t) (inBlk T hT m ρ c (1 : Fin 5) t) (inBlk T hT m ρ c (2 : Fin 5) t)
      (inBlk T hT m ρ c (3 : Fin 5) t) p (stepAt T hT m ρ c t p) := by
  have h := run_step (F := F) c (crd (F := F) T hT t) (st0 (F := F) T hT t) (wh0 T hT t) (st1 (F := F) T hT t) (wh1 T hT t)
    (st2 (F := F) T hT t) (wh2 T hT t) (st3 (F := F) T hT t) (wh3 T hT t) (st4 (F := F) T hT t) (wh4 T hT t)
    T.tile T.ex T.lo T.hi T.first (inBlk T hT m ρ c (0 : Fin 5) t) (inBlk T hT m ρ c (1 : Fin 5) t) (inBlk T hT m ρ c (2 : Fin 5) t)
    (inBlk T hT m ρ c (3 : Fin 5) t) p
  rw [word2, word3, word4] at h
  exact h

set_option maxHeartbeats 4000000 in
/-- The body at point `t` keeps the invariant and leaves what the steps say. -/
theorem sound_body (c : Dev nD) (t : Fin (cfgA (F := F) T hT).N) :
    iprop((dats T hT m ρ 0 c).Φ t.castSucc ∗ (dats T hT m ρ 0 c).owesAt () t.castSucc
        ∗ (∃ d, owns (c : Thread nD τ) (st0 (F := F) T hT t) fullShare ((dats T hT m ρ 0 c).before (0 : Fin 5) t d))
        ∗ (∃ d, owns (c : Thread nD τ) (st1 (F := F) T hT t) fullShare ((dats T hT m ρ 0 c).before (1 : Fin 5) t d))
        ∗ (∃ d, owns (c : Thread nD τ) (st2 (F := F) T hT t) fullShare ((dats T hT m ρ 0 c).before (2 : Fin 5) t d))
        ∗ (∃ d, owns (c : Thread nD τ) (st3 (F := F) T hT t) fullShare ((dats T hT m ρ 0 c).before (3 : Fin 5) t d))
        ∗ (∃ d, owns (c : Thread nD τ) (st4 (F := F) T hT t) fullShare ((dats T hT m ρ 0 c).before (4 : Fin 5) t d)))
      ⊢ wp frame (wpE (defs₀ (F := F)) Variants.none c none) Set.univ (bodyAt T hT t) fun _ =>
          iprop((dats T hT m ρ 0 c).Φ t.succ ∗ (dats T hT m ρ 0 c).owesAt () t.succ
            ∗ bigSep Finset.univ fun w : Fin (cfgA (F := F) T hT).W =>
                match (cfgA (F := F) T hT).idle w ((cfgA (F := F) T hT).grid.coords t) with
                | true =>
                  match ((cfgA (F := F) T hT).win w).flush t with
                  | false => iprop(∃ d, owns (c : Thread nD τ) (((cfgA (F := F) T hT).win w).stage ((cfgA (F := F) T hT).slots t w)) fullShare ((dats T hT m ρ 0 c).before w t d))
                  | true => owns (c : Thread nD τ) (((cfgA (F := F) T hT).win w).stage ((cfgA (F := F) T hT).slots t w)) fullShare ((dats T hT m ρ 0 c).after w t)
                | false => owns (c : Thread nD τ) (((cfgA (F := F) T hT).win w).stage ((cfgA (F := F) T hT).slots t w)) fullShare ((dats T hT m ρ 0 c).after w t)) := by
  rw [bigSep_W0]
  have key : ∀ (x : Vec F S1024x1024 .bf16) (a : Vec F S1024x1024 .f32) (d : Vec F S1024x1024 .f32),
      (Live T t.val → (x, a) = (prevT T hT m ρ c t.castSucc).2) →
      let q := stepAt T hT m ρ c t ((dats T hT m ρ 0 c).before (4 : Fin 5) t d, x, a)
      q.1 = (traj T hT m ρ c t.val t.isLt).1 ∧ (Live T (t.val + 1) → q.2 = (traj T hT m ρ c t.val t.isLt).2) := by
    intro x a d h
    have hs := stepAt_fst T hT m ρ c t ((dats T hT m ρ 0 c).before (4 : Fin 5) t d) (prevT T hT m ρ c t.castSucc).1 (x, a) (prevT T hT m ρ c t.castSucc).2
      (by
        by_cases hf : (cfgA (F := F) T hT).fresh (4 : Fin 5) t.val = true
        · exact .inr (fresh_cond1 T hT t hf)
        · left; rw [before_4]; simp only [hf, Bool.false_eq_true, ↓reduceIte]) h
    rw [traj_eq]
    exact hs
  have hidle : (cfgA (F := F) T hT).idle (4 : Fin 5) ((cfgA (F := F) T hT).grid.coords t) = true → ∀ d,
      (dats T hT m ρ 0 c).before (4 : Fin 5) t d = (traj T hT m ρ c t.val t.isLt).1 := by
    intro hi d
    rw [before_4, idle_fresh T hT t hi, traj_eq, step_idle T hT m ρ c t _ hi]
    rfl
  have post : owns (c : Thread nD τ) (st4 (F := F) T hT t) fullShare ((traj T hT m ρ c t.val t.isLt).1) ⊢
      (match (cfgA (F := F) T hT).idle (4 : Fin 5) ((cfgA (F := F) T hT).grid.coords t) with
                | true =>
                  match ((cfgA (F := F) T hT).win (4 : Fin 5)).flush t with
                  | false => iprop(∃ d, owns (c : Thread nD τ) (((cfgA (F := F) T hT).win (4 : Fin 5)).stage ((cfgA (F := F) T hT).slots t (4 : Fin 5))) fullShare ((dats T hT m ρ 0 c).before (4 : Fin 5) t d))
                  | true => owns (c : Thread nD τ) (((cfgA (F := F) T hT).win (4 : Fin 5)).stage ((cfgA (F := F) T hT).slots t (4 : Fin 5))) fullShare ((dats T hT m ρ 0 c).after (4 : Fin 5) t)
                | false => owns (c : Thread nD τ) (((cfgA (F := F) T hT).win (4 : Fin 5)).stage ((cfgA (F := F) T hT).slots t (4 : Fin 5))) fullShare ((dats T hT m ρ 0 c).after (4 : Fin 5) t) : sProp 𝕄) := by
    cases hi : (cfgA (F := F) T hT).idle (4 : Fin 5) ((cfgA (F := F) T hT).grid.coords t)
    · iintro H; iexact H
    · cases hf : ((cfgA (F := F) T hT).win (4 : Fin 5)).flush t
      · iintro H
        iexists (k0_pay1 (F := F))
        rw [hidle hi]
        iexact H
      · iintro H; iexact H
  simp only [before_0, before_1, before_2, before_3, after_0, after_1, after_2, after_3]
  rewrite [show (dats T hT m ρ 0 c).Φ t.succ = Phi T hT m ρ c t.succ from rfl, show (dats T hT m ρ 0 c).Φ t.castSucc = Phi T hT m ρ c t.castSucc from rfl,
    show (dats T hT m ρ 0 c).owesAt () t.succ = (dats T hT m ρ 0 c).owesAt () t.castSucc from rfl]
  unfold Phi; simp only [prevT_succ, Fin.val_castSucc, Fin.val_succ]
  iintro ⟨⟨⟨%x, %a, %hx, HS0, HS1⟩, HT0, HT1, HT2, HT3, HT4⟩, Ho, ⟨%d0, H0⟩, ⟨%d1, H1⟩, ⟨%d2, H2⟩, ⟨%d3, H3⟩, ⟨%d4, H4⟩⟩
  obtain ⟨k1, k2⟩ := key x a d4 hx
  iapply (run_at T hT m ρ c t ((dats T hT m ρ 0 c).before (4 : Fin 5) t d4, x, a) _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iapply rep_of_owns; iexact H4
  isplitl [HS0]; · iapply rep_of_owns; iexact HS0
  isplitl [HS1]; · iapply rep_of_owns; iexact HS1
  rewrite [k1]
  iintro ⟨H0, H1, H2, H3, HT0, HT1, HT2, HT3, HT4, H4, HS0, HS1⟩
  isplitl [HS0 HS1 HT0 HT1 HT2 HT3 HT4]
  · isplitl [HS0 HS1]
    · iexists _; iexists _
      isplitr; swap
      · isplitl [HS0]
        · iexact HS0
        · iexact HS1
      · ipureintro; exact k2
    isplitl [HT0]; · iexact HT0
    isplitl [HT1]; · iexact HT1
    isplitl [HT2]; · iexact HT2
    isplitl [HT3]; · iexact HT3
    iexact HT4
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iapply post; iexact H4

theorem body_obligation (c : Dev nD) : BodyObligation (dats T hT m ρ 0 c) (defs₀ (F := F)) Variants.none () Set.univ := fun t => by
  rw [bigSep_W0]
  exact sound_body T hT m ρ c t

/-! ## The launch -/

def u₀ : UR sig nD τ :=
  initOf (Pipeline.cells (pcs (F := F) T hT) ((launch0 (F := F)).cellOf_inj fun _ => adm T hT))
    (Pipeline.launchToks (pcs (F := F) T hT) ((launch0 (F := F)).cellOf_inj fun _ => adm T hT))

theorem share_eq (c : Dev nD) (w : Fin (cfgA (F := F) T hT).W) : (dats T hT m ρ 0 c).share w = fullShare := by unfold Dat.share; split <;> rfl

/-- The tables as the launch hands them over, one by one. -/
theorem prefHeld_eq (c : Dev nD) (q : Fin 5 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1) ∗ (((c : Thread nD τ).loc main_arg3) ↦{q 2} v 2)
        ∗ (((c : Thread nD τ).loc main_arg4) ↦{q 3} v 3) ∗ (((c : Thread nD τ).loc main_arg5) ↦{q 4} v 4)) := by
  unfold Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

theorem owns_scX (c : Dev nD) (b : Buf (Elt F) ((c : Thread nD τ).loc cc0_scratch0)) :
    (((c : Thread nD τ).loc cc0_scratch0) ↦{fullShare} b : sProp 𝕄) ⊢ owns (c : Thread nD τ) scX fullShare (scX.view.read (Elt F) b) := by
  unfold owns
  iintro H
  iexists b
  isplitr; · ipureintro; rfl
  rw [show scX.view.set = Finset.univ from View.set_whole _]
  iexact H

theorem owns_scA (c : Dev nD) (b : Buf (Elt F) ((c : Thread nD τ).loc cc0_scratch1)) :
    (((c : Thread nD τ).loc cc0_scratch1) ↦{fullShare} b : sProp 𝕄) ⊢ owns (c : Thread nD τ) scA fullShare (scA.view.read (Elt F) b) := by
  unfold owns
  iintro H
  iexists b
  isplitr; · ipureintro; rfl
  rw [show scA.view.set = Finset.univ from View.set_whole _]
  iexact H

theorem scX_owns (c : Dev nD) (x : Vec F S1024x1024 .bf16) :
    (owns (c : Thread nD τ) scX fullShare x : sProp 𝕄) ⊢ iprop(∃ b, ((c : Thread nD τ).loc cc0_scratch0) ↦{fullShare} b) := by
  unfold owns
  rw [show scX.view.set = Finset.univ from View.set_whole _]
  iintro ⟨%b, -, H⟩
  iexists b; iexact H

theorem scA_owns (c : Dev nD) (x : Vec F S1024x1024 .f32) :
    (owns (c : Thread nD τ) scA fullShare x : sProp 𝕄) ⊢ iprop(∃ b, ((c : Thread nD τ).loc cc0_scratch1) ↦{fullShare} b) := by
  unfold owns
  rw [show scA.view.set = Finset.univ from View.set_whole _]
  iintro ⟨%b, -, H⟩
  iexists b; iexact H

/-- The invariant at the first point, from the tables and the scratch buffers. -/
theorem phi0_intro (c : Dev nD) :
    iprop(BI.emp ∗ Pipeline.prefHeld pre0 c (fun _ => fullShare.right) (adm (F := F) T hT).1 ∗ Pipeline.scopedRest spec0 c) ⊢ (dats T hT m ρ 0 c).Φ 0 := by
  rw [prefHeld_eq, scopedRest0_eq, show (dats T hT m ρ 0 c).Φ 0 = Phi T hT m ρ c 0 from rfl]
  unfold Phi
  iintro ⟨-, ⟨HT0, HT1, HT2, HT3, HT4⟩, ⟨%a0, HS0⟩, ⟨%a1, HS1⟩⟩
  isplitl [HS0 HS1]
  · iexists _; iexists _
    isplitr; swap
    · isplitl [HS0]
      · iapply owns_scX; iexact HS0
      · iapply owns_scA; iexact HS1
    · ipureintro; intro h; exact absurd rfl h.1
  isplitl [HT0]
  · iexact HT0
  isplitl [HT1]
  · iexact HT1
  isplitl [HT2]
  · iexact HT2
  isplitl [HT3]
  · iexact HT3
  iexact HT4

/-- At the end the scratch buffers are given back, the tables let go. -/
theorem phiN_exit (c : Dev nD) : (dats T hT m ρ 0 c).Φ (Fin.last (cfgA (F := F) T hT).N) ⊢ iprop(BI.emp ∗ Pipeline.scopedRest spec0 c) := by
  rw [scopedRest0_eq, show (dats T hT m ρ 0 c).Φ (Fin.last (cfgA (F := F) T hT).N) = Phi T hT m ρ c (Fin.last _) from rfl]
  unfold Phi
  iintro ⟨⟨%x, %a, -, HS0, HS1⟩, -, -, -, -, -⟩
  isplitr; · iempintro
  isplitl [HS0]
  · iapply scX_owns; iexact HS0
  iapply scA_owns; iexact HS1

/-- At the end: every array at what the write-backs left, every table as it was. -/
def QC : PUnit × MemSt nD τ sig (Elt F) → Prop := fun r =>
  ∀ c : Dev nD, (∀ w : Fin (cfgA (F := F) T hT).W, r.2.mem (((cfgA (F := F) T hT).win w).arr.view.loc (c : Thread nD τ)) = (dats T hT m ρ 0 c).arrAt w (cfgA (F := F) T hT).N)
    ∧ ∀ j, r.2.mem ((c : Thread nD τ).loc (pre0.ref j)) = (adm (F := F) T hT).1 j

/-- The launch's tables are `T`. -/
def Holds : Prop := ∀ c : Dev nD, m ((c : Thread nD τ).loc main_arg1) = T.tile ∧ m ((c : Thread nD τ).loc main_arg2) = T.ex
  ∧ m ((c : Thread nD τ).loc main_arg3) = T.lo ∧ m ((c : Thread nD τ).loc main_arg4) = T.hi ∧ m ((c : Thread nD τ).loc main_arg5) = T.first

theorem V_pre (hp : Holds T m) (c : Dev nD) (j : Fin 5) : m ((c : Thread nD τ).loc (pre0.ref j)) = (adm (F := F) T hT).1 j := by
  fin_cases j
  · exact (hp c).1
  · exact (hp c).2.1
  · exact (hp c).2.2.1
  · exact (hp c).2.2.2.1
  · exact (hp c).2.2.2.2

set_option backward.isDefEq.respectTransparency.types false in
set_option maxHeartbeats 4000000 in
/-- From any memory with zero counters that holds the tables: every fair execution terminates, each array ends at the computed
    contents, and every semaphore at zero. -/
theorem run_main (hp : Holds T m) :
    θ_run (defs (F := F)) (onTc (τ := τ) (main (F := F))) (s₀ m ρ) (fun r => QC T hT m ρ r ∧ r.2.sem = fun _ => 0) :=
  Pipeline.θ_run_region_noSem_pf_quiescent pcfgs (fun _ => adm T hT) (dats T hT m ρ) () ((launch0 (F := F)).cellOf_inj fun _ => adm T hT) (0 : Fin 1)
    (launch0 (F := F)).win.to₀ (launch0 (F := F)).pre EP defs₀ Variants.none m ρ main
    (hbody := fun c => (body_obligation T hT m ρ c).loose) (hne := (launch0 (F := F)).block_pos)
    (harr := (launch0 (F := F)).arr_whole) (hstage := (launch0 (F := F)).stage_whole) (howed := fun _ _ => rfl)
    (u₀ := u₀ (F := F) T hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs (F := F) T hT) (dats T hT m ρ) 0 (launch0 (F := F)).win.arr_inj c (launch0 (F := F)).arr_whole
      (share_eq T hT m ρ c) _ _ fun _ => rfl)
    (hpf := V_pre T hT m hp)
    (X := fun _ => iprop(emp)) (Y := fun _ => iprop(emp)) (Z := fun _ => iprop(emp))
    (hX := fun c => by rw [unscopedRestP0_eq]; iintro -; isplitr <;> iempintro)
    (hin := phi0_intro T hT m ρ)
    (hout := phiN_exit T hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hT in
/-- The arguments end as they were, every semaphore at zero. -/
theorem frame (hp : Holds T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 (0 : Fin 5)).trans ((dats T hT m ρ 0 c).arrAt_in (0 : Fin 5) rfl _),
    ((h.1 c).2 0).trans (hp c).1.symm, ((h.1 c).2 1).trans (hp c).2.1.symm, ((h.1 c).2 2).trans (hp c).2.2.1.symm,
    ((h.1 c).2 3).trans (hp c).2.2.2.1.symm, ((h.1 c).2 4).trans (hp c).2.2.2.2.symm,
    ((h.1 c).1 (1 : Fin 5)).trans ((dats T hT m ρ 0 c).arrAt_in (1 : Fin 5) rfl _),
    ((h.1 c).1 (2 : Fin 5)).trans ((dats T hT m ρ 0 c).arrAt_in (2 : Fin 5) rfl _),
    ((h.1 c).1 (3 : Fin 5)).trans ((dats T hT m ρ 0 c).arrAt_in (3 : Fin 5) rfl _)⟩, h.2⟩) (run_main T hT m ρ hp)

end Cert.ExpertsIdeal.Sched

end
-- ==== Proof.Schedule.lean ====
/- The precondition of the experts' call, said of the tables: what `schedule` asks is what the call's blocks and steps need. -/
module

public import proofs.«01_k».proof.Proof.Tables
public import proofs.«01_k».proof.Proof.Gen.Pre_schedule

@[expose] public section

set_option maxRecDepth 16384

noncomputable section

namespace Cert.ExpertsIdeal.Sched

open Cert.ExpertsIdeal Cert.ExpertsIdeal.Gen
open Idealize.ShloMosaic Idealize.ShloMosaic.TcCoe

variable {F : FTy → Type} [FloatOps F]

instance schedFacts : Cert.Pre_schedule.Facts := Cert.Pre_schedule.Gen.facts

theorem one_sge {a b : BitVec 32} (h : BitVec.ofBool (b.sle a) = 1#1) : b.toInt ≤ a.toInt := by
  cases e : b.sle a
  · rw [e] at h; exact absurd h (by decide)
  · exact BitVec.sle_iff_toInt_le.1 e

theorem one_slt {a b : BitVec 32} (h : BitVec.ofBool (a.slt b) = 1#1) : a.toInt < b.toInt := by
  cases e : a.slt b
  · rw [e] at h; exact absurd h (by decide)
  · exact BitVec.slt_iff_toInt_lt.1 e

theorem one_eq {a b : BitVec 32} (h : BitVec.ofBool (a == b) = 1#1) : a = b := by
  cases e : a == b
  · rw [e] at h; exact absurd h (by decide)
  · exact eq_of_beq e

def cut0 (s : ℕ) (h : s + 1 < 71) : Cert.Pre_schedule.S70.Idx := fun a => ⟨s, by fin_cases a; show s < 70; omega⟩

theorem slice0 (v : S71.Idx → BitVec 32) (s : ℕ) (h : s + 1 < 71) :
    extractStridedSlice Cert.Pre_schedule.S70 ![0] v Cert.Pre_schedule.Facts.slices_S71_S70_0 (cut0 s h) = v (ix1 ⟨s, by omega⟩) :=
  congrArg v (funext fun a => Fin.ext (by fin_cases a; show 0 + s = s; omega))

theorem slice1 (v : S71.Idx → BitVec 32) (s : ℕ) (h : s + 1 < 71) :
    extractStridedSlice Cert.Pre_schedule.S70 ![1] v Cert.Pre_schedule.Facts.slices_S71_S70_1 (cut0 s h) = v (ix1 ⟨s + 1, h⟩) :=
  congrArg v (funext fun a => Fin.ext (by fin_cases a; show 1 + s = s + 1; omega))

def one0 : Cert.Pre_schedule.S1.Idx := fun a => ⟨0, by fin_cases a; show 0 < 1; omega⟩

theorem slice_first (v : S71.Idx → BitVec 32) :
    extractStridedSlice Cert.Pre_schedule.S1 ![0] v Cert.Pre_schedule.Facts.slices_S71_S1_0 one0 = v (ix1 0) :=
  congrArg v (funext fun a => Fin.ext (by fin_cases a; rfl))

theorem slice_last (v : S71.Idx → BitVec 32) :
    extractStridedSlice Cert.Pre_schedule.S1 ![70] v Cert.Pre_schedule.Facts.slices_S71_S1_70 one0 = v (ix1 70) :=
  congrArg v (funext fun a => Fin.ext (by fin_cases a; rfl))

def pair (s s' : Fin 71) : Cert.Pre_schedule.S71x71.Idx := fun | ⟨0, _⟩ => s | ⟨1, _⟩ => s' | ⟨_ + 2, h⟩ => absurd h (by simp)

theorem across (v : S71.Idx → BitVec 32) (s s' : Fin 71) :
    broadcastInDim Cert.Pre_schedule.S71x71 ![0, 1] Cert.Pre_schedule.Facts.bcast_S71x1_S71x71_0_1
      (broadcastInDim Cert.Pre_schedule.S71x1 ![0] Cert.Pre_schedule.Facts.bcast_S71_S71x1_0 v) (pair s s') = v (ix1 s) :=
  congrArg v (funext fun a => Fin.ext (by fin_cases a; rfl))

theorem down (v : S71.Idx → BitVec 32) (s s' : Fin 71) :
    broadcastInDim Cert.Pre_schedule.S71x71 ![0, 1] Cert.Pre_schedule.Facts.bcast_S1x71_S71x71_0_1
      (broadcastInDim Cert.Pre_schedule.S1x71 ![1] Cert.Pre_schedule.Facts.bcast_S71_S1x71_1 v) (pair s s') = v (ix1 s') :=
  congrArg v (funext fun a => Fin.ext (by fin_cases a; rfl))

theorem across1 (v : S71.Idx → BitVec 1) (s s' : Fin 71) :
    broadcastInDim Cert.Pre_schedule.S71x71 ![0, 1] Cert.Pre_schedule.Facts.bcast_S71x1_S71x71_0_1
      (broadcastInDim Cert.Pre_schedule.S71x1 ![0] Cert.Pre_schedule.Facts.bcast_S71_S71x1_0 v) (pair s s') = v (ix1 s) :=
  congrArg v (funext fun a => Fin.ext (by fin_cases a; rfl))

theorem down1 (v : S71.Idx → BitVec 1) (s s' : Fin 71) :
    broadcastInDim Cert.Pre_schedule.S71x71 ![0, 1] Cert.Pre_schedule.Facts.bcast_S1x71_S71x71_0_1
      (broadcastInDim Cert.Pre_schedule.S1x71 ![1] Cert.Pre_schedule.Facts.bcast_S71_S1x71_1 v) (pair s s') = v (ix1 s') :=
  congrArg v (funext fun a => Fin.ext (by fin_cases a; rfl))

/-- The tables that `schedule` accepts. -/
theorem valid (T : Tables) (xs : FVec F S65536x1024 .f32) (wg wu : FVec F S8x1024x3584 .bf16) (wd : FVec F S8x3584x1024 .bf16)
    (h : let p := Cert.Pre_schedule.fn (F := F) xs T.tile T.ex T.lo T.hi T.first wg wu wd
      p.1 = (fun _ => 1#1) ∧ p.2.1 = (fun _ => 1#1) ∧ p.2.2.1 = (fun _ => 1#1) ∧ p.2.2.2.1 = (fun _ => 1#1) ∧ p.2.2.2.2.1 = (fun _ => 1#1)
      ∧ p.2.2.2.2.2.1 = (fun _ => 1#1) ∧ p.2.2.2.2.2.2.1 = (fun _ => 1#1) ∧ p.2.2.2.2.2.2.2.1 = (fun _ => 1#1)
      ∧ p.2.2.2.2.2.2.2.2.1 = (fun _ => 1#1) ∧ p.2.2.2.2.2.2.2.2.2.1 = (fun _ => 1#1) ∧ p.2.2.2.2.2.2.2.2.2.2.1 = (fun _ => 1#1)
      ∧ p.2.2.2.2.2.2.2.2.2.2.2.1 = (fun _ => 1#1) ∧ p.2.2.2.2.2.2.2.2.2.2.2.2 = (fun _ => 1#1)) : T.Valid := by
  obtain ⟨h1, h2, h3, h4, h5, h6, h7, h8, h9, h10, h11, h12, h13⟩ := h
  have t0 : ∀ s, 0 ≤ (T.tile (ix1 s)).toInt := fun s => one_sge (b := 0#32) (congrFun h1 (ix1 s))
  have t1 : ∀ s, (T.tile (ix1 s)).toInt < 64 := fun s => one_slt (b := 64#32) (congrFun h2 (ix1 s))
  have e0 : ∀ s, 0 ≤ (T.ex (ix1 s)).toInt := fun s => one_sge (b := 0#32) (congrFun h3 (ix1 s))
  have e1 : ∀ s, (T.ex (ix1 s)).toInt < 8 := fun s => one_slt (b := 8#32) (congrFun h4 (ix1 s))
  have nat : ∀ (w : BitVec 32), 0 ≤ w.toInt → w.toInt = (w.toNat : ℤ) := fun w hw => by
    rw [BitVec.toInt_eq_toNat_cond] at hw ⊢
    have := w.isLt
    split <;> rename_i hc
    · rfl
    · rw [if_neg hc] at hw; omega
  have tn : ∀ s, (T.tile (ix1 s)).toInt = ((T.tile (ix1 s)).toNat : ℤ) := fun s => nat _ (t0 s)
  have tl : ∀ s, (T.tile (ix1 s)).toNat < 64 := fun s => by have := t1 s; have := tn s; omega
  have el : ∀ s, (T.ex (ix1 s)).toNat < 8 := fun s => by have := e1 s; have := nat _ (e0 s); omega
  refine ⟨tl, el, fun s => one_sge (b := 0#32) (congrFun h5 (ix1 s)), fun s => one_sge (a := 1024#32) (congrFun h6 (ix1 s)), ?_, ?_, ?_, ?_, ?_, ?_, ?_⟩
  · have a : BitVec.ofBool (extractStridedSlice Cert.Pre_schedule.S1 ![0] T.tile Cert.Pre_schedule.Facts.slices_S71_S1_0 one0 == 0#32) = 1#1 := congrFun h7 one0
    rw [slice_first] at a
    rw [one_eq a]; rfl
  · have a : BitVec.ofBool (extractStridedSlice Cert.Pre_schedule.S1 ![70] T.tile Cert.Pre_schedule.Facts.slices_S71_S1_70 one0 == 63#32) = 1#1 := congrFun h8 one0
    rw [slice_last] at a
    rw [one_eq a]; rfl
  · intro s h
    have a : BitVec.ofBool ((extractStridedSlice Cert.Pre_schedule.S70 ![0] T.tile Cert.Pre_schedule.Facts.slices_S71_S70_0 (cut0 s h)).sle
      (extractStridedSlice Cert.Pre_schedule.S70 ![1] T.tile Cert.Pre_schedule.Facts.slices_S71_S70_1 (cut0 s h))) = 1#1 := congrFun h9 (cut0 s h)
    rw [slice0, slice1] at a
    have := one_sge a
    rw [tn, tn] at this
    omega
  · intro s h
    have a : BitVec.ofBool ((extractStridedSlice Cert.Pre_schedule.S70 ![1] T.tile Cert.Pre_schedule.Facts.slices_S71_S70_1 (cut0 s h)).sle
      (extractStridedSlice Cert.Pre_schedule.S70 ![0] T.tile Cert.Pre_schedule.Facts.slices_S71_S70_0 (cut0 s h) + 1#32)) = 1#1 := congrFun h10 (cut0 s h)
    rw [slice0, slice1] at a
    have := one_sge a
    have l := tl ⟨s, by omega⟩
    have e : (T.tile (ix1 ⟨s, by omega⟩) + 1#32).toNat = (T.tile (ix1 ⟨s, by omega⟩)).toNat + 1 := by
      rw [BitVec.toNat_add]; show (_ + 1) % 4294967296 = _; omega
    have e' : (T.tile (ix1 ⟨s, by omega⟩) + 1#32).toInt = ((T.tile (ix1 ⟨s, by omega⟩)).toNat : ℤ) + 1 := by
      rw [BitVec.toInt_eq_toNat_of_lt (by rw [e]; omega), e]; rfl
    rw [tn, e'] at this
    omega
  · have a : BitVec.ofBool (extractStridedSlice Cert.Pre_schedule.S1 ![0] T.first Cert.Pre_schedule.Facts.slices_S71_S1_0 one0 == 1#32) = 1#1 := congrFun h11 one0
    rw [slice_first] at a
    exact one_eq a
  · intro s h
    have a : BitVec.ofBool (BitVec.ofBool (extractStridedSlice Cert.Pre_schedule.S70 ![1] T.first Cert.Pre_schedule.Facts.slices_S71_S70_1 (cut0 s h) == 1#32)
      == BitVec.ofBool (extractStridedSlice Cert.Pre_schedule.S70 ![0] T.tile Cert.Pre_schedule.Facts.slices_S71_S70_0 (cut0 s h)
        != extractStridedSlice Cert.Pre_schedule.S70 ![1] T.tile Cert.Pre_schedule.Facts.slices_S71_S70_1 (cut0 s h))) = 1#1 := congrFun h12 (cut0 s h)
    rw [slice1, slice0, slice1] at a
    have b : (T.first (ix1 ⟨s + 1, h⟩) == 1#32) = (T.tile (ix1 ⟨s, by omega⟩) != T.tile (ix1 ⟨s + 1, h⟩)) := by
      revert a
      cases (T.first (ix1 ⟨s + 1, h⟩) == 1#32) <;> cases (T.tile (ix1 ⟨s, by omega⟩) != T.tile (ix1 ⟨s + 1, h⟩)) <;> decide
    rw [← beq_iff_eq, b, bne_iff_ne]
  · intro s s' ht r hl hh hl' hh'
    by_contra hne
    have a : (~~~(((BitVec.ofBool (broadcastInDim Cert.Pre_schedule.S71x71 ![0, 1] Cert.Pre_schedule.Facts.bcast_S71x1_S71x71_0_1
          (broadcastInDim Cert.Pre_schedule.S71x1 ![0] Cert.Pre_schedule.Facts.bcast_S71_S71x1_0 T.tile) (pair s s')
        == broadcastInDim Cert.Pre_schedule.S71x71 ![0, 1] Cert.Pre_schedule.Facts.bcast_S1x71_S71x71_0_1
          (broadcastInDim Cert.Pre_schedule.S1x71 ![1] Cert.Pre_schedule.Facts.bcast_S71_S1x71_1 T.tile) (pair s s'))
        &&& BitVec.ofBool (broadcastInDim Cert.Pre_schedule.S71x71 ![0, 1] Cert.Pre_schedule.Facts.bcast_S71x1_S71x71_0_1
          (broadcastInDim Cert.Pre_schedule.S71x1 ![0] Cert.Pre_schedule.Facts.bcast_S71_S71x1_0 T.ex) (pair s s')
        != broadcastInDim Cert.Pre_schedule.S71x71 ![0, 1] Cert.Pre_schedule.Facts.bcast_S1x71_S71x71_0_1
          (broadcastInDim Cert.Pre_schedule.S1x71 ![1] Cert.Pre_schedule.Facts.bcast_S71_S1x71_1 T.ex) (pair s s')))
        &&& broadcastInDim Cert.Pre_schedule.S71x71 ![0, 1] Cert.Pre_schedule.Facts.bcast_S71x1_S71x71_0_1
          (broadcastInDim Cert.Pre_schedule.S71x1 ![0] Cert.Pre_schedule.Facts.bcast_S71_S71x1_0 (fun q => BitVec.ofBool ((T.lo q).slt (T.hi q)))) (pair s s'))
        &&& broadcastInDim Cert.Pre_schedule.S71x71 ![0, 1] Cert.Pre_schedule.Facts.bcast_S1x71_S71x71_0_1
          (broadcastInDim Cert.Pre_schedule.S1x71 ![1] Cert.Pre_schedule.Facts.bcast_S71_S1x71_1 (fun q => BitVec.ofBool ((T.lo q).slt (T.hi q)))) (pair s s'))
        ||| BitVec.ofBool ((broadcastInDim Cert.Pre_schedule.S71x71 ![0, 1] Cert.Pre_schedule.Facts.bcast_S71x1_S71x71_0_1
          (broadcastInDim Cert.Pre_schedule.S71x1 ![0] Cert.Pre_schedule.Facts.bcast_S71_S71x1_0 T.hi) (pair s s')).sle
          (broadcastInDim Cert.Pre_schedule.S71x71 ![0, 1] Cert.Pre_schedule.Facts.bcast_S1x71_S71x71_0_1
          (broadcastInDim Cert.Pre_schedule.S1x71 ![1] Cert.Pre_schedule.Facts.bcast_S71_S1x71_1 T.lo) (pair s s'))))
        ||| BitVec.ofBool ((broadcastInDim Cert.Pre_schedule.S71x71 ![0, 1] Cert.Pre_schedule.Facts.bcast_S1x71_S71x71_0_1
          (broadcastInDim Cert.Pre_schedule.S1x71 ![1] Cert.Pre_schedule.Facts.bcast_S71_S1x71_1 T.hi) (pair s s')).sle
          (broadcastInDim Cert.Pre_schedule.S71x71 ![0, 1] Cert.Pre_schedule.Facts.bcast_S71x1_S71x71_0_1
          (broadcastInDim Cert.Pre_schedule.S71x1 ![0] Cert.Pre_schedule.Facts.bcast_S71_S71x1_0 T.lo) (pair s s'))) = 1#1 := congrFun h13 (pair s s')
    rw [across, across, across, across, down, down, down, down, across1, down1] at a
    have c1 : (T.tile (ix1 s) == T.tile (ix1 s')) = true := beq_iff_eq.2 ht
    have c2 : (T.ex (ix1 s) != T.ex (ix1 s')) = true := bne_iff_ne.2 hne
    have c3 : (T.lo (ix1 s)).slt (T.hi (ix1 s)) = true := BitVec.slt_iff_toInt_lt.2 (by omega)
    have c4 : (T.lo (ix1 s')).slt (T.hi (ix1 s')) = true := BitVec.slt_iff_toInt_lt.2 (by omega)
    have c5 : (T.hi (ix1 s)).sle (T.lo (ix1 s')) = false := Bool.eq_false_iff.2 fun h => by have := BitVec.sle_iff_toInt_le.1 h; omega
    have c6 : (T.hi (ix1 s')).sle (T.lo (ix1 s)) = false := Bool.eq_false_iff.2 fun h => by have := BitVec.sle_iff_toInt_le.1 h; omega
    rw [c1, c2, c5, c6] at a
    simp only [c3, c4] at a
    exact absurd a (by decide)

end Cert.ExpertsIdeal.Sched

end
-- ==== Proof.Expert.lean ====
/- An expert's product for one row, as a sum over its hidden units: whole, and in seven parts. -/
module

public import Idealize.ShloMosaic.Lib.Pipeline.ValueKit

@[expose] public section

noncomputable section

namespace Cert.Expert

open Idealize.ShloMosaic

/-- Hidden unit `f`: the gate's silu times the up projection. -/
def hid (x : Fin 1024 → EReal) (g u : Fin 1024 → EReal) : EReal :=
  (∑ k, x k * g k) * Ideal.logistic (∑ k, x k * g k) * ∑ k, x k * u k

/-- An expert's product at a column, over all hidden units. -/
def full (x : Fin 1024 → EReal) (g u : Fin 1024 → Fin 3584 → EReal) (d : Fin 3584 → EReal) : EReal :=
  ∑ f : Fin 3584, hid x (fun k => g k f) (fun k => u k f) * d f

/-- Hidden unit `f` of part `j`. -/
def unit (j : Fin 7) (f : Fin 512) : Fin 3584 := ⟨j * 512 + f, by omega⟩

/-- Part `j` of an expert's product: 512 hidden units. -/
def part (x : Fin 1024 → EReal) (g u : Fin 1024 → Fin 3584 → EReal) (d : Fin 3584 → EReal) (j : Fin 7) : EReal :=
  ∑ f : Fin 512, hid x (fun k => g k (unit j f)) (fun k => u k (unit j f)) * d (unit j f)

/-- The first `n` parts. -/
def upTo (x : Fin 1024 → EReal) (g u : Fin 1024 → Fin 3584 → EReal) (d : Fin 3584 → EReal) : ℕ → EReal
  | 0 => 0
  | n + 1 => upTo x g u d n + if h : n < 7 then part x g u d ⟨n, h⟩ else 0

theorem sum_parts (a : Fin 3584 → EReal) : ∑ f, a f = ∑ j : Fin 7, ∑ f : Fin 512, a (unit j f) := by
  rw [← Fintype.sum_prod_type']
  symm
  refine Fintype.sum_equiv (finProdFinEquiv (m := 7) (n := 512)) _ _ fun p => ?_
  exact congrArg a (Fin.ext (by show (p.1 : ℕ) * 512 + p.2 = p.2 + 512 * p.1; omega))

/-- Seven parts are the whole product. -/
theorem upTo_seven (x : Fin 1024 → EReal) (g u : Fin 1024 → Fin 3584 → EReal) (d : Fin 3584 → EReal) : upTo x g u d 7 = full x g u d := by
  unfold full
  rw [sum_parts, Fin.sum_univ_seven]
  simp only [upTo, Nat.reduceLT, ↓reduceDIte, zero_add]
  rfl

end Cert.Expert

end
-- ==== Proof.ExpertRef.lean ====
/- The experts' reference, layer by layer, each read at an index. -/
module

public import proofs.«01_k».proof.Proof.Words
public import proofs.«01_k».proof.Proof.Expert
public import proofs.«01_k».proof.Proof.Gen.ExpertsReferenceIdeal.Run
public import Idealize.ShloMosaic.Lib.Pipeline.ValueKit

@[expose] public section

set_option maxRecDepth 16384

noncomputable section

namespace Cert.ExpertsReferenceIdeal.Swiglu

open Cert.ExpertsReferenceIdeal Cert.ExpertsReferenceIdeal.Gen Idealize.ShloMosaic Idealize.ShloMosaic.TcCoe

/-- Each row counted from the first row of each step's tile. -/
def offset (tile : IVec S71 32) : IVec S65536x71 32 :=
  subi (broadcastInDim S65536x71 ![0, 1] bcast_S65536x1_S65536x71_0_1 (broadcastInDim S65536x1 ![0] bcast_S65536_S65536x1_0 (iotaInDim S65536 32 0)))
    (broadcastInDim S65536x71 ![0, 1] bcast_S1x71_S65536x71_0_1 (broadcastInDim S1x71 ![1] bcast_S71_S1x71_1 (muli tile (broadcastInDim S71 ![] bcast_S_S71 (constantI S_ 32 1024#32)))))

/-- The rows of each step. -/
def rowsOf (tile lo hi : IVec S71 32) : IVec S65536x71 1 :=
  andi (cmpi .sle (broadcastInDim S65536x71 ![0, 1] bcast_S1x71_S65536x71_0_1 (broadcastInDim S1x71 ![1] bcast_S71_S1x71_1 lo)) (offset tile))
    (cmpi .slt (offset tile) (broadcastInDim S65536x71 ![0, 1] bcast_S1x71_S65536x71_0_1 (broadcastInDim S1x71 ![1] bcast_S71_S1x71_1 hi)))

/-- The steps of expert `e` among a row's steps. -/
def mine (tile ex lo hi : IVec S71 32) (e : BitVec 32) : IVec S65536x71 1 :=
  andi (rowsOf tile lo hi) (broadcastInDim S65536x71 ![0, 1] bcast_S1x71_S65536x71_0_1 (broadcastInDim S1x71 ![1] bcast_S71_S1x71_1
    (cmpi .eq ex (broadcastInDim S71 ![] bcast_S_S71 (constantI S_ 32 e)))))

/-- Whether a row is one of expert `e`'s. -/
def has (tile ex lo hi : IVec S71 32) (e : BitVec 32) : IVec S65536 1 :=
  Host.reduce IntOp.ori (mine tile ex lo hi e) (constantI S_ 1 0#1) reducesTo_S65536x71_S65536_d1 h_S_

/-- The same as one or zero, for every column. -/
def gate (p : IVec S65536 1) : FVec Ideal S65536x1024 .f32 :=
  broadcastInDim S65536x1024 ![0, 1] bcast_S65536x1_S65536x1024_0_1 (id (broadcastInDim S65536x1 ![0] bcast_S65536_S65536x1_0
    (select p (broadcastInDim S65536 ![] bcast_S_S65536 (constant S_ .f32 0x3F800000#32)) (broadcastInDim S65536 ![] bcast_S_S65536 (constant S_ .f32 0x00000000#32)))))

/-- A projection of the rows to the hidden units of expert `o`. -/
def proj (x : FVec Ideal S65536x1024 .f32) (w : FVec Ideal S8x1024x3584 .bf16) (o : ℕ) (h : S8x1024x3584.Slices ![o, 0, 0] S1x1024x3584) : FVec Ideal S65536x3584 .f32 :=
  Host.dotGeneral dot_S65536x1024_S1024x3584_S65536x3584_1_0_0_1_n_n none x (shapeCast _ (extractStridedSlice S1x1024x3584 ![o, 0, 0] (extf .f32 w bitsLt_bf16_f32) h)
    shapeCasts_S1x1024x3584_S1024x3584)

/-- The silu. -/
def silu (g : FVec Ideal S65536x3584 .f32) : FVec Ideal S65536x3584 .f32 :=
  mulf g (Host.divf (broadcastInDim S65536x3584 ![] bcast_S_S65536x3584 (constant S_ .f32 0x3F800000#32))
    (addf (broadcastInDim S65536x3584 ![] bcast_S_S65536x3584 (constant S_ .f32 0x3F800000#32)) (Host.exp (Host.negf g))))

/-- The product of expert `o` for every row. -/
def expert (x : FVec Ideal S65536x1024 .f32) (wg wu : FVec Ideal S8x1024x3584 .bf16) (wd : FVec Ideal S8x3584x1024 .bf16) (o : ℕ)
    (h : S8x1024x3584.Slices ![o, 0, 0] S1x1024x3584) (h' : S8x3584x1024.Slices ![o, 0, 0] S1x3584x1024) : FVec Ideal S65536x1024 .f32 :=
  Host.dotGeneral dot_S65536x3584_S3584x1024_S65536x1024_1_0_0_1_n_n none (mulf (silu (proj x wg o h)) (proj x wu o h))
    (shapeCast _ (extractStridedSlice S1x3584x1024 ![o, 0, 0] (extf .f32 wd bitsLt_bf16_f32) h') shapeCasts_S1x3584x1024_S3584x1024)

/-- The gated product of expert `o`. -/
def term (x : FVec Ideal S65536x1024 .f32) (tile ex lo hi : IVec S71 32) (wg wu : FVec Ideal S8x1024x3584 .bf16) (wd : FVec Ideal S8x3584x1024 .bf16) (o : ℕ)
    (h : S8x1024x3584.Slices ![o, 0, 0] S1x1024x3584) (h' : S8x3584x1024.Slices ![o, 0, 0] S1x3584x1024) : FVec Ideal S65536x1024 .f32 :=
  mulf (gate (has tile ex lo hi (BitVec.ofNat 32 o))) (expert x wg wu wd o h h')

/-- Eight arrays added in order. -/
def sum8 (t0 t1 t2 t3 t4 t5 t6 t7 : FVec Ideal S65536x1024 .f32) : FVec Ideal S65536x1024 .f32 :=
  addf (addf (addf (addf (addf (addf (addf t0 t1) t2) t3) t4) t5) t6) t7

/-- The reference's result from its arguments. -/
def result (x : FVec Ideal S65536x1024 .f32) (tile ex lo hi : IVec S71 32) (wg wu : FVec Ideal S8x1024x3584 .bf16) (wd : FVec Ideal S8x3584x1024 .bf16) :
    FVec Ideal S65536x1024 .f32 :=
  sum8
    (term x tile ex lo hi wg wu wd 0 slices_S8x1024x3584_S1x1024x3584_0_0_0 slices_S8x3584x1024_S1x3584x1024_0_0_0)
    (term x tile ex lo hi wg wu wd 1 slices_S8x1024x3584_S1x1024x3584_1_0_0 slices_S8x3584x1024_S1x3584x1024_1_0_0)
    (term x tile ex lo hi wg wu wd 2 slices_S8x1024x3584_S1x1024x3584_2_0_0 slices_S8x3584x1024_S1x3584x1024_2_0_0)
    (term x tile ex lo hi wg wu wd 3 slices_S8x1024x3584_S1x1024x3584_3_0_0 slices_S8x3584x1024_S1x3584x1024_3_0_0)
    (term x tile ex lo hi wg wu wd 4 slices_S8x1024x3584_S1x1024x3584_4_0_0 slices_S8x3584x1024_S1x3584x1024_4_0_0)
    (term x tile ex lo hi wg wu wd 5 slices_S8x1024x3584_S1x1024x3584_5_0_0 slices_S8x3584x1024_S1x3584x1024_5_0_0)
    (term x tile ex lo hi wg wu wd 6 slices_S8x1024x3584_S1x1024x3584_6_0_0 slices_S8x3584x1024_S1x3584x1024_6_0_0)
    (term x tile ex lo hi wg wu wd 7 slices_S8x1024x3584_S1x1024x3584_7_0_0 slices_S8x3584x1024_S1x3584x1024_7_0_0)

/-- The reference's run leaves that result and its arguments. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v200) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg6)) (m ((c.tc : Thread nD τ).loc main_arg7)) (m ((c.tc : Thread nD τ).loc main_arg8)) :=
  (θ_run defs _ _).mono (fun _ h c => (h c).1) (Value.run m ρ)

theorem gate_at (p : IVec S65536 1) (R : Fin 65536) (n : Fin 1024) : gate p (ix2 R n) = if p (ix1 R) = 1#1 then 1 else 0 := by
  have e : gate p (ix2 R n) = Scalar.select (p (ix1 R)) (1 : EReal) 0 := by
    unfold gate
    simp only [id_eq]
    pointwise
  rw [e]
  rfl

theorem expert_at (x : FVec Ideal S65536x1024 .f32) (wg wu : FVec Ideal S8x1024x3584 .bf16) (wd : FVec Ideal S8x3584x1024 .bf16) (o : Fin 8)
    (h : S8x1024x3584.Slices ![(o : ℕ), 0, 0] S1x1024x3584) (h' : S8x3584x1024.Slices ![(o : ℕ), 0, 0] S1x3584x1024) (R : Fin 65536) (n : Fin 1024) :
    expert x wg wu wd o h h' (ix2 R n)
      = Expert.full (fun k => x (ix2 R k)) (fun k f => wg (ix3 o k f)) (fun k f => wu (ix3 o k f)) (fun f => wd (ix3 o f n)) := by
  pointwise [expert, silu, proj, Expert.full, Expert.hid]
  rfl

/-- Row `R` is one of step `s`'s rows. -/
def In (tile lo hi : IVec S71 32) (R : Fin 65536) (s : Fin 71) : Prop :=
  (tile (ix1 s)).toNat = (R : ℕ) / 1024 ∧ (lo (ix1 s)).toInt ≤ (((R : ℕ) % 1024 : ℕ) : ℤ) ∧ (((R : ℕ) % 1024 : ℕ) : ℤ) < (hi (ix1 s)).toInt

theorem mine_at (tile ex lo hi : IVec S71 32) (e : BitVec 32) (R : Fin 65536) (s : Fin 71) : mine tile ex lo hi e (ix2 R s)
    = IntOp.andi (IntOp.andi (IntOp.cmpi .sle (lo (ix1 s)) (IntOp.subi (BitVec.ofNat 32 R) (IntOp.muli (tile (ix1 s)) 1024#32)))
        (IntOp.cmpi .slt (IntOp.subi (BitVec.ofNat 32 R) (IntOp.muli (tile (ix1 s)) 1024#32)) (hi (ix1 s)))) (IntOp.cmpi .eq (ex (ix1 s)) e) := by
  pointwise [mine, rowsOf, offset]

theorem mine_iff (tile ex lo hi : IVec S71 32) (ht : ∀ s : Fin 71, (tile (ix1 s)).toNat < 64) (hl : ∀ s : Fin 71, 0 ≤ (lo (ix1 s)).toInt)
    (hh : ∀ s : Fin 71, (hi (ix1 s)).toInt ≤ 1024) (e : BitVec 32) (R : Fin 65536) (s : Fin 71) :
    mine tile ex lo hi e (ix2 R s) = 1#1 ↔ In tile lo hi R s ∧ ex (ix1 s) = e := by
  have t := ht s
  have l := hl s
  have h := hh s
  have em : (IntOp.muli (tile (ix1 s)) 1024#32).toInt = ((tile (ix1 s)).toNat * 1024 : ℕ) := by
    have en : (tile (ix1 s) * 1024#32).toNat = (tile (ix1 s)).toNat * 1024 := by
      rw [BitVec.toNat_mul]; show (_ * 1024) % 4294967296 = _; omega
    show (tile (ix1 s) * 1024#32).toInt = _
    rw [BitVec.toInt_eq_toNat_of_lt (by rw [en]; omega), en]
  have es : (IntOp.subi (BitVec.ofNat 32 R) (IntOp.muli (tile (ix1 s)) 1024#32)).toInt = (R : ℤ) - ((tile (ix1 s)).toNat * 1024 : ℕ) :=
    Words.sub_toInt (Words.ofNat_toInt (by omega)) em (by omega) (by omega)
  rw [mine_at, IntOp.andi_eq_one, IntOp.andi_eq_one, IntOp.cmpi_sle, IntOp.cmpi_slt, IntOp.cmpi_eq, es]
  unfold In
  refine and_congr_left fun _ => ?_
  omega

theorem foldl_or {ι : Type} (f : ι → BitVec 1) : ∀ (l : List ι) (a : BitVec 1), l.foldl (fun r n => IntOp.ori r (f n)) a = 1#1 ↔ a = 1#1 ∨ ∃ n ∈ l, f n = 1#1
  | [], a => by simp
  | b :: l, a => by
    rw [List.foldl_cons, foldl_or f l, IntOp.ori_eq_one, or_assoc]
    simp

theorem has_iff (tile ex lo hi : IVec S71 32) (ht : ∀ s : Fin 71, (tile (ix1 s)).toNat < 64) (hl : ∀ s : Fin 71, 0 ≤ (lo (ix1 s)).toInt)
    (hh : ∀ s : Fin 71, (hi (ix1 s)).toInt ≤ 1024) (e : BitVec 32) (R : Fin 65536) :
    has tile ex lo hi e (ix1 R) = 1#1 ↔ ∃ s, In tile lo hi R s ∧ ex (ix1 s) = e := by
  unfold has
  rw [Host.reduce_eq_foldl, foldl_or]
  have hd : ∀ i : S65536x71.Idx, reducesTo_S65536x71_S65536_d1.drop i = ix1 (i 0) := fun i => funext fun b => by
    match b with
    | 0 => rfl
  constructor
  · rintro (h | ⟨i, hi', h⟩)
    · exact absurd h (by decide)
    · have h0 := (List.mem_filter.1 hi').2
      have h1 : ix1 (i 0) = (ix1 R : S65536.Idx) := (hd i).symm.trans (of_decide_eq_true h0)
      have h2 : i 0 = R := congrFun h1 0
      refine ⟨i 1, (mine_iff tile ex lo hi ht hl hh e R (i 1)).1 ?_⟩
      rw [← h, ← h2]
      exact congrArg _ (funext fun a => by match a with | 0 => rfl | 1 => rfl)
  · rintro ⟨s, h⟩
    refine Or.inr ⟨ix2 R s, List.mem_filter.2 ⟨?_, decide_eq_true (hd _)⟩, (mine_iff tile ex lo hi ht hl hh e R s).2 h⟩
    exact List.mem_map.2 ⟨S65536x71.rowMajor (ix2 R s), List.mem_finRange _, Equiv.symm_apply_apply _ _⟩

theorem mul_apply (x y : FVec Ideal S65536x1024 .f32) (i : S65536x1024.Idx) : mulf x y i = x i * y i := rfl

theorem term_split (x : FVec Ideal S65536x1024 .f32) (tile ex lo hi : IVec S71 32) (wg wu : FVec Ideal S8x1024x3584 .bf16) (wd : FVec Ideal S8x3584x1024 .bf16)
    (o : ℕ) (h : S8x1024x3584.Slices ![o, 0, 0] S1x1024x3584) (h' : S8x3584x1024.Slices ![o, 0, 0] S1x3584x1024) (R : Fin 65536) (n : Fin 1024) :
    term x tile ex lo hi wg wu wd o h h' (ix2 R n) = gate (has tile ex lo hi (BitVec.ofNat 32 o)) (ix2 R n) * expert x wg wu wd o h h' (ix2 R n) := by
  unfold term
  exact mul_apply _ _ _

open scoped Classical in
theorem term_at (x : FVec Ideal S65536x1024 .f32) (tile ex lo hi : IVec S71 32) (wg wu : FVec Ideal S8x1024x3584 .bf16) (wd : FVec Ideal S8x3584x1024 .bf16)
    (ht : ∀ s : Fin 71, (tile (ix1 s)).toNat < 64) (hl : ∀ s : Fin 71, 0 ≤ (lo (ix1 s)).toInt) (hh : ∀ s : Fin 71, (hi (ix1 s)).toInt ≤ 1024) (o : ℕ) (o' : Fin 8)
    (ho : (o' : ℕ) = o) (h : S8x1024x3584.Slices ![o, 0, 0] S1x1024x3584) (h' : S8x3584x1024.Slices ![o, 0, 0] S1x3584x1024) (R : Fin 65536) (n : Fin 1024) :
    term x tile ex lo hi wg wu wd o h h' (ix2 R n)
      = (if ∃ s, In tile lo hi R s ∧ ex (ix1 s) = BitVec.ofNat 32 o' then 1 else 0)
        * Expert.full (fun k => x (ix2 R k)) (fun k f => wg (ix3 o' k f)) (fun k f => wu (ix3 o' k f)) (fun f => wd (ix3 o' f n)) := by
  subst ho
  rw [term_split, gate_at, expert_at]
  have e := has_iff tile ex lo hi ht hl hh (BitVec.ofNat 32 o') R
  by_cases c : ∃ s, In tile lo hi R s ∧ ex (ix1 s) = BitVec.ofNat 32 o'
  · rw [if_pos c, if_pos (e.2 c)]
  · rw [if_neg c, if_neg (fun h => c (e.1 h))]

theorem sum8_at (t0 t1 t2 t3 t4 t5 t6 t7 : FVec Ideal S65536x1024 .f32) (i : S65536x1024.Idx) (a : Fin 8 → EReal) (h0 : t0 i = a 0) (h1 : t1 i = a 1) (h2 : t2 i = a 2)
    (h3 : t3 i = a 3) (h4 : t4 i = a 4) (h5 : t5 i = a 5) (h6 : t6 i = a 6) (h7 : t7 i = a 7) : sum8 t0 t1 t2 t3 t4 t5 t6 t7 i = ∑ o, a o := by
  rw [Fin.sum_univ_eight, ← h0, ← h1, ← h2, ← h3, ← h4, ← h5, ← h6, ← h7]
  rfl

open scoped Classical in
/-- The reference's result as a sum over the experts. -/
theorem result_at (x : FVec Ideal S65536x1024 .f32) (tile ex lo hi : IVec S71 32) (wg wu : FVec Ideal S8x1024x3584 .bf16) (wd : FVec Ideal S8x3584x1024 .bf16)
    (ht : ∀ s : Fin 71, (tile (ix1 s)).toNat < 64) (hl : ∀ s : Fin 71, 0 ≤ (lo (ix1 s)).toInt) (hh : ∀ s : Fin 71, (hi (ix1 s)).toInt ≤ 1024)
    (R : Fin 65536) (n : Fin 1024) :
    result x tile ex lo hi wg wu wd (ix2 R n)
      = ∑ o : Fin 8, (if ∃ s, In tile lo hi R s ∧ ex (ix1 s) = BitVec.ofNat 32 o then 1 else 0)
        * Expert.full (fun k => x (ix2 R k)) (fun k f => wg (ix3 o k f)) (fun k f => wu (ix3 o k f)) (fun f => wd (ix3 o f n)) := by
  have e := fun o o' ho h h' => term_at x tile ex lo hi wg wu wd ht hl hh o o' ho h h' R n
  unfold result
  exact sum8_at _ _ _ _ _ _ _ _ (ix2 R n) (fun o => (if ∃ s, In tile lo hi R s ∧ ex (ix1 s) = BitVec.ofNat 32 o then 1 else 0)
      * Expert.full (fun k => x (ix2 R k)) (fun k f => wg (ix3 o k f)) (fun k f => wu (ix3 o k f)) (fun f => wd (ix3 o f n)))
    (e 0 0 rfl _ _) (e 1 1 rfl _ _) (e 2 2 rfl _ _) (e 3 3 rfl _ _) (e 4 4 rfl _ _) (e 5 5 rfl _ _) (e 6 6 rfl _ _) (e 7 7 rfl _ _)

/-- A row of a step holds the product of the step's expert. -/
theorem result_hit (x : FVec Ideal S65536x1024 .f32) (tile ex lo hi : IVec S71 32) (wg wu : FVec Ideal S8x1024x3584 .bf16) (wd : FVec Ideal S8x3584x1024 .bf16)
    (ht : ∀ s : Fin 71, (tile (ix1 s)).toNat < 64) (hl : ∀ s : Fin 71, 0 ≤ (lo (ix1 s)).toInt) (hh : ∀ s : Fin 71, (hi (ix1 s)).toInt ≤ 1024)
    (R : Fin 65536) (n : Fin 1024) (s : Fin 71) (o : Fin 8) (hs : In tile lo hi R s)
    (he : ∀ s', In tile lo hi R s' → ex (ix1 s') = BitVec.ofNat 32 o) :
    result x tile ex lo hi wg wu wd (ix2 R n)
      = Expert.full (fun k => x (ix2 R k)) (fun k f => wg (ix3 o k f)) (fun k f => wu (ix3 o k f)) (fun f => wd (ix3 o f n)) := by
  rw [result_at x tile ex lo hi wg wu wd ht hl hh, Finset.sum_eq_single o]
  · rw [if_pos ⟨s, hs, he s hs⟩, one_mul]
  · intro o' _ ho
    rw [if_neg, zero_mul]
    rintro ⟨s', hs', e⟩
    refine ho (Fin.ext ?_)
    have e' := congrArg BitVec.toNat ((he s' hs').symm.trans e)
    rw [BitVec.toNat_ofNat, BitVec.toNat_ofNat] at e'
    omega
  · intro h
    exact absurd (Finset.mem_univ _) h

/-- A row of no step is zero. -/
theorem result_miss (x : FVec Ideal S65536x1024 .f32) (tile ex lo hi : IVec S71 32) (wg wu : FVec Ideal S8x1024x3584 .bf16) (wd : FVec Ideal S8x3584x1024 .bf16)
    (ht : ∀ s : Fin 71, (tile (ix1 s)).toNat < 64) (hl : ∀ s : Fin 71, 0 ≤ (lo (ix1 s)).toInt) (hh : ∀ s : Fin 71, (hi (ix1 s)).toInt ≤ 1024)
    (R : Fin 65536) (n : Fin 1024) (hs : ∀ s, ¬ In tile lo hi R s) : result x tile ex lo hi wg wu wd (ix2 R n) = 0 := by
  rw [result_at x tile ex lo hi wg wu wd ht hl hh]
  refine Finset.sum_eq_zero fun o _ => ?_
  rw [if_neg (fun ⟨s, h, _⟩ => hs s h), zero_mul]

end Cert.ExpertsReferenceIdeal.Swiglu

end
-- ==== Proof.Swiglu.lean ====
/- One grid point's arithmetic in the experts' call, read at an index: a part of an expert's product, and the row test. -/
module

public import proofs.«01_k».proof.Proof.Words
public import proofs.«01_k».proof.Proof.Expert
public import proofs.«01_k».proof.Proof.Launch
public import Idealize.ShloMosaic.Lib.Pipeline.ValueKit

@[expose] public section

set_option maxRecDepth 16384

noncomputable section

namespace Cert.ExpertsIdeal.Swiglu

open Cert.ExpertsIdeal Cert.ExpertsIdeal.Gen Idealize.ShloMosaic Idealize.ShloMosaic.Pipeline

theorem pay1_at (r n : Fin 1024) : k0_pay1 (F := Ideal) (ix2 r n) = 0 := by
  pointwise [k0_pay1]

theorem pay2_at (x : Vec Ideal S1024x1024 .f32) (r k : Fin 1024) : k0_pay2 (F := Ideal) x (ix2 r k) = x (ix2 r k) := by
  pointwise [k0_pay2]

theorem pay3_at (x : Vec Ideal S1024x1024 .bf16) (g u : Vec Ideal S1x1024x512 .bf16) (d : Vec Ideal S1x512x1024 .bf16) (r n : Fin 1024) :
    k0_pay3 (F := Ideal) x g u d (ix2 r n)
      = ∑ f : Fin 512, Expert.hid (fun k => x (ix2 r k)) (fun k => g (ix3 0 k f)) (fun k => u (ix3 0 k f)) * d (ix3 0 f n) := by
  pointwise [k0_pay3, Expert.hid]

theorem pay4_at (x : Vec Ideal S1024x1024 .bf16) (g u : Vec Ideal S1x1024x512 .bf16) (d : Vec Ideal S1x512x1024 .bf16) (r n : Fin 1024) :
    k0_pay4 (F := Ideal) x g u d (ix2 r n) = k0_pay3 (F := Ideal) x g u d (ix2 r n) := by
  pointwise [k0_pay4]

theorem pay5_at (x : Vec Ideal S1024x1024 .bf16) (g u : Vec Ideal S1x1024x512 .bf16) (d : Vec Ideal S1x512x1024 .bf16) (a : Vec Ideal S1024x1024 .f32)
    (r n : Fin 1024) : k0_pay5 (F := Ideal) x g u d a (ix2 r n) = a (ix2 r n) + k0_pay3 (F := Ideal) x g u d (ix2 r n) := by
  pointwise [k0_pay5]

theorem pay6_at (lo hi : BitVec 32) (a y : Vec Ideal S1024x1024 .f32) (r n : Fin 1024) :
    k0_pay6 (F := Ideal) lo hi a y (ix2 r n) = if lo.toInt ≤ ((r : ℕ) : ℤ) ∧ ((r : ℕ) : ℤ) < hi.toInt then a (ix2 r n) else y (ix2 r n) := by
  have e : k0_pay6 (F := Ideal) lo hi a y (ix2 r n) = Scalar.select (IntOp.andi (IntOp.cmpi .sge (BitVec.ofNat 32 r) lo) (IntOp.cmpi .slt (BitVec.ofNat 32 r) hi))
      (a (ix2 r n)) (y (ix2 r n)) := by
    pointwise [k0_pay6]
  have h : IntOp.andi (IntOp.cmpi .sge (BitVec.ofNat 32 r) lo) (IntOp.cmpi .slt (BitVec.ofNat 32 r) hi) = 1#1 ↔ lo.toInt ≤ ((r : ℕ) : ℤ) ∧ ((r : ℕ) : ℤ) < hi.toInt := by
    rw [IntOp.andi_eq_one, IntOp.cmpi_sge, IntOp.cmpi_slt, Words.ofNat_toInt (by omega)]
  rw [e]
  exact if_congr h rfl rfl

end Cert.ExpertsIdeal.Swiglu

end
-- ==== Proof.ExpertValue.lean ====
/- The experts' result array: each step's accumulator holds its expert's product, part by part, and each tile ends as its
   steps' rows of those products and zero elsewhere. -/
module

public import proofs.«01_k».proof.Proof.Swiglu

@[expose] public section

set_option maxRecDepth 16384

noncomputable section

namespace Cert.ExpertsIdeal.Swiglu

open Cert.ExpertsIdeal Cert.ExpertsIdeal.Gen Cert.ExpertsIdeal.Sched Idealize.ShloMosaic.TcCoe Idealize.SL.Sem
open Idealize.ShloMosaic hiding ix1
open Idealize.ShloMosaic.Pipeline (Dat Cfg Window)

variable (T : Tables) (hT : T.Valid)
variable (m : (ℓ : Loc nD τ sig) → Buf (Elt Ideal) ℓ) (ρ : Dev nD → PrngReg) (c : Dev nD)

/-! ## The arguments by row and by expert -/

/-- A row of the tokens. -/
def xrow (R : Fin 65536) : Fin 1024 → EReal := fun k => (m ((c.tc : Thread nD τ).loc main_arg0) : Vec Ideal S65536x1024 .f32) (ix2 R k)
/-- An expert's gate weights. -/
def wg (e : Fin 8) : Fin 1024 → Fin 3584 → EReal := fun k f => (m ((c.tc : Thread nD τ).loc main_arg6) : Vec Ideal S8x1024x3584 .bf16) (ix3 e k f)
/-- An expert's up weights. -/
def wu (e : Fin 8) : Fin 1024 → Fin 3584 → EReal := fun k f => (m ((c.tc : Thread nD τ).loc main_arg7) : Vec Ideal S8x1024x3584 .bf16) (ix3 e k f)
/-- A column of an expert's down weights. -/
def wd (e : Fin 8) (n : Fin 1024) : Fin 3584 → EReal := fun f => (m ((c.tc : Thread nD τ).loc main_arg8) : Vec Ideal S8x3584x1024 .bf16) (ix3 e f n)

/-- Row `r` of step `s`'s tile, among all rows. -/
def rowOf (s : Fin 71) (r : Fin 1024) : Fin 65536 := ⟨(T.tile (ix1 s)).toNat * 1024 + r, by have := hT.tile_lt s; omega⟩
/-- Step `s`'s expert. -/
def exOf (s : Fin 71) : Fin 8 := ⟨(T.ex (ix1 s)).toNat, hT.ex_lt s⟩

/-- The product of step `s`'s expert for row `r` of its tile. -/
def prod (s : Fin 71) (r n : Fin 1024) : EReal := Expert.full (xrow m c (rowOf T hT s r)) (wg m c (exOf T hT s)) (wu m c (exOf T hT s)) (wd m c (exOf T hT s) n)

/-- Row `r` of the tile is one of step `s`'s. -/
def In (s : Fin 71) (r : Fin 1024) : Prop := (T.lo (ix1 s)).toInt ≤ ((r : ℕ) : ℤ) ∧ ((r : ℕ) : ℤ) < (T.hi (ix1 s)).toInt

/-! ## The blocks -/

theorem ind0 (t : Fin (cfgA (F := Ideal) T hT).N) :
    ((cfgA (F := Ideal) T hT).win (0 : Fin 5)).index t = ![(T.tile (ix1 (grid0.coords t 0))).toNat, 0] := tr0 (F := Ideal) T (grid0.coords t)
theorem ind1 (t : Fin (cfgA (F := Ideal) T hT).N) :
    ((cfgA (F := Ideal) T hT).win (1 : Fin 5)).index t = ![(T.ex (ix1 (grid0.coords t 0))).toNat, 0, part T (grid0.coords t)] := tr1 (F := Ideal) T (grid0.coords t)
theorem ind2 (t : Fin (cfgA (F := Ideal) T hT).N) :
    ((cfgA (F := Ideal) T hT).win (2 : Fin 5)).index t = ![(T.ex (ix1 (grid0.coords t 0))).toNat, 0, part T (grid0.coords t)] := tr2 (F := Ideal) T (grid0.coords t)
theorem ind3 (t : Fin (cfgA (F := Ideal) T hT).N) :
    ((cfgA (F := Ideal) T hT).win (3 : Fin 5)).index t = ![(T.ex (ix1 (grid0.coords t 0))).toNat, part T (grid0.coords t), 0] := tr3 (F := Ideal) T (grid0.coords t)

theorem blk0_at (t : Fin (cfgA (F := Ideal) T hT).N) (r k : Fin 1024) :
    (inBlk T hT m ρ c (0 : Fin 5) t : Vec Ideal S1024x1024 .f32) (ix2 r k) = xrow m c (rowOf T hT (grid0.coords t 0) r) k := by
  refine congrArg (m ((c.tc : Thread nD τ).loc main_arg0)) (funext fun a => Fin.ext ?_)
  refine (((cfgA (F := Ideal) T hT).win (0 : Fin 5)).rect_emb_val t (ix2 r k) a).trans ?_
  rw [ind0]
  match a with
  | 0 => rfl
  | 1 => show 0 * 1024 + (k : ℕ) = k; omega

theorem blk1_at (t : Fin (cfgA (F := Ideal) T hT).N) (k : Fin 1024) (f : Fin 512) :
    (inBlk T hT m ρ c (1 : Fin 5) t : Vec Ideal S1x1024x512 .bf16) (ix3 0 k f)
      = wg m c (exOf T hT (grid0.coords t 0)) k (Expert.unit ⟨part T (grid0.coords t), part_lt T _⟩ f) := by
  refine congrArg (m ((c.tc : Thread nD τ).loc main_arg6)) (funext fun a => Fin.ext ?_)
  refine (((cfgA (F := Ideal) T hT).win (1 : Fin 5)).rect_emb_val t (ix3 0 k f) a).trans ?_
  rw [ind1]
  match a with
  | 0 => show (T.ex (ix1 (grid0.coords t 0))).toNat * 1 + 0 = (T.ex (ix1 (grid0.coords t 0))).toNat; omega
  | 1 => show 0 * 1024 + (k : ℕ) = k; omega
  | 2 => rfl

theorem blk2_at (t : Fin (cfgA (F := Ideal) T hT).N) (k : Fin 1024) (f : Fin 512) :
    (inBlk T hT m ρ c (2 : Fin 5) t : Vec Ideal S1x1024x512 .bf16) (ix3 0 k f)
      = wu m c (exOf T hT (grid0.coords t 0)) k (Expert.unit ⟨part T (grid0.coords t), part_lt T _⟩ f) := by
  refine congrArg (m ((c.tc : Thread nD τ).loc main_arg7)) (funext fun a => Fin.ext ?_)
  refine (((cfgA (F := Ideal) T hT).win (2 : Fin 5)).rect_emb_val t (ix3 0 k f) a).trans ?_
  rw [ind2]
  match a with
  | 0 => show (T.ex (ix1 (grid0.coords t 0))).toNat * 1 + 0 = (T.ex (ix1 (grid0.coords t 0))).toNat; omega
  | 1 => show 0 * 1024 + (k : ℕ) = k; omega
  | 2 => rfl

theorem blk3_at (t : Fin (cfgA (F := Ideal) T hT).N) (f : Fin 512) (n : Fin 1024) :
    (inBlk T hT m ρ c (3 : Fin 5) t : Vec Ideal S1x512x1024 .bf16) (ix3 0 f n)
      = wd m c (exOf T hT (grid0.coords t 0)) n (Expert.unit ⟨part T (grid0.coords t), part_lt T _⟩ f) := by
  refine congrArg (m ((c.tc : Thread nD τ).loc main_arg8)) (funext fun a => Fin.ext ?_)
  refine (((cfgA (F := Ideal) T hT).win (3 : Fin 5)).rect_emb_val t (ix3 0 f n) a).trans ?_
  rw [ind3]
  match a with
  | 0 => show (T.ex (ix1 (grid0.coords t 0))).toNat * 1 + 0 = (T.ex (ix1 (grid0.coords t 0))).toNat; omega
  | 1 => rfl
  | 2 => show 0 * 1024 + (n : ℕ) = n; omega

/-! ## A point's product -/

/-- What the body multiplies at a point of a step with rows is its part of the step's product. -/
theorem point_at (t : Fin (cfgA (F := Ideal) T hT).N) (hl : (T.lo (ix1 (grid0.coords t 0))).toInt < (T.hi (ix1 (grid0.coords t 0))).toInt)
    (x : Vec Ideal S1024x1024 .bf16) (hx : ∀ r k, x (ix2 r k) = xrow m c (rowOf T hT (grid0.coords t 0) r) k) (r n : Fin 1024) :
    k0_pay3 (F := Ideal) x (inBlk T hT m ρ c (1 : Fin 5) t) (inBlk T hT m ρ c (2 : Fin 5) t) (inBlk T hT m ρ c (3 : Fin 5) t) (ix2 r n)
      = Expert.part (xrow m c (rowOf T hT (grid0.coords t 0) r)) (wg m c (exOf T hT (grid0.coords t 0))) (wu m c (exOf T hT (grid0.coords t 0)))
          (wd m c (exOf T hT (grid0.coords t 0)) n) (grid0.coords t 1) := by
  refine (pay3_at _ _ _ _ r n).trans ?_
  have ep : (⟨part T (grid0.coords t), part_lt T _⟩ : Fin 7) = grid0.coords t 1 := Fin.ext (by show part T (grid0.coords t) = _; unfold part; rw [if_pos hl])
  unfold Expert.part
  refine Finset.sum_congr rfl fun f _ => ?_
  rw [blk3_at, ← ep]
  congr 2
  · exact funext fun k => hx r k
  · exact funext fun k => blk1_at T hT m ρ c t k f
  · exact funext fun k => blk2_at T hT m ρ c t k f

/-! ## The scratch buffers -/

theorem stepAt_live (t : Fin (cfgA (F := Ideal) T hT).N) (hl : (T.lo (ix1 (grid0.coords t 0))).toInt < (T.hi (ix1 (grid0.coords t 0))).toInt) (p : St Ideal) :
    (stepAt T hT m ρ c t p).2 =
      if (grid0.coords t 1).val = 0 then
        (k0_pay2 (F := Ideal) (inBlk T hT m ρ c (0 : Fin 5) t), k0_pay4 (F := Ideal) (k0_pay2 (F := Ideal) (inBlk T hT m ρ c (0 : Fin 5) t))
          (inBlk T hT m ρ c (1 : Fin 5) t) (inBlk T hT m ρ c (2 : Fin 5) t) (inBlk T hT m ρ c (3 : Fin 5) t))
      else (p.2.1, k0_pay5 (F := Ideal) p.2.1 (inBlk T hT m ρ c (1 : Fin 5) t) (inBlk T hT m ρ c (2 : Fin 5) t) (inBlk T hT m ρ c (3 : Fin 5) t) p.2.2) := by
  unfold stepAt step
  have h2 : k0_cond2 (loW (F := Ideal) T hT t) (hiW (F := Ideal) T hT t) = 1#1 := (cond2_iff _ _).2 hl
  simp only [h2, ↓reduceIte]
  by_cases hj : (grid0.coords t 1).val = 0
  · rw [if_pos hj, if_pos hj, if_pos hj]
  · rw [if_neg hj, if_neg hj, if_neg hj]

/-- Through a step with rows, the first scratch buffer holds its tile's rows and the second the parts so far. -/
theorem scratch_at (s : Fin 71) (hl : (T.lo (ix1 s)).toInt < (T.hi (ix1 s)).toInt) : ∀ (j : ℕ) (hj : j < 7) (h : 7 * s.val + j < (cfgA (F := Ideal) T hT).N),
    (∀ r k, (traj T hT m ρ c (7 * s.val + j) h).2.1 (ix2 r k) = xrow m c (rowOf T hT s r) k)
    ∧ ∀ r n, (traj T hT m ρ c (7 * s.val + j) h).2.2 (ix2 r n)
        = Expert.upTo (xrow m c (rowOf T hT s r)) (wg m c (exOf T hT s)) (wu m c (exOf T hT s)) (wd m c (exOf T hT s) n) (j + 1) := by
  intro j
  induction j with
  | zero =>
    intro hj h
    have e0 : grid0.coords ⟨7 * s.val + 0, h⟩ 0 = s := Fin.ext ((coords0 ⟨7 * s.val + 0, h⟩).trans (by show (7 * s.val + 0) / 7 = s.val; omega))
    have e1 : (grid0.coords ⟨7 * s.val + 0, h⟩ 1).val = 0 := (coords1 ⟨7 * s.val + 0, h⟩).trans (by show (7 * s.val + 0) % 7 = 0; omega)
    have e := stepAt_live T hT m ρ c ⟨7 * s.val + 0, h⟩ (by rw [e0]; exact hl) (prevT T hT m ρ c (Fin.castSucc ⟨7 * s.val + 0, h⟩))
    rw [← traj_eq, if_pos e1] at e
    have hx : ∀ r k, (k0_pay2 (F := Ideal) (inBlk T hT m ρ c (0 : Fin 5) ⟨7 * s.val + 0, h⟩)) (ix2 r k) = xrow m c (rowOf T hT (grid0.coords ⟨7 * s.val + 0, h⟩ 0) r) k :=
      fun r k => (pay2_at _ r k).trans (blk0_at T hT m ρ c ⟨7 * s.val + 0, h⟩ r k)
    refine ⟨fun r k => ?_, fun r n => ?_⟩
    · refine (congrFun (congrArg Prod.fst e) (ix2 r k)).trans ((hx r k).trans ?_)
      rw [e0]
    · refine (congrFun (congrArg Prod.snd e) (ix2 r n)).trans ((pay4_at _ _ _ _ r n).trans ((point_at T hT m ρ c ⟨7 * s.val + 0, h⟩ (by rw [e0]; exact hl) _ hx r n).trans ?_))
      have e1' : grid0.coords ⟨7 * s.val + 0, h⟩ 1 = (0 : Fin 7) := Fin.ext e1
      rw [e0, e1']
      simp only [Expert.upTo, Nat.ofNat_pos, ↓reduceDIte, zero_add]
      rfl
  | succ j ih =>
    intro hj h
    obtain ⟨hx', ha⟩ := ih (by omega) (Nat.lt_of_succ_lt h)
    have e0 : grid0.coords ⟨7 * s.val + (j + 1), h⟩ 0 = s := Fin.ext ((coords0 ⟨7 * s.val + (j + 1), h⟩).trans (by show (7 * s.val + (j + 1)) / 7 = s.val; omega))
    have e1 : (grid0.coords ⟨7 * s.val + (j + 1), h⟩ 1).val = j + 1 := (coords1 ⟨7 * s.val + (j + 1), h⟩).trans (by show (7 * s.val + (j + 1)) % 7 = j + 1; omega)
    have e := stepAt_live T hT m ρ c ⟨7 * s.val + (j + 1), h⟩ (by rw [e0]; exact hl) (prevT T hT m ρ c (Fin.castSucc ⟨7 * s.val + (j + 1), h⟩))
    rw [← traj_eq, if_neg (by rw [e1]; omega), prevT_pos T hT m ρ c ⟨7 * s.val + (j + 1), h⟩ (by show 7 * s.val + (j + 1) ≠ 0; omega)] at e
    have hx : ∀ r k, (traj T hT m ρ c (7 * s.val + j) (Nat.lt_of_succ_lt h)).2.1 (ix2 r k) = xrow m c (rowOf T hT (grid0.coords ⟨7 * s.val + (j + 1), h⟩ 0) r) k := by
      rw [e0]; exact hx'
    refine ⟨fun r k => ?_, fun r n => ?_⟩
    · exact (congrFun (congrArg Prod.fst e) (ix2 r k)).trans (hx' r k)
    · refine (congrFun (congrArg Prod.snd e) (ix2 r n)).trans ((pay5_at _ _ _ _ _ r n).trans ?_)
      refine (congrArg₂ (· + ·) (ha r n) (point_at T hT m ρ c ⟨7 * s.val + (j + 1), h⟩ (by rw [e0]; exact hl) _ hx r n)).trans ?_
      have e1' : grid0.coords ⟨7 * s.val + (j + 1), h⟩ 1 = (⟨j + 1, hj⟩ : Fin 7) := Fin.ext e1
      rw [e0, e1']
      show _ = Expert.upTo _ _ _ _ (j + 1) + if h : j + 1 < 7 then Expert.part _ _ _ _ ⟨j + 1, h⟩ else 0
      rw [dif_pos hj]

/-- After a step's last point the second scratch buffer holds the step's product. -/
theorem scratch_last (s : Fin 71) (hl : (T.lo (ix1 s)).toInt < (T.hi (ix1 s)).toInt) (h : 7 * s.val + 6 < (cfgA (F := Ideal) T hT).N) (r n : Fin 1024) :
    (traj T hT m ρ c (7 * s.val + 6) h).2.2 (ix2 r n) = prod T hT m c s r n :=
  ((scratch_at T hT m ρ c s hl 6 (by omega) h).2 r n).trans (Expert.upTo_seven _ _ _ _)

end Cert.ExpertsIdeal.Swiglu

end
-- ==== Proof.ExpertMatch.lean ====
/- The experts' result array is the reference's result: the output block along the points, and the write-backs. -/
module

public import proofs.«01_k».proof.Proof.ExpertValue
public import proofs.«01_k».proof.Proof.ExpertRef

@[expose] public section

set_option maxRecDepth 16384

noncomputable section

namespace Cert.ExpertsIdeal.Swiglu

open Cert.ExpertsIdeal Cert.ExpertsIdeal.Gen Cert.ExpertsIdeal.Sched Idealize.ShloMosaic.TcCoe Idealize.SL.Sem
open Idealize.ShloMosaic hiding ix1
open Idealize.ShloMosaic.Pipeline (Dat Cfg Window)

variable (T : Tables) (hT : T.Valid)
variable (m : (ℓ : Loc nD τ sig) → Buf (Elt Ideal) ℓ) (ρ : Dev nD → PrngReg) (c : Dev nD)

/-! ## The output block -/

/-- A block holds what the steps that ended before point `b` leave of step `s`'s tile. -/
def Good (b : ℕ) (s : Fin 71) (y : Vec Ideal S1024x1024 .f32) : Prop :=
  ∀ r n, (∀ s' : Fin 71, 7 * s'.val + 6 < b → T.tile (ix1 s') = T.tile (ix1 s) → In T s' r → y (ix2 r n) = prod T hT m c s' r n)
    ∧ ((∀ s' : Fin 71, 7 * s'.val + 6 < b → T.tile (ix1 s') = T.tile (ix1 s) → ¬ In T s' r) → y (ix2 r n) = 0)

/-- Steps of one tile that share a row share its product. -/
theorem prod_eq (s s' : Fin 71) (r n : Fin 1024) (ht : T.tile (ix1 s) = T.tile (ix1 s')) (h : In T s r) (h' : In T s' r) :
    prod T hT m c s r n = prod T hT m c s' r n := by
  have er : rowOf T hT s r = rowOf T hT s' r := Fin.ext (by show (T.tile (ix1 s)).toNat * 1024 + (r : ℕ) = (T.tile (ix1 s')).toNat * 1024 + (r : ℕ); rw [ht])
  have ee : exOf T hT s = exOf T hT s' := Fin.ext (by
    show (T.ex (ix1 s)).toNat = (T.ex (ix1 s')).toNat
    rw [hT.apart s s' ht r h.1 h.2 h'.1 h'.2])
  unfold prod
  rw [er, ee]

include hT in
theorem tile_le : ∀ (b a : ℕ) (hb : b < 71) (h : a ≤ b), (T.tile (ix1 ⟨a, by omega⟩)).toNat ≤ (T.tile (ix1 ⟨b, hb⟩)).toNat
  | 0, a, hb, h => by
    have e : a = 0 := by omega
    subst e
    exact Nat.le_refl _
  | b + 1, a, hb, h => by
    by_cases e : a = b + 1
    · subst e
      exact Nat.le_refl _
    · exact Nat.le_trans (tile_le b a (by omega) (by omega)) (hT.tile_mono b hb)

/-- The first point of a tile clears the block. -/
theorem good_first (s : Fin 71) (hf : T.first (ix1 s) = 1#32) : Good T hT m c (7 * s.val) s (k0_pay1 (F := Ideal)) := by
  intro r n
  refine ⟨fun s' hs' ht _ => ?_, fun _ => pay1_at r n⟩
  exfalso
  obtain ⟨s, hs⟩ := s
  cases s with
  | zero =>
    have h0 : 7 * s'.val + 6 < 7 * 0 := hs'
    omega
  | succ k =>
    have h0 : 7 * s'.val + 6 < 7 * (k + 1) := hs'
    have hne := (hT.first_succ k hs).1 hf
    have h1 := tile_le T hT k s'.val (by omega) (by show s'.val ≤ k; omega)
    have h2 := hT.tile_mono k hs
    rw [show T.tile (ix1 ⟨s'.val, _⟩) = T.tile (ix1 ⟨k + 1, hs⟩) from ht] at h1
    exact hne (BitVec.eq_of_toNat_eq (by omega))

/-- Across a step that does not begin a tile, the block goes on. -/
theorem good_next (b : ℕ) (s s' : Fin 71) (y : Vec Ideal S1024x1024 .f32) (ht : T.tile (ix1 s) = T.tile (ix1 s')) (h : Good T hT m c b s y) : Good T hT m c b s' y := by
  intro r n
  rw [← ht]
  exact h r n

/-- A point that ends no step with rows changes nothing. -/
theorem good_keep (k : ℕ) (s : Fin 71) (y : Vec Ideal S1024x1024 .f32)
    (hk : k % 7 = 6 → ∀ s' : Fin 71, s'.val = k / 7 → ¬ (T.lo (ix1 s')).toInt < (T.hi (ix1 s')).toInt) (h : Good T hT m c k s y) : Good T hT m c (k + 1) s y := by
  intro r n
  obtain ⟨h1, h2⟩ := h r n
  refine ⟨fun s' hs' ht hi => ?_, fun h0 => h2 fun s' hs' ht => h0 s' (by omega) ht⟩
  by_cases e : 7 * s'.val + 6 < k
  · exact h1 s' e ht hi
  · exact absurd (lt_of_le_of_lt hi.1 hi.2) (hk (by omega) s' (by omega))

/-- A point that ends a step with rows stores the step's rows. -/
theorem good_store (s : Fin 71) (a y : Vec Ideal S1024x1024 .f32) (ha : ∀ r n, a (ix2 r n) = prod T hT m c s r n) (h : Good T hT m c (7 * s.val + 6) s y) :
    Good T hT m c (7 * s.val + 6 + 1) s (k0_pay6 (F := Ideal) (T.lo (ix1 s)) (T.hi (ix1 s)) a y) := by
  intro r n
  obtain ⟨h1, h2⟩ := h r n
  by_cases hr : In T s r
  · rw [(pay6_at _ _ _ _ r n).trans (if_pos hr)]
    exact ⟨fun s' _ ht hi => (ha r n).trans (prod_eq T hT m c s s' r n ht.symm hr hi), fun h0 => absurd hr (h0 s (by omega) rfl)⟩
  · rw [(pay6_at _ _ _ _ r n).trans (if_neg hr)]
    refine ⟨fun s' hs' ht hi => ?_, fun h0 => h2 fun s' hs' ht => h0 s' (by omega) ht⟩
    by_cases e : s' = s
    · subst e
      exact absurd hi hr
    · exact h1 s' (by have : s'.val ≠ s.val := fun h => e (Fin.ext h); omega) ht hi

theorem stepAt_out (t : Fin (cfgA (F := Ideal) T hT).N) (p : St Ideal) :
    (stepAt T hT m ρ c t p).1 =
      if (T.lo (ix1 (grid0.coords t 0))).toInt < (T.hi (ix1 (grid0.coords t 0))).toInt ∧ (grid0.coords t 1).val = 6 then
        k0_pay6 (F := Ideal) (T.lo (ix1 (grid0.coords t 0))) (T.hi (ix1 (grid0.coords t 0))) (stepAt T hT m ρ c t p).2.2
          (if k0_cond1 (grid0.coords t) (T.first (ix1 (grid0.coords t 0))) = 1#1 then k0_pay1 (F := Ideal) else p.1)
      else if k0_cond1 (grid0.coords t) (T.first (ix1 (grid0.coords t 0))) = 1#1 then k0_pay1 (F := Ideal) else p.1 := by
  unfold stepAt step
  by_cases hl : (T.lo (ix1 (grid0.coords t 0))).toInt < (T.hi (ix1 (grid0.coords t 0))).toInt
  · have h2 : k0_cond2 (loW (F := Ideal) T hT t) (hiW (F := Ideal) T hT t) = 1#1 := (cond2_iff _ _).2 hl
    simp only [h2, ↓reduceIte]
    by_cases hj : (grid0.coords t 1).val = 6
    · simp only [hj, hl, and_self, ↓reduceIte]
    · simp only [hj, and_false, ↓reduceIte]
  · have h2 : ¬ k0_cond2 (loW (F := Ideal) T hT t) (hiW (F := Ideal) T hT t) = 1#1 := fun h => hl ((cond2_iff _ _).1 h)
    simp only [h2, hl, false_and, ↓reduceIte]

/-- A point takes a block that is good before it to one that is good after it. -/
theorem good_point (k : ℕ) (h : k < (cfgA (F := Ideal) T hT).N) (s : Fin 71) (hs : grid0.coords ⟨k, h⟩ 0 = s)
    (hp : ¬ k0_cond1 (grid0.coords ⟨k, h⟩) (T.first (ix1 s)) = 1#1 → Good T hT m c k s (prevT T hT m ρ c (Fin.castSucc ⟨k, h⟩)).1) :
    Good T hT m c (k + 1) s (traj T hT m ρ c k h).1 := by
  have hd : s.val = k / 7 := (congrArg Fin.val hs).symm.trans (coords0 ⟨k, h⟩)
  have hj : (grid0.coords ⟨k, h⟩ 1).val = k % 7 := coords1 ⟨k, h⟩
  have hy : Good T hT m c k s (if k0_cond1 (grid0.coords ⟨k, h⟩) (T.first (ix1 s)) = 1#1 then k0_pay1 (F := Ideal) else (prevT T hT m ρ c (Fin.castSucc ⟨k, h⟩)).1) := by
    by_cases h1 : k0_cond1 (grid0.coords ⟨k, h⟩) (T.first (ix1 s)) = 1#1
    · rw [if_pos h1]
      obtain ⟨h0, hf⟩ := (cond1_iff _ _).1 h1
      have g := good_first T hT m c s hf
      rwa [show 7 * s.val = k by omega] at g
    · rw [if_neg h1]; exact hp h1
  have et : (traj T hT m ρ c k h).1 = (stepAt T hT m ρ c ⟨k, h⟩ (prevT T hT m ρ c (Fin.castSucc ⟨k, h⟩))).1 := congrArg Prod.fst (traj_eq T hT m ρ c ⟨k, h⟩)
  rw [et, stepAt_out, hs]
  by_cases hc : (T.lo (ix1 s)).toInt < (T.hi (ix1 s)).toInt ∧ (grid0.coords ⟨k, h⟩ 1).val = 6
  · rw [if_pos hc, ← traj_eq]
    have ek : k = 7 * s.val + 6 := by omega
    subst ek
    exact good_store T hT m c s _ _ (fun r n => scratch_last T hT m ρ c s hc.1 h r n) hy
  · rw [if_neg hc]
    refine good_keep T hT m c k s _ (fun h6 s' hs' hl => hc ⟨?_, by omega⟩) hy
    rwa [show s' = s from Fin.ext (by omega)] at hl

/-- The output block after every point. -/
theorem good : ∀ (k : ℕ) (h : k < (cfgA (F := Ideal) T hT).N) (s : Fin 71), s.val = k / 7 → Good T hT m c (k + 1) s (traj T hT m ρ c k h).1 := by
  intro k
  induction k with
  | zero =>
    intro h s hs
    have e : grid0.coords ⟨0, h⟩ 0 = s := Fin.ext ((coords0 ⟨0, h⟩).trans hs.symm)
    refine good_point T hT m ρ c 0 h s e fun h1 => absurd ((cond1_iff _ _).2 ⟨(coords1 ⟨0, h⟩).trans (by show 0 % 7 = 0; rfl), ?_⟩) h1
    rw [show s = 0 from Fin.ext (by show s.val = 0; omega)]
    exact hT.first_zero
  | succ k ih =>
    intro h s hs
    have e : grid0.coords ⟨k + 1, h⟩ 0 = s := Fin.ext ((coords0 ⟨k + 1, h⟩).trans hs.symm)
    refine good_point T hT m ρ c (k + 1) h s e fun h1 => ?_
    rw [prevT_pos T hT m ρ c ⟨k + 1, h⟩ (by show k + 1 ≠ 0; omega)]
    have hk : k / 7 < 71 := by omega
    refine good_next T hT m c (k + 1) ⟨k / 7, hk⟩ s _ ?_ (ih (Nat.lt_of_succ_lt h) ⟨k / 7, hk⟩ rfl)
    by_cases h7 : (k + 1) % 7 = 0
    · have hs' : k / 7 + 1 < 71 := by omega
      have es : s = ⟨k / 7 + 1, hs'⟩ := Fin.ext (by show s.val = k / 7 + 1; omega)
      subst es
      by_contra hne
      exact h1 ((cond1_iff _ _).2 ⟨(coords1 ⟨k + 1, h⟩).trans h7, (hT.first_succ (k / 7) hs').2 hne⟩)
    · rw [show (⟨k / 7, hk⟩ : Fin 71) = s from Fin.ext (by show k / 7 = s.val; omega)]

/-! ## The write-backs -/

include hT in
/-- Every tile has a last step. -/
theorem last_step (τ' : ℕ) : ∀ (b : ℕ) (hb : b < 71), τ' < (T.tile (ix1 ⟨b, hb⟩)).toNat →
    ∃ (s : ℕ) (h : s + 1 < 71), (T.tile (ix1 ⟨s, by omega⟩)).toNat = τ' ∧ T.tile (ix1 ⟨s, by omega⟩) ≠ T.tile (ix1 ⟨s + 1, h⟩)
  | 0, hb, h => by
    have h0 : (T.tile (ix1 ⟨0, hb⟩)).toNat = 0 := hT.tile_zero
    omega
  | b + 1, hb, h => by
    by_cases h' : τ' < (T.tile (ix1 ⟨b, by omega⟩)).toNat
    · exact last_step τ' b (by omega) h'
    · have h1 := hT.tile_step b hb
      refine ⟨b, hb, by omega, fun e => ?_⟩
      rw [← e] at h
      exact h' h

include hT in
/-- Every tile is written back after some point. -/
theorem written (τ' : ℕ) (hτ : τ' < 64) : ∃ t : Fin (cfgA (F := Ideal) T hT).N, ((cfgA (F := Ideal) T hT).win (4 : Fin 5)).flush t = true
    ∧ (T.tile (ix1 (grid0.coords t 0))).toNat = τ' := by
  have h70 : (T.tile (ix1 ⟨70, by omega⟩)).toNat = 63 := hT.tile_last
  by_cases h : τ' < 63
  · obtain ⟨s, hs, h1, h2⟩ := last_step T hT τ' 70 (by omega) (by omega)
    have hN : 7 * s + 6 < (cfgA (F := Ideal) T hT).N := by show 7 * s + 6 < 497; omega
    have hd : (7 * s + 6) / 7 = s := by omega
    have e : grid0.coords ⟨7 * s + 6, hN⟩ 0 = (⟨s, by omega⟩ : Fin 71) := Fin.ext ((coords0 ⟨7 * s + 6, hN⟩).trans hd)
    refine ⟨⟨7 * s + 6, hN⟩, (flush4 T hT _).2 (Or.inr ⟨by show (7 * s + 6) / 7 + 1 < 71; omega, by show (7 * s + 6) % 7 = 6; omega, ?_⟩), by rw [e]; exact h1⟩
    simp only [hd]
    exact h2
  · have hN : 496 < (cfgA (F := Ideal) T hT).N := by show 496 < 497; omega
    have e : grid0.coords ⟨496, hN⟩ 0 = (⟨70, by omega⟩ : Fin 71) := Fin.ext ((coords0 ⟨496, hN⟩).trans (by show 496 / 7 = 70; rfl))
    refine ⟨⟨496, hN⟩, (flush4 T hT _).2 (Or.inl rfl), ?_⟩
    rw [e]; omega

include hT in
/-- Where a tile is written back all its steps have ended. -/
theorem ended (t : Fin (cfgA (F := Ideal) T hT).N) (hf : ((cfgA (F := Ideal) T hT).win (4 : Fin 5)).flush t = true) (s s' : Fin 71) (hs : s.val = t.val / 7)
    (ht : T.tile (ix1 s') = T.tile (ix1 s)) : 7 * s'.val + 6 < t.val + 1 := by
  have h3 : s'.val < 71 := s'.isLt
  rcases (flush4 T hT t).1 hf with h | ⟨h, h6, hne⟩
  · omega
  · by_contra hc
    have h1 := tile_le T hT s'.val (t.val / 7 + 1) s'.isLt (by omega)
    have h2 := hT.tile_mono (t.val / 7) h
    have es : s = ⟨t.val / 7, by omega⟩ := Fin.ext hs
    rw [show T.tile (ix1 ⟨s'.val, s'.isLt⟩) = T.tile (ix1 s) from ht, es] at h1
    exact hne (BitVec.eq_of_toNat_eq (by omega))

/-- The reference's result for this memory. -/
abbrev refResult : Vec Ideal S65536x1024 .f32 :=
  ExpertsReferenceIdeal.Swiglu.result (m ((c.tc : Thread nD τ).loc main_arg0)) T.tile T.ex T.lo T.hi
    (m ((c.tc : Thread nD τ).loc main_arg6)) (m ((c.tc : Thread nD τ).loc main_arg7)) (m ((c.tc : Thread nD τ).loc main_arg8))

/-- A step's index, built either way. -/
theorem ix1_eq (s : Fin 71) : (Idealize.ShloMosaic.ix1 s : S71.Idx) = ix1 s := funext fun a => by
  match a with
  | 0 => rfl

include hT in
theorem bounds : (∀ s : Fin 71, (T.tile (Idealize.ShloMosaic.ix1 s)).toNat < 64) ∧ (∀ s : Fin 71, 0 ≤ (T.lo (Idealize.ShloMosaic.ix1 s)).toInt)
    ∧ ∀ s : Fin 71, (T.hi (Idealize.ShloMosaic.ix1 s)).toInt ≤ 1024 :=
  ⟨fun s => (congrArg (fun i => (T.tile i).toNat < 64) (ix1_eq s)).mpr (hT.tile_lt s), fun s => (congrArg (fun i => 0 ≤ (T.lo i).toInt) (ix1_eq s)).mpr (hT.lo_nonneg s),
    fun s => (congrArg (fun i => (T.hi i).toInt ≤ 1024) (ix1_eq s)).mpr (hT.hi_le s)⟩

/-- A row of a tile is a step's in the call as in the reference. -/
theorem in_iff (s s' : Fin 71) (r : Fin 1024) : ExpertsReferenceIdeal.Swiglu.In T.tile T.lo T.hi (rowOf T hT s r) s' ↔ T.tile (ix1 s') = T.tile (ix1 s) ∧ In T s' r := by
  have h1 : (rowOf T hT s r : ℕ) / 1024 = (T.tile (ix1 s)).toNat := by show ((T.tile (ix1 s)).toNat * 1024 + (r : ℕ)) / 1024 = _; omega
  have h2 : (rowOf T hT s r : ℕ) % 1024 = r := by show ((T.tile (ix1 s)).toNat * 1024 + (r : ℕ)) % 1024 = _; omega
  unfold ExpertsReferenceIdeal.Swiglu.In In
  rw [h1, h2, show (Idealize.ShloMosaic.ix1 s' : S71.Idx) = ix1 s' from ix1_eq s']
  exact and_congr_left fun _ => ⟨fun h => BitVec.eq_of_toNat_eq h, fun h => congrArg BitVec.toNat h⟩

/-- A block with all its tile's steps holds the reference's rows. -/
theorem good_ref (b : ℕ) (s : Fin 71) (y : Vec Ideal S1024x1024 .f32) (h : Good T hT m c b s y)
    (hb : ∀ s' : Fin 71, T.tile (ix1 s') = T.tile (ix1 s) → 7 * s'.val + 6 < b) (r n : Fin 1024) : y (ix2 r n) = refResult T m c (ix2 (rowOf T hT s r) n) := by
  obtain ⟨h1, h2⟩ := h r n
  by_cases hc : ∃ s' : Fin 71, T.tile (ix1 s') = T.tile (ix1 s) ∧ In T s' r
  · obtain ⟨s', ht, hi⟩ := hc
    refine (h1 s' (hb s' ht) ht hi).trans ?_
    have e := ExpertsReferenceIdeal.Swiglu.result_hit (m ((c.tc : Thread nD τ).loc main_arg0)) T.tile T.ex T.lo T.hi
      (m ((c.tc : Thread nD τ).loc main_arg6)) (m ((c.tc : Thread nD τ).loc main_arg7)) (m ((c.tc : Thread nD τ).loc main_arg8))
      (bounds T hT).1 (bounds T hT).2.1 (bounds T hT).2.2 (rowOf T hT s r) n s' (exOf T hT s') ((in_iff T hT s s' r).2 ⟨ht, hi⟩) (fun s'' h'' => by
        obtain ⟨ht', hi'⟩ := (in_iff T hT s s'' r).1 h''
        rw [show (Idealize.ShloMosaic.ix1 s'' : S71.Idx) = ix1 s'' from ix1_eq s'', hT.apart s'' s' (ht'.trans ht.symm) r hi'.1 hi'.2 hi.1 hi.2]
        show T.ex (ix1 s') = BitVec.ofNat 32 (T.ex (ix1 s')).toNat
        rw [BitVec.ofNat_toNat, BitVec.setWidth_eq])
    have er : rowOf T hT s' r = rowOf T hT s r := Fin.ext (by show (T.tile (ix1 s')).toNat * 1024 + (r : ℕ) = (T.tile (ix1 s)).toNat * 1024 + (r : ℕ); rw [ht])
    unfold prod
    rw [er]
    exact e.symm
  · refine (h2 fun s' _ ht hi => hc ⟨s', ht, hi⟩).trans (Eq.symm ?_)
    exact ExpertsReferenceIdeal.Swiglu.result_miss (m ((c.tc : Thread nD τ).loc main_arg0)) T.tile T.ex T.lo T.hi
      (m ((c.tc : Thread nD τ).loc main_arg6)) (m ((c.tc : Thread nD τ).loc main_arg7)) (m ((c.tc : Thread nD τ).loc main_arg8))
      (bounds T hT).1 (bounds T hT).2.1 (bounds T hT).2.2 (rowOf T hT s r) n (fun s' h' => hc ⟨s', (in_iff T hT s s' r).1 h'⟩)

/-- The result array. -/
theorem final : (dats T hT m ρ 0 c).arrAt (4 : Fin 5) (cfgA (F := Ideal) T hT).N = refResult T m c := by
  refine (dats T hT m ρ 0 c).arrAt_eq_of_emb (4 : Fin 5) _ (fun t hf y => ?_) (fun i => ?_)
  · have hs : (grid0.coords t 0).val = t.val / 7 := coords0 t
    have g := good_ref T hT m c (t.val + 1) (grid0.coords t 0) _ (good T hT m ρ c t.val t.isLt (grid0.coords t 0) hs)
      (fun s' ht => ended T hT t hf (grid0.coords t 0) s' hs ht) (y (0 : Fin 2)) (y (1 : Fin 2))
    refine (congrArg (traj T hT m ρ c t.val t.isLt).1 (funext fun a => ?_ : _ = ix2 (y (0 : Fin 2)) (y (1 : Fin 2)))).trans
      (g.trans (congrArg (refResult T m c) (funext fun a => Fin.ext ?_)))
    · match a with
      | 0 => rfl
      | 1 => rfl
    · refine Eq.trans ?_ (((cfgA (F := Ideal) T hT).win (4 : Fin 5)).rect_emb_val t y a).symm
      rw [index4]
      match a with
      | 0 => rfl
      | 1 => show (y (1 : Fin 2)).val = 0 * 1024 + (y (1 : Fin 2)).val; omega
  · obtain ⟨j, rfl⟩ := View.exists_emb_of_mem_set _
      (show i ∈ ((cfgA (F := Ideal) T hT).win (4 : Fin 5)).arr.view.set from (Memref.isWhole_whole _).set_eq_univ ▸ Finset.mem_univ i)
    have h0 : (j (0 : Fin 2)).val < 65536 := (j (0 : Fin 2)).isLt
    have h1 : (j (1 : Fin 2)).val < 1024 := (j (1 : Fin 2)).isLt
    obtain ⟨t, hf, ht⟩ := written T hT ((j (0 : Fin 2)).val / 1024) (by omega)
    refine ⟨t, hf, (((cfgA (F := Ideal) T hT).win (4 : Fin 5)).emb_mem_blk_iff t j).mpr fun a => ?_⟩
    rw [index4, ht]
    match a with
    | 0 =>
      show (j (0 : Fin 2)).val / 1024 * 1024 ≤ (j (0 : Fin 2)).val ∧ (j (0 : Fin 2)).val < (j (0 : Fin 2)).val / 1024 * 1024 + 1024
      omega
    | 1 =>
      show 0 * 1024 ≤ (j (1 : Fin 2)).val ∧ (j (1 : Fin 2)).val < 0 * 1024 + 1024
      omega

/-- The run leaves the computed blocks in the result and the arguments as they were. -/
theorem run_blocks (T : Tables) (hT : T.Valid) (m : (ℓ : Loc nD τ sig) → Buf (Elt Ideal) ℓ) (ρ : Dev nD → PrngReg) (hp : Holds T m) :
    θ_run (defs (F := Ideal)) (onTc (τ := τ) (main (F := Ideal))) ⟨m, fun _ => 0, ρ⟩ (fun r => ∀ c : Dev nD,
      r.2.mem ((c.tc : Thread nD τ).loc main_v0) = (dats T hT m ρ 0 c).arrAt (4 : Fin 5) (cfgA (F := Ideal) T hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.1 c).1 (4 : Fin 5), ((h.1 c).1 (0 : Fin 5)).trans ((dats T hT m ρ 0 c).arrAt_in (0 : Fin 5) rfl _),
    ((h.1 c).2 0).trans (hp c).1.symm, ((h.1 c).2 1).trans (hp c).2.1.symm, ((h.1 c).2 2).trans (hp c).2.2.1.symm,
    ((h.1 c).2 3).trans (hp c).2.2.2.1.symm, ((h.1 c).2 4).trans (hp c).2.2.2.2.symm,
    ((h.1 c).1 (1 : Fin 5)).trans ((dats T hT m ρ 0 c).arrAt_in (1 : Fin 5) rfl _),
    ((h.1 c).1 (2 : Fin 5)).trans ((dats T hT m ρ 0 c).arrAt_in (2 : Fin 5) rfl _),
    ((h.1 c).1 (3 : Fin 5)).trans ((dats T hT m ρ 0 c).arrAt_in (3 : Fin 5) rfl _)⟩) (run_main T hT m ρ hp)

end Cert.ExpertsIdeal.Swiglu

end
-- ==== Proof.Norm.lean ====
/- The root mean square norm of a row of 1024, scaled and shifted, and the dense feed-forward on such a row. -/
module

public import proofs.«01_k».proof.Proof.Expert

@[expose] public section

noncomputable section

namespace Cert.Norm

open Idealize.ShloMosaic

/-- One over the root of a row's mean square. -/
def inv (x : Fin 1024 → EReal) : EReal :=
  Ideal.rsqrt (Ideal.div (∑ k, x k * x k) (Ideal.ofBits .f32 0x44800000#32) + Ideal.ofBits .f32 0x358637BD#32)

/-- The row divided by its root mean square, times the gains. -/
def rms (x g : Fin 1024 → EReal) (n : Fin 1024) : EReal := x n * inv x * g n

/-- The normed row, scaled and shifted. -/
def mod (x g sc sh : Fin 1024 → EReal) (n : Fin 1024) : EReal := rms x g n * (Ideal.ofBits .f32 0x3F800000#32 + sc n) + sh n

/-- The feed-forward's product at a column, over the hidden units. -/
def ffn {N : ℕ} (h : Fin 1024 → EReal) (g u : Fin 1024 → Fin N → EReal) (d : Fin N → Fin 1024 → EReal) (n : Fin 1024) : EReal :=
  ∑ f : Fin N, Expert.hid h (fun k => g k f) (fun k => u k f) * d f n

/-- The feed-forward's residual update. -/
def update (x ga gp : Fin 1024 → EReal) (a : Fin 1024 → EReal) (n : Fin 1024) : EReal := x n + ga n * rms a gp n

/-- The hidden units in two halves. -/
theorem ffn_halves (h : Fin 1024 → EReal) (g u : Fin 1024 → Fin 2816 → EReal) (d : Fin 2816 → Fin 1024 → EReal) (n : Fin 1024) :
    ffn (N := 1408) h (fun k f => g k ⟨f, by omega⟩) (fun k f => u k ⟨f, by omega⟩) (fun f => d ⟨f, by omega⟩) n
      + ffn (N := 1408) h (fun k f => g k ⟨1408 + f, by omega⟩) (fun k f => u k ⟨1408 + f, by omega⟩) (fun f => d ⟨1408 + f, by omega⟩) n = ffn h g u d n :=
  (Fin.sum_univ_add (a := 1408) (b := 1408) fun f : Fin (1408 + 1408) => Expert.hid h (fun k => g k f) (fun k => u k f) * d f n).symm

end Cert.Norm

end
-- ==== Proof.DenseRef.lean ====
/- The dense feed-forward's reference, layer by layer, each read at an index. -/
module

public import proofs.«01_k».proof.Proof.Norm
public import proofs.«01_k».proof.Proof.Gen.DenseReferenceIdeal.Run
public import Idealize.ShloMosaic.Lib.Pipeline.ValueKit

@[expose] public section

set_option maxRecDepth 16384

noncomputable section

namespace Cert.DenseReferenceIdeal.Ffn

open Cert.DenseReferenceIdeal Cert.DenseReferenceIdeal.Gen Idealize.ShloMosaic Idealize.ShloMosaic.TcCoe Idealize.SL.Sem

/-- One over each row's root mean square. -/
def inv (x : FVec Ideal S2x16384x1024 .f32) : FVec Ideal S2x16384x1 .f32 :=
  Host.rsqrt (addf (Host.divf (broadcastInDim S2x16384x1 ![0, 1] bcast_S2x16384_S2x16384x1_0_1
      (Host.reduceAdd (mulf x x) (constant S_ .f32 0x00000000#32) reducesTo_S2x16384x1024_S2x16384_d2 h_S_))
    (broadcastInDim S2x16384x1 ![] bcast_S_S2x16384x1 (constant S_ .f32 0x44800000#32)))
    (broadcastInDim S2x16384x1 ![] bcast_S_S2x16384x1 (constant S_ .f32 0x358637BD#32)))

/-- The normed rows, times the gains. -/
def rms (x : FVec Ideal S2x16384x1024 .f32) (g : FVec Ideal S1x1024 .f32) : FVec Ideal S2x16384x1024 .f32 :=
  mulf (mulf x (broadcastInDim S2x16384x1024 ![0, 1, 2] bcast_S2x16384x1_S2x16384x1024_0_1_2 (inv x)))
    (broadcastInDim S2x16384x1024 ![0, 1, 2] bcast_S1x1x1024_S2x16384x1024_0_1_2 (broadcastInDim S1x1x1024 ![1, 2] bcast_S1x1024_S1x1x1024_1_2 g))

/-- A vector of each batch on every row. -/
def rows (v : FVec Ideal S2x1x1024 .f32) : FVec Ideal S2x16384x1024 .f32 :=
  broadcastInDim S2x16384x1024 ![0, 1, 2] bcast_S2x1x1024_S2x16384x1024_0_1_2 v

/-- The normed rows, scaled and shifted. -/
def mod (x : FVec Ideal S2x16384x1024 .f32) (g : FVec Ideal S1x1024 .f32) (sc sh : FVec Ideal S2x1x1024 .f32) : FVec Ideal S2x16384x1024 .f32 :=
  addf (mulf (rms x g) (rows (addf (broadcastInDim S2x1x1024 ![] bcast_S_S2x1x1024 (constant S_ .f32 0x3F800000#32)) sc))) (rows sh)

/-- A projection to the hidden units. -/
def proj (h : FVec Ideal S2x16384x1024 .f32) (w : FVec Ideal S1024x2816 .bf16) : FVec Ideal S2x16384x2816 .f32 :=
  Host.dotGeneral dot_S2x16384x1024_S1024x2816_S2x16384x2816_2_0_01_1_n_n none h (extf .f32 w bitsLt_bf16_f32)

/-- The silu. -/
def silu (g : FVec Ideal S2x16384x2816 .f32) : FVec Ideal S2x16384x2816 .f32 :=
  mulf g (Host.divf (broadcastInDim S2x16384x2816 ![] bcast_S_S2x16384x2816 (constant S_ .f32 0x3F800000#32))
    (addf (broadcastInDim S2x16384x2816 ![] bcast_S_S2x16384x2816 (constant S_ .f32 0x3F800000#32)) (Host.exp (Host.negf g))))

/-- The feed-forward. -/
def ffn (h : FVec Ideal S2x16384x1024 .f32) (wg wu : FVec Ideal S1024x2816 .bf16) (wd : FVec Ideal S2816x1024 .bf16) : FVec Ideal S2x16384x1024 .f32 :=
  Host.dotGeneral dot_S2x16384x2816_S2816x1024_S2x16384x1024_2_0_01_1_n_n none (mulf (silu (proj h wg)) (proj h wu)) (extf .f32 wd bitsLt_bf16_f32)

/-- The reference's result from its arguments. -/
def result (x : FVec Ideal S2x16384x1024 .f32) (sc sh ga : FVec Ideal S2x1x1024 .f32) (gpre gpost : FVec Ideal S1x1024 .f32)
    (wg wu : FVec Ideal S1024x2816 .bf16) (wd : FVec Ideal S2816x1024 .bf16) : FVec Ideal S2x16384x1024 .f32 :=
  addf x (mulf (rows ga) (rms (ffn (mod x gpre sc sh) wg wu wd) gpost))

theorem res_eq (m : (ℓ : Loc nD τ sig) → Buf (Elt Ideal) ℓ) (c : Dev nD) : Value.res_main_v42 m c
    = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

theorem inv_at (x : FVec Ideal S2x16384x1024 .f32) (b : Fin 2) (r : Fin 16384) (z : Fin 1) : inv x (ix3 b r z) = Norm.inv (fun k => x (ix3 b r k)) := by
  pointwise [inv, Norm.inv]

theorem rms_at (x : FVec Ideal S2x16384x1024 .f32) (g : FVec Ideal S1x1024 .f32) (b : Fin 2) (r : Fin 16384) (n : Fin 1024) :
    rms x g (ix3 b r n) = Norm.rms (fun k => x (ix3 b r k)) (fun k => g (ix2 0 k)) n := by
  have e : rms x g (ix3 b r n) = x (ix3 b r n) * inv x (ix3 b r 0) * g (ix2 0 n) := by
    generalize hi : inv x = i
    unfold rms
    rw [hi]
    pointwise
  rw [e, inv_at]
  rfl

theorem mod_at (x : FVec Ideal S2x16384x1024 .f32) (g : FVec Ideal S1x1024 .f32) (sc sh : FVec Ideal S2x1x1024 .f32) (b : Fin 2) (r : Fin 16384) (n : Fin 1024) :
    mod x g sc sh (ix3 b r n) = Norm.mod (fun k => x (ix3 b r k)) (fun k => g (ix2 0 k)) (fun k => sc (ix3 b 0 k)) (fun k => sh (ix3 b 0 k)) n := by
  have e : mod x g sc sh (ix3 b r n) = rms x g (ix3 b r n) * (Ideal.ofBits .f32 0x3F800000#32 + sc (ix3 b 0 n)) + sh (ix3 b 0 n) := by
    generalize hi : rms x g = i
    unfold mod
    rw [hi]
    pointwise [rows]
  rw [e, rms_at]
  rfl

theorem ffn_at (h : FVec Ideal S2x16384x1024 .f32) (wg wu : FVec Ideal S1024x2816 .bf16) (wd : FVec Ideal S2816x1024 .bf16) (b : Fin 2) (r : Fin 16384) (n : Fin 1024) :
    ffn h wg wu wd (ix3 b r n) = Norm.ffn (fun k => h (ix3 b r k)) (fun k f => wg (ix2 k f)) (fun k f => wu (ix2 k f)) (fun f n => wd (ix2 f n)) n := by
  pointwise [ffn, silu, proj, Norm.ffn, Expert.hid]
  rfl

/-- The result at an index. -/
theorem result_at (x : FVec Ideal S2x16384x1024 .f32) (sc sh ga : FVec Ideal S2x1x1024 .f32) (gpre gpost : FVec Ideal S1x1024 .f32)
    (wg wu : FVec Ideal S1024x2816 .bf16) (wd : FVec Ideal S2816x1024 .bf16) (b : Fin 2) (r : Fin 16384) (n : Fin 1024) :
    result x sc sh ga gpre gpost wg wu wd (ix3 b r n)
      = Norm.update (fun k => x (ix3 b r k)) (fun k => ga (ix3 b 0 k)) (fun k => gpost (ix2 0 k))
        (Norm.ffn (Norm.mod (fun k => x (ix3 b r k)) (fun k => gpre (ix2 0 k)) (fun k => sc (ix3 b 0 k)) (fun k => sh (ix3 b 0 k)))
          (fun k f => wg (ix2 k f)) (fun k f => wu (ix2 k f)) (fun f n => wd (ix2 f n))) n := by
  have e : result x sc sh ga gpre gpost wg wu wd (ix3 b r n) = x (ix3 b r n) + ga (ix3 b 0 n) * rms (ffn (mod x gpre sc sh) wg wu wd) gpost (ix3 b r n) := by
    generalize hi : rms (ffn (mod x gpre sc sh) wg wu wd) gpost = i
    unfold result
    rw [hi]
    pointwise [rows]
  rw [e, rms_at]
  simp only [ffn_at, mod_at]
  rfl

end Cert.DenseReferenceIdeal.Ffn

end
-- ==== Proof.DenseValue.lean ====
/- The dense feed-forward's call: what a grid point writes, and the result array. -/
module

public import proofs.«01_k».proof.Proof.Norm
public import proofs.«01_k».proof.Proof.DenseRef
public import proofs.«01_k».proof.Proof.Gen.DenseIdeal.Value
public import Idealize.ShloMosaic.Lib.Pipeline.ValueKit

@[expose] public section

set_option maxRecDepth 16384

noncomputable section

namespace Cert.DenseIdeal.Ffn

open Cert.DenseIdeal Cert.DenseIdeal.Gen Idealize.ShloMosaic Idealize.ShloMosaic.TcCoe Idealize.SL.Sem Idealize.ShloMosaic.Pipeline

/-- One over each row's root mean square. -/
def inv (x : FVec Ideal S512x1024 .f32) : FVec Ideal S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))

/-- The normed rows, times the gains. -/
def rms (x : FVec Ideal S512x1024 .f32) (g : FVec Ideal S1x1024 .f32) : FVec Ideal S512x1024 .f32 :=
  mulf (mulf x (broadcastTo S512x1024 (inv x) broadcasts_S512x1_S512x1024)) (broadcastTo S512x1024 g broadcasts_S1x1024_S512x1024)

theorem inv_at (x : FVec Ideal S512x1024 .f32) (r : Fin 512) (z : Fin 1) : inv x (ix2 r z) = Norm.inv (fun k => x (ix2 r k)) := by
  pointwise [inv, Norm.inv]

theorem rms_at (x : FVec Ideal S512x1024 .f32) (g : FVec Ideal S1x1024 .f32) (r : Fin 512) (n : Fin 1024) :
    rms x g (ix2 r n) = Norm.rms (fun k => x (ix2 r k)) (fun k => g (ix2 0 k)) n := by
  have e : rms x g (ix2 r n) = x (ix2 r n) * inv x (ix2 r 0) * g (ix2 0 n) := by
    generalize hi : inv x = i
    unfold rms
    rw [hi]
    pointwise
  rw [e, inv_at]
  rfl

theorem pay2_at (x : Vec Ideal S1x512x1024 .f32) (r : Fin 512) (n : Fin 1024) : k0_pay2 (F := Ideal) x (ix2 r n) = x (ix3 0 r n) := by
  pointwise [k0_pay2]

theorem pay3_at (x : Vec Ideal S1x512x1024 .f32) (g : Vec Ideal S1x1024 .f32) (sc sh : Vec Ideal S1x1x1024 .f32) (r : Fin 512) (n : Fin 1024) :
    k0_pay3 (F := Ideal) x g sc sh (ix2 r n)
      = Norm.mod (fun k => x (ix3 0 r k)) (fun k => g (ix2 0 k)) (fun k => sc (ix3 0 0 k)) (fun k => sh (ix3 0 0 k)) n := by
  have e : k0_pay3 (F := Ideal) x g sc sh (ix2 r n)
      = rms (k0_pay2 x) g (ix2 r n) * (Ideal.ofBits .f32 0x3F800000#32 + sc (ix3 0 0 n)) + sh (ix3 0 0 n) := by
    have u : k0_pay3 (F := Ideal) x g sc sh = truncf .bf16 (addf (mulf (rms (k0_pay2 x) g) (broadcastTo S512x1024 (addf (broadcast S1x1024 (Scalar.ofBits .f32 0x3F800000#32))
        (shapeCast S1x1024 sc shapeCasts_S1x1x1024_S1x1024)) broadcasts_S1x1024_S512x1024))
        (broadcastTo S512x1024 (shapeCast S1x1024 sh shapeCasts_S1x1x1024_S1x1024) broadcasts_S1x1024_S512x1024)) bitsLt_bf16_f32 := rfl
    rw [u]
    generalize rms (k0_pay2 x) g = i
    pointwise
  rw [e, rms_at]
  simp only [pay2_at]
  rfl

theorem pay4_at (x : Vec Ideal S1x512x1024 .f32) (g : Vec Ideal S1x1024 .f32) (sc sh : Vec Ideal S1x1x1024 .f32) (wg wu : Vec Ideal S1024x1408 .bf16)
    (r : Fin 512) (f : Fin 1408) : k0_pay4 (F := Ideal) x g sc sh wg wu (ix2 r f)
      = Expert.hid (fun k => k0_pay3 (F := Ideal) x g sc sh (ix2 r k)) (fun k => wg (ix2 k f)) (fun k => wu (ix2 k f)) := by
  generalize hi : k0_pay3 (F := Ideal) x g sc sh = i
  unfold k0_pay4
  rw [hi]
  pointwise [Expert.hid]

/-- The two halves of the product. -/
def acc (h : FVec Ideal S512x1024 .bf16) (a : FVec Ideal S512x1408 .bf16) (wd : FVec Ideal S1408x1024 .bf16) (wg wu : FVec Ideal S1024x1408 .bf16)
    (wd' : FVec Ideal S1408x1024 .bf16) : FVec Ideal S512x1024 .f32 :=
  addf (matmul dot_S512x1408_S1408x1024_S512x1024_1_0_0_1_n_n none a wd (constant S512x1024 .f32 0x00000000#32))
    (matmul dot_S512x1408_S1408x1024_S512x1024_1_0_0_1_n_n none
      (truncf .bf16 (mulf (mulf (matmul dot_S512x1024_S1024x1408_S512x1408_1_0_0_1_n_n none h wg (constant S512x1408 .f32 0x00000000#32))
          (logistic (matmul dot_S512x1024_S1024x1408_S512x1408_1_0_0_1_n_n none h wg (constant S512x1408 .f32 0x00000000#32))))
        (matmul dot_S512x1024_S1024x1408_S512x1408_1_0_0_1_n_n none h wu (constant S512x1408 .f32 0x00000000#32))) bitsLt_bf16_f32) wd' (constant S512x1024 .f32 0x00000000#32))

theorem acc_at (h : FVec Ideal S512x1024 .bf16) (a : FVec Ideal S512x1408 .bf16) (wd : Vec Ideal S1408x1024 .bf16) (wg wu : Vec Ideal S1024x1408 .bf16)
    (wd' : Vec Ideal S1408x1024 .bf16) (r : Fin 512) (n : Fin 1024) : acc h a wd wg wu wd' (ix2 r n)
      = ∑ f : Fin 1408, a (ix2 r f) * wd (ix2 f n)
        + Norm.ffn (fun k => h (ix2 r k)) (fun k f => wg (ix2 k f)) (fun k f => wu (ix2 k f)) (fun f n => wd' (ix2 f n)) n := by
  pointwise [acc, Norm.ffn, Expert.hid]

theorem pay1_at (x : FVec Ideal S512x1024 .f32) (h : FVec Ideal S512x1024 .bf16) (a : FVec Ideal S512x1408 .bf16) (wd : Vec Ideal S1408x1024 .bf16)
    (wg wu : Vec Ideal S1024x1408 .bf16) (wd' : Vec Ideal S1408x1024 .bf16) (ga : Vec Ideal S1x1x1024 .f32) (gp : Vec Ideal S1x1024 .f32) (z : Fin 1) (r : Fin 512) (n : Fin 1024) :
    k0_pay1 (F := Ideal) x h a wd wg wu wd' ga gp (ix3 z r n)
      = Norm.update (fun k => x (ix2 r k)) (fun k => ga (ix3 0 0 k)) (fun k => gp (ix2 0 k)) (fun k => acc h a wd wg wu wd' (ix2 r k)) n := by
  have u : k0_pay1 (F := Ideal) x h a wd wg wu wd' ga gp
      = shapeCast S1x512x1024 (addf x (mulf (broadcastTo S512x1024 (shapeCast S1x1024 ga shapeCasts_S1x1x1024_S1x1024) broadcasts_S1x1024_S512x1024)
          (rms (acc h a wd wg wu wd') gp))) shapeCasts_S512x1024_S1x512x1024 := rfl
  rw [u]
  have e : ∀ i : FVec Ideal S512x1024 .f32, shapeCast S1x512x1024 (addf x (mulf (broadcastTo S512x1024 (shapeCast S1x1024 ga shapeCasts_S1x1x1024_S1x1024) broadcasts_S1x1024_S512x1024)
          i)) shapeCasts_S512x1024_S1x512x1024 (ix3 z r n) = x (ix2 r n) + ga (ix3 0 0 n) * i (ix2 r n) := fun i => by
    pointwise
  rw [e, rms_at]
  rfl

/-- A half of a weight, read at an index. -/
theorem ld3_at (w : Vec Ideal S1024x2816 .bf16) (k : Fin 1024) (f : Fin 1408) : View.ld w r0_3 (ix2 k f) = w (ix2 k ⟨f, by omega⟩) :=
  View.ld_unit_apply_of _ _ _ _ _ _ fun a => by match a with | 0 => exact (Nat.zero_add _).symm | 1 => exact (Nat.zero_add _).symm

theorem ld5_at (w : Vec Ideal S1024x2816 .bf16) (k : Fin 1024) (f : Fin 1408) : View.ld w r0_5 (ix2 k f) = w (ix2 k ⟨1408 + f, by omega⟩) :=
  View.ld_unit_apply_of _ _ _ _ _ _ fun a => by match a with | 0 => exact (Nat.zero_add _).symm | 1 => rfl

theorem ld4_at (w : Vec Ideal S2816x1024 .bf16) (f : Fin 1408) (k : Fin 1024) : View.ld w r0_4 (ix2 f k) = w (ix2 ⟨f, by omega⟩ k) :=
  View.ld_unit_apply_of _ _ _ _ _ _ fun a => by match a with | 0 => exact (Nat.zero_add _).symm | 1 => exact (Nat.zero_add _).symm

theorem ld6_at (w : Vec Ideal S2816x1024 .bf16) (f : Fin 1408) (k : Fin 1024) : View.ld w r0_6 (ix2 f k) = w (ix2 ⟨1408 + f, by omega⟩ k) :=
  View.ld_unit_apply_of _ _ _ _ _ _ fun a => by match a with | 0 => rfl | 1 => exact (Nat.zero_add _).symm

/-- The sum of the two halves, at an index. -/
theorem halves (x : Vec Ideal S1x512x1024 .f32) (sc sh : Vec Ideal S1x1x1024 .f32) (gpre : Vec Ideal S1x1024 .f32) (wg wu : Vec Ideal S1024x2816 .bf16)
    (wd : Vec Ideal S2816x1024 .bf16) (r : Fin 512) (n : Fin 1024) :
    acc (k0_pay3 x gpre sc sh) (k0_pay4 x gpre sc sh (View.ld wg r0_3) (View.ld wu r0_3)) (View.ld wd r0_4) (View.ld wg r0_5) (View.ld wu r0_5) (View.ld wd r0_6) (ix2 r n)
      = Norm.ffn (Norm.mod (fun k => x (ix3 0 r k)) (fun k => gpre (ix2 0 k)) (fun k => sc (ix3 0 0 k)) (fun k => sh (ix3 0 0 k)))
          (fun k f => wg (ix2 k f)) (fun k f => wu (ix2 k f)) (fun f n => wd (ix2 f n)) n := by
  have e : (fun k => k0_pay3 (F := Ideal) x gpre sc sh (ix2 r k))
      = Norm.mod (fun k => x (ix3 0 r k)) (fun k => gpre (ix2 0 k)) (fun k => sc (ix3 0 0 k)) (fun k => sh (ix3 0 0 k)) := funext fun k => pay3_at x gpre sc sh r k
  have p : (fun f => k0_pay4 (F := Ideal) x gpre sc sh (View.ld wg r0_3) (View.ld wu r0_3) (ix2 r f))
      = fun f => Expert.hid (fun k => k0_pay3 (F := Ideal) x gpre sc sh (ix2 r k)) (fun k => View.ld wg r0_3 (ix2 k f)) (fun k => View.ld wu r0_3 (ix2 k f)) :=
    funext fun f => pay4_at x gpre sc sh _ _ r f
  generalize k0_pay4 (F := Ideal) x gpre sc sh (View.ld wg r0_3) (View.ld wu r0_3) = q at p
  rw [acc_at]
  have p' : ∀ f, q (ix2 r f) = _ := fun f => congrFun p f
  simp only [p']
  rw [e]
  generalize Norm.mod (fun k => x (ix3 0 r k)) (fun k => gpre (ix2 0 k)) (fun k => sc (ix3 0 0 k)) (fun k => sh (ix3 0 0 k)) = h
  refine Eq.trans ?_ (Norm.ffn_halves h (fun k f => wg (ix2 k f)) (fun k f => wu (ix2 k f)) (fun f n => wd (ix2 f n)) n)
  have f3 : (fun (k : Fin 1024) (f : Fin 1408) => View.ld wg r0_3 (ix2 k f)) = fun (k : Fin 1024) (f : Fin 1408) => wg (ix2 k ⟨f, by omega⟩) := funext fun k => funext fun f => ld3_at wg k f
  have f3' : (fun (k : Fin 1024) (f : Fin 1408) => View.ld wu r0_3 (ix2 k f)) = fun (k : Fin 1024) (f : Fin 1408) => wu (ix2 k ⟨f, by omega⟩) := funext fun k => funext fun f => ld3_at wu k f
  have f4 : (fun (f : Fin 1408) (n : Fin 1024) => View.ld wd r0_4 (ix2 f n)) = fun (f : Fin 1408) (n : Fin 1024) => wd (ix2 ⟨f, by omega⟩ n) := funext fun f => funext fun n => ld4_at wd f n
  have f5 : (fun (k : Fin 1024) (f : Fin 1408) => View.ld wg r0_5 (ix2 k f)) = fun (k : Fin 1024) (f : Fin 1408) => wg (ix2 k ⟨1408 + f, by omega⟩) := funext fun k => funext fun f => ld5_at wg k f
  have f5' : (fun (k : Fin 1024) (f : Fin 1408) => View.ld wu r0_5 (ix2 k f)) = fun (k : Fin 1024) (f : Fin 1408) => wu (ix2 k ⟨1408 + f, by omega⟩) := funext fun k => funext fun f => ld5_at wu k f
  have f6 : (fun (f : Fin 1408) (n : Fin 1024) => View.ld wd r0_6 (ix2 f n)) = fun (f : Fin 1408) (n : Fin 1024) => wd (ix2 ⟨1408 + f, by omega⟩ n) := funext fun f => funext fun n => ld6_at wd f n
  refine Eq.trans (b := Norm.ffn h (fun k f => View.ld wg r0_3 (ix2 k f)) (fun k f => View.ld wu r0_3 (ix2 k f)) (fun f n => View.ld wd r0_4 (ix2 f n)) n
    + Norm.ffn h (fun k f => View.ld wg r0_5 (ix2 k f)) (fun k f => View.ld wu r0_5 (ix2 k f)) (fun f n => View.ld wd r0_6 (ix2 f n)) n) rfl ?_
  rw [f3, f3', f4, f5, f5', f6]

/-- The block a grid point writes, at an index. -/
theorem out_at (x : Vec Ideal S1x512x1024 .f32) (sc sh ga : Vec Ideal S1x1x1024 .f32) (gpre gpost : Vec Ideal S1x1024 .f32) (wg wu : Vec Ideal S1024x2816 .bf16)
    (wd : Vec Ideal S2816x1024 .bf16) (z : Fin 1) (r : Fin 512) (n : Fin 1024) : out0_9 x sc sh ga gpre gpost wg wu wd (ix3 z r n)
      = Norm.update (fun k => x (ix3 0 r k)) (fun k => ga (ix3 0 0 k)) (fun k => gpost (ix2 0 k))
        (Norm.ffn (Norm.mod (fun k => x (ix3 0 r k)) (fun k => gpre (ix2 0 k)) (fun k => sc (ix3 0 0 k)) (fun k => sh (ix3 0 0 k)))
          (fun k f => wg (ix2 k f)) (fun k f => wu (ix2 k f)) (fun f n => wd (ix2 f n))) n := by
  unfold out0_9
  frame_out
  refine (pay1_at (k0_pay2 x) (k0_pay3 x gpre sc sh) (k0_pay4 x gpre sc sh (View.ld wg r0_3) (View.ld wu r0_3)) (View.ld wd r0_4) (View.ld wg r0_5) (View.ld wu r0_5) (View.ld wd r0_6) ga gpost z r n).trans ?_
  have e : (fun k => k0_pay2 (F := Ideal) x (ix2 r k)) = fun k => x (ix3 0 r k) := funext fun k => pay2_at x r k
  have a : (fun k => acc (k0_pay3 x gpre sc sh) (k0_pay4 x gpre sc sh (View.ld wg r0_3) (View.ld wu r0_3)) (View.ld wd r0_4) (View.ld wg r0_5) (View.ld wu r0_5)
      (View.ld wd r0_6) (ix2 r k)) = Norm.ffn (Norm.mod (fun k => x (ix3 0 r k)) (fun k => gpre (ix2 0 k)) (fun k => sc (ix3 0 0 k)) (fun k => sh (ix3 0 0 k)))
          (fun k f => wg (ix2 k f)) (fun k f => wu (ix2 k f)) (fun f n => wd (ix2 f n)) := funext fun k => halves x sc sh gpre wg wu wd r k
  rw [e, a]

/-- The windows' block indices. -/
theorem idx_val : ∀ t : Fin cfg0.N, win0_0.index t = ![(grid0.coords t 0).val, (grid0.coords t 1).val, 0] ∧ win0_1.index t = ![(grid0.coords t 0).val, 0, 0]
    ∧ win0_2.index t = ![(grid0.coords t 0).val, 0, 0] ∧ win0_3.index t = ![(grid0.coords t 0).val, 0, 0] ∧ win0_4.index t = ![0, 0] ∧ win0_5.index t = ![0, 0]
    ∧ win0_6.index t = ![0, 0] ∧ win0_7.index t = ![0, 0] ∧ win0_8.index t = ![0, 0] ∧ win0_9.index t = ![(grid0.coords t 0).val, (grid0.coords t 1).val, 0] :=
  (by decide +kernel : ∀ t : Fin grid0.N, _)

variable (m : (ℓ : Loc nD τ sig) → Buf (Elt Ideal) ℓ)

theorem blk0_at (c : Dev nD) (t : Fin cfg0.N) (r : Fin 512) (l : Fin 1024) (j : S2x16384x1024.Idx) (h0 : (j 0 : ℕ) = grid0.coords t 0)
    (h1 : (j 1 : ℕ) = (grid0.coords t 1 : ℕ) * 512 + r) (h2 : (j 2 : ℕ) = l) : iblk m c 0 t (ix3 0 r l) = m ((c.tc : Thread nD τ).loc main_arg0) j := by
  blk_point [iblk, V, idx_val t]

theorem blk1_at (c : Dev nD) (t : Fin cfg0.N) (l : Fin 1024) (j : S2x1x1024.Idx) (h0 : (j 0 : ℕ) = grid0.coords t 0)
    (h1 : (j 1 : ℕ) = 0) (h2 : (j 2 : ℕ) = l) : iblk m c 1 t (ix3 0 0 l) = m ((c.tc : Thread nD τ).loc main_arg1) j := by
  blk_point [iblk, V, idx_val t]

theorem blk2_at (c : Dev nD) (t : Fin cfg0.N) (l : Fin 1024) (j : S2x1x1024.Idx) (h0 : (j 0 : ℕ) = grid0.coords t 0)
    (h1 : (j 1 : ℕ) = 0) (h2 : (j 2 : ℕ) = l) : iblk m c 2 t (ix3 0 0 l) = m ((c.tc : Thread nD τ).loc main_arg2) j := by
  blk_point [iblk, V, idx_val t]

theorem blk3_at (c : Dev nD) (t : Fin cfg0.N) (l : Fin 1024) (j : S2x1x1024.Idx) (h0 : (j 0 : ℕ) = grid0.coords t 0)
    (h1 : (j 1 : ℕ) = 0) (h2 : (j 2 : ℕ) = l) : iblk m c 3 t (ix3 0 0 l) = m ((c.tc : Thread nD τ).loc main_arg3) j := by
  blk_point [iblk, V, idx_val t]

theorem blk4_at (c : Dev nD) (t : Fin cfg0.N) (r : Fin 1) (l : Fin 1024) (j : S1x1024.Idx) (h0 : (j 0 : ℕ) = r) (h1 : (j 1 : ℕ) = l) :
    iblk m c 4 t (ix2 r l) = m ((c.tc : Thread nD τ).loc main_arg4) j := by
  blk_point [iblk, V, idx_val t]

theorem blk5_at (c : Dev nD) (t : Fin cfg0.N) (r : Fin 1) (l : Fin 1024) (j : S1x1024.Idx) (h0 : (j 0 : ℕ) = r) (h1 : (j 1 : ℕ) = l) :
    iblk m c 5 t (ix2 r l) = m ((c.tc : Thread nD τ).loc main_arg5) j := by
  blk_point [iblk, V, idx_val t]

theorem blk6_at (c : Dev nD) (t : Fin cfg0.N) (r : Fin 1024) (l : Fin 2816) (j : S1024x2816.Idx) (h0 : (j 0 : ℕ) = r) (h1 : (j 1 : ℕ) = l) :
    iblk m c 6 t (ix2 r l) = m ((c.tc : Thread nD τ).loc main_arg6) j := by
  blk_point [iblk, V, idx_val t]

theorem blk7_at (c : Dev nD) (t : Fin cfg0.N) (r : Fin 1024) (l : Fin 2816) (j : S1024x2816.Idx) (h0 : (j 0 : ℕ) = r) (h1 : (j 1 : ℕ) = l) :
    iblk m c 7 t (ix2 r l) = m ((c.tc : Thread nD τ).loc main_arg7) j := by
  blk_point [iblk, V, idx_val t]

theorem blk8_at (c : Dev nD) (t : Fin cfg0.N) (r : Fin 2816) (l : Fin 1024) (j : S2816x1024.Idx) (h0 : (j 0 : ℕ) = r) (h1 : (j 1 : ℕ) = l) :
    iblk m c 8 t (ix2 r l) = m ((c.tc : Thread nD τ).loc main_arg8) j := by
  blk_point [iblk, V, idx_val t]

/-- The block a grid point writes is the reference's there. -/
theorem block_eq (c : Dev nD) (t : Fin cfg0.N) (z : Fin 1) (r : Fin 512) (n : Fin 1024) (bt : (grid0.coords t 0 : ℕ) < 2) (hr : (grid0.coords t 1 : ℕ) * 512 + (r : ℕ) < 16384) :
    out0_9 (iblk m c 0 t) (iblk m c 1 t) (iblk m c 2 t) (iblk m c 3 t) (iblk m c 4 t) (iblk m c 5 t) (iblk m c 6 t) (iblk m c 7 t) (iblk m c 8 t) (ix3 z r n)
      = DenseReferenceIdeal.Ffn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (ix3 ⟨grid0.coords t 0, bt⟩ ⟨(grid0.coords t 1 : ℕ) * 512 + (r : ℕ), hr⟩ n) := by
  have e0 : (fun k => iblk m c 0 t (ix3 0 r k)) = fun k => (m ((c.tc : Thread nD τ).loc main_arg0)) (ix3 ⟨grid0.coords t 0, bt⟩ ⟨(grid0.coords t 1 : ℕ) * 512 + (r : ℕ), hr⟩ k) :=
    funext fun k => blk0_at m c t r k _ rfl rfl rfl
  have e1 : (fun k => iblk m c 1 t (ix3 0 0 k)) = fun k => (m ((c.tc : Thread nD τ).loc main_arg1)) (ix3 ⟨grid0.coords t 0, bt⟩ 0 k) := funext fun k => blk1_at m c t k _ rfl rfl rfl
  have e2 : (fun k => iblk m c 2 t (ix3 0 0 k)) = fun k => (m ((c.tc : Thread nD τ).loc main_arg2)) (ix3 ⟨grid0.coords t 0, bt⟩ 0 k) := funext fun k => blk2_at m c t k _ rfl rfl rfl
  have e3 : (fun k => iblk m c 3 t (ix3 0 0 k)) = fun k => (m ((c.tc : Thread nD τ).loc main_arg3)) (ix3 ⟨grid0.coords t 0, bt⟩ 0 k) := funext fun k => blk3_at m c t k _ rfl rfl rfl
  have e4 : (fun k => iblk m c 4 t (ix2 0 k)) = fun k => (m ((c.tc : Thread nD τ).loc main_arg4)) (ix2 0 k) := funext fun k => blk4_at m c t 0 k _ rfl rfl
  have e5 : (fun k => iblk m c 5 t (ix2 0 k)) = fun k => (m ((c.tc : Thread nD τ).loc main_arg5)) (ix2 0 k) := funext fun k => blk5_at m c t 0 k _ rfl rfl
  have e6 : (fun k f => iblk m c 6 t (ix2 k f)) = fun k f => (m ((c.tc : Thread nD τ).loc main_arg6)) (ix2 k f) := funext fun k => funext fun f => blk6_at m c t k f _ rfl rfl
  have e7 : (fun k f => iblk m c 7 t (ix2 k f)) = fun k f => (m ((c.tc : Thread nD τ).loc main_arg7)) (ix2 k f) := funext fun k => funext fun f => blk7_at m c t k f _ rfl rfl
  have e8 : (fun k f => iblk m c 8 t (ix2 k f)) = fun k f => (m ((c.tc : Thread nD τ).loc main_arg8)) (ix2 k f) := funext fun k => funext fun f => blk8_at m c t k f _ rfl rfl
  refine (out_at _ _ _ _ _ _ _ _ _ z r n).trans (Eq.trans ?_ (DenseReferenceIdeal.Ffn.result_at _ _ _ _ _ _ _ _ _ _ _ _).symm)
  rw [e0, e1, e2, e3, e4, e5, e6, e7, e8]

/-- The result array is the reference's. -/
theorem final (c : Dev nD) : (dats m 0 c).arrAt 9 cfg0.N = DenseReferenceIdeal.Ffn.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) := by
  refine (dats m 0 c).arrAt_eq_of_covers 9 _ (by decide +kernel) fun t hf y => ?_
  blk_simp
  rw [after0_9]
  have b0 : (y 0 : ℕ) < 1 := (y 0).isLt
  have b1 : (y 1 : ℕ) < 512 := (y 1).isLt
  have b2 : (y 2 : ℕ) < 1024 := (y 2).isLt
  have bt : (grid0.coords t 0 : ℕ) < 2 := (grid0.coords t 0).isLt
  have hβ : (grid0.coords t 1 : ℕ) < 32 := (grid0.coords t 1).isLt
  have ey : y = ix3 (y 0) (y 1) (y 2) := by funext a; match a with | 0 => rfl | 1 => rfl | 2 => rfl
  rw [ey]
  refine (block_eq m c t (y 0) (y 1) (y 2) bt (by omega)).trans (congrArg _ ?_)
  funext a
  match a with
  | 0 => exact Fin.ext (by blk_simp [idx_val t]; try omega)
  | 1 => exact Fin.ext (by blk_simp [idx_val t]; try omega)
  | 2 => exact Fin.ext (by blk_simp [idx_val t]; try omega)

end Cert.DenseIdeal.Ffn

end
-- ==== Proof.Rope.lean ====
/- A row's projection, and the rotation of its halves by an angle's cosine and sine. -/
module

public import proofs.«01_k».proof.Proof.Norm

@[expose] public section

noncomputable section

namespace Cert.Rope

open Idealize.ShloMosaic

/-- A row times the weights, at a column. -/
def col (h : Fin 1024 → EReal) (w : Fin 1024 → Fin 6144 → EReal) (n : Fin 6144) : EReal := ∑ k : Fin 1024, h k * w k n

/-- The column a column is rotated with: in each run of 64, the one in the other half. -/
def part (n : Fin 6144) : Fin 6144 := ⟨if n.val % 64 < 32 then n.val + 32 else n.val - 32, by split <;> omega⟩

/-- The column of the tables a column reads. -/
def lane (n : Fin 6144) : Fin 128 := ⟨n.val % 128, by omega⟩

/-- The rotated columns. -/
def rope (z : Fin 6144 → EReal) (cs sn : Fin 128 → EReal) (n : Fin 6144) : EReal := z n * cs (lane n) + z (part n) * sn (lane n)

end Cert.Rope

end
-- ==== Proof.ProjectRef.lean ====
/- The input projection's reference, layer by layer. -/
module

public import proofs.«01_k».proof.Proof.Rope
public import proofs.«01_k».proof.Proof.DenseRef
public import proofs.«01_k».proof.Proof.Gen.ProjectReferenceIdeal.Run
public import Idealize.ShloMosaic.Lib.Pipeline.ValueKit

@[expose] public section

set_option maxRecDepth 16384

noncomputable section

namespace Cert.ProjectReferenceIdeal.Proj

open Cert.ProjectReferenceIdeal Cert.ProjectReferenceIdeal.Gen Idealize.ShloMosaic Idealize.ShloMosaic.TcCoe Idealize.SL.Sem

/-- The normed, scaled and shifted rows times the weights. -/
def z (x : FVec Ideal S2x16384x1024 .f32) (sc sh : FVec Ideal S2x1x1024 .f32) (g : FVec Ideal S1x1024 .f32) (w : FVec Ideal S1024x6144 .bf16) :
    FVec Ideal S2x16384x6144 .f32 :=
  Host.dotGeneral dot_S2x16384x1024_S1024x6144_S2x16384x6144_2_0_01_1_n_n none (DenseReferenceIdeal.Ffn.mod x g sc sh) (extf .f32 w bitsLt_bf16_f32)

/-- The first half of a table's lanes. -/
def tab0 (t : FVec Ideal S16384x128 .f32) : FVec Ideal S1x16384x1x2x32 .f32 :=
  broadcastInDim S1x16384x1x2x32 ![1, 2, 3, 4] bcast_S16384x1x2x32_S1x16384x1x2x32_1_2_3_4
    (shapeCast S16384x1x2x32 (extractStridedSlice S16384x1x2x1x32 ![0, 0, 0, 0, 0] (shapeCast S16384x1x2x2x32 t shapeCasts_S16384x128_S16384x1x2x2x32)
      slices_S16384x1x2x2x32_S16384x1x2x1x32_0_0_0_0_0) shapeCasts_S16384x1x2x1x32_S16384x1x2x32)

/-- The second half of a table's lanes. -/
def tab1 (t : FVec Ideal S16384x128 .f32) : FVec Ideal S1x16384x1x2x32 .f32 :=
  broadcastInDim S1x16384x1x2x32 ![1, 2, 3, 4] bcast_S16384x1x2x32_S1x16384x1x2x32_1_2_3_4
    (shapeCast S16384x1x2x32 (extractStridedSlice S16384x1x2x1x32 ![0, 0, 0, 1, 0] (shapeCast S16384x1x2x2x32 t shapeCasts_S16384x128_S16384x1x2x2x32)
      slices_S16384x1x2x2x32_S16384x1x2x1x32_0_0_0_1_0) shapeCasts_S16384x1x2x1x32_S16384x1x2x32)

/-- The first half of each run of 64 columns. -/
def half0_4 (a : FVec Ideal S2x16384x512 .f32) : FVec Ideal S2x16384x4x2x32 .f32 :=
  shapeCast S2x16384x4x2x32 (extractStridedSlice S2x16384x4x2x1x32 ![0, 0, 0, 0, 0, 0] (shapeCast S2x16384x4x2x2x32 a shapeCasts_S2x16384x512_S2x16384x4x2x2x32)
    slices_S2x16384x4x2x2x32_S2x16384x4x2x1x32_0_0_0_0_0_0) shapeCasts_S2x16384x4x2x1x32_S2x16384x4x2x32

/-- The second half of each run of 64 columns. -/
def half1_4 (a : FVec Ideal S2x16384x512 .f32) : FVec Ideal S2x16384x4x2x32 .f32 :=
  shapeCast S2x16384x4x2x32 (extractStridedSlice S2x16384x4x2x1x32 ![0, 0, 0, 0, 1, 0] (shapeCast S2x16384x4x2x2x32 a shapeCasts_S2x16384x512_S2x16384x4x2x2x32)
    slices_S2x16384x4x2x2x32_S2x16384x4x2x1x32_0_0_0_0_1_0) shapeCasts_S2x16384x4x2x1x32_S2x16384x4x2x32

/-- The two halves side by side again. -/
def stack_4 (y0 y1 : FVec Ideal S2x16384x4x2x32 .f32) : FVec Ideal S2x16384x512 .f32 :=
  shapeCast S2x16384x512 (concatenate S2x16384x4x2x2x32 4
    [⟨S2x16384x4x2x1x32, broadcastInDim S2x16384x4x2x1x32 ![0, 1, 2, 3, 5] bcast_S2x16384x4x2x32_S2x16384x4x2x1x32_0_1_2_3_5 y0⟩,
      ⟨S2x16384x4x2x1x32, broadcastInDim S2x16384x4x2x1x32 ![0, 1, 2, 3, 5] bcast_S2x16384x4x2x32_S2x16384x4x2x1x32_0_1_2_3_5 y1⟩]
    concatenates_S2x16384x4x2x1x32_S2x16384x4x2x1x32_S2x16384x4x2x2x32_d4) shapeCasts_S2x16384x4x2x2x32_S2x16384x512

/-- A table's half on every row of each batch and every head. -/
def spread_4 (t : FVec Ideal S1x16384x1x2x32 .f32) : FVec Ideal S2x16384x4x2x32 .f32 :=
  broadcastInDim S2x16384x4x2x32 ![0, 1, 2, 3, 4] bcast_S1x16384x1x2x32_S2x16384x4x2x32_0_1_2_3_4 t

/-- The rotated columns. -/
def rope_4 (a : FVec Ideal S2x16384x512 .f32) (cs sn : FVec Ideal S16384x128 .f32) : FVec Ideal S2x16384x512 .f32 :=
  stack_4 (addf (mulf (half0_4 a) (spread_4 (tab0 cs))) (mulf (half1_4 a) (spread_4 (tab0 sn))))
    (addf (mulf (half1_4 a) (spread_4 (tab1 cs))) (mulf (half0_4 a) (spread_4 (tab1 sn))))

/-- The first half of each run of 64 columns. -/
def half0_2 (a : FVec Ideal S2x16384x256 .f32) : FVec Ideal S2x16384x2x2x32 .f32 :=
  shapeCast S2x16384x2x2x32 (extractStridedSlice S2x16384x2x2x1x32 ![0, 0, 0, 0, 0, 0] (shapeCast S2x16384x2x2x2x32 a shapeCasts_S2x16384x256_S2x16384x2x2x2x32)
    slices_S2x16384x2x2x2x32_S2x16384x2x2x1x32_0_0_0_0_0_0) shapeCasts_S2x16384x2x2x1x32_S2x16384x2x2x32

/-- The second half of each run of 64 columns. -/
def half1_2 (a : FVec Ideal S2x16384x256 .f32) : FVec Ideal S2x16384x2x2x32 .f32 :=
  shapeCast S2x16384x2x2x32 (extractStridedSlice S2x16384x2x2x1x32 ![0, 0, 0, 0, 1, 0] (shapeCast S2x16384x2x2x2x32 a shapeCasts_S2x16384x256_S2x16384x2x2x2x32)
    slices_S2x16384x2x2x2x32_S2x16384x2x2x1x32_0_0_0_0_1_0) shapeCasts_S2x16384x2x2x1x32_S2x16384x2x2x32

/-- The two halves side by side again. -/
def stack_2 (y0 y1 : FVec Ideal S2x16384x2x2x32 .f32) : FVec Ideal S2x16384x256 .f32 :=
  shapeCast S2x16384x256 (concatenate S2x16384x2x2x2x32 4
    [⟨S2x16384x2x2x1x32, broadcastInDim S2x16384x2x2x1x32 ![0, 1, 2, 3, 5] bcast_S2x16384x2x2x32_S2x16384x2x2x1x32_0_1_2_3_5 y0⟩,
      ⟨S2x16384x2x2x1x32, broadcastInDim S2x16384x2x2x1x32 ![0, 1, 2, 3, 5] bcast_S2x16384x2x2x32_S2x16384x2x2x1x32_0_1_2_3_5 y1⟩]
    concatenates_S2x16384x2x2x1x32_S2x16384x2x2x1x32_S2x16384x2x2x2x32_d4) shapeCasts_S2x16384x2x2x2x32_S2x16384x256

/-- A table's half on every row of each batch and every head. -/
def spread_2 (t : FVec Ideal S1x16384x1x2x32 .f32) : FVec Ideal S2x16384x2x2x32 .f32 :=
  broadcastInDim S2x16384x2x2x32 ![0, 1, 2, 3, 4] bcast_S1x16384x1x2x32_S2x16384x2x2x32_0_1_2_3_4 t

/-- The rotated columns. -/
def rope_2 (a : FVec Ideal S2x16384x256 .f32) (cs sn : FVec Ideal S16384x128 .f32) : FVec Ideal S2x16384x256 .f32 :=
  stack_2 (addf (mulf (half0_2 a) (spread_2 (tab0 cs))) (mulf (half1_2 a) (spread_2 (tab0 sn))))
    (addf (mulf (half1_2 a) (spread_2 (tab1 cs))) (mulf (half0_2 a) (spread_2 (tab1 sn))))

/-- The queries. -/
def q (y : FVec Ideal S2x16384x6144 .f32) (cs sn : FVec Ideal S16384x128 .f32) : FVec Ideal S2x16384x512 .bf16 :=
  truncf .bf16 (mulf (rope_4 (extractStridedSlice S2x16384x512 ![0, 0, 0] y slices_S2x16384x6144_S2x16384x512_0_0_0) cs sn)
    (broadcastInDim S2x16384x512 ![] bcast_S_S2x16384x512 (constant S_ .f32 0x3E000000#32))) bitsLt_bf16_f32

/-- The keys. -/
def kk (y : FVec Ideal S2x16384x6144 .f32) (cs sn : FVec Ideal S16384x128 .f32) : FVec Ideal S2x16384x256 .bf16 :=
  truncf .bf16 (rope_2 (extractStridedSlice S2x16384x256 ![0, 0, 512] y slices_S2x16384x6144_S2x16384x256_0_0_512) cs sn) bitsLt_bf16_f32

/-- The values. -/
def vv (y : FVec Ideal S2x16384x6144 .f32) : FVec Ideal S2x16384x256 .bf16 :=
  truncf .bf16 (extractStridedSlice S2x16384x256 ![0, 0, 768] y slices_S2x16384x6144_S2x16384x256_0_0_768) bitsLt_bf16_f32

/-- The filter's input. -/
def f (y : FVec Ideal S2x16384x6144 .f32) : FVec Ideal S2x16384x512 .bf16 :=
  truncf .bf16 (extractStridedSlice S2x16384x512 ![0, 0, 1024] y slices_S2x16384x6144_S2x16384x512_0_0_1024) bitsLt_bf16_f32

/-- The convolution's input. -/
def u (y : FVec Ideal S2x16384x6144 .f32) : FVec Ideal S2x16384x512 .bf16 :=
  truncf .bf16 (mulf (extractStridedSlice S2x16384x512 ![0, 0, 2560] y slices_S2x16384x6144_S2x16384x512_0_0_2560)
    (extractStridedSlice S2x16384x512 ![0, 0, 1536] y slices_S2x16384x6144_S2x16384x512_0_0_1536)) bitsLt_bf16_f32

/-- The convolution's gate. -/
def cb (y : FVec Ideal S2x16384x6144 .f32) : FVec Ideal S2x16384x512 .bf16 :=
  truncf .bf16 (extractStridedSlice S2x16384x512 ![0, 0, 2048] y slices_S2x16384x6144_S2x16384x512_0_0_2048) bitsLt_bf16_f32

/-- The merge's gates. -/
def gates (y : FVec Ideal S2x16384x6144 .f32) : FVec Ideal S2x16384x3072 .bf16 :=
  truncf .bf16 (Host.divf (broadcastInDim S2x16384x3072 ![] bcast_S_S2x16384x3072 (constant S_ .f32 0x3F800000#32))
    (addf (broadcastInDim S2x16384x3072 ![] bcast_S_S2x16384x3072 (constant S_ .f32 0x3F800000#32))
      (Host.exp (Host.negf (extractStridedSlice S2x16384x3072 ![0, 0, 3072] y slices_S2x16384x6144_S2x16384x3072_0_0_3072))))) bitsLt_bf16_f32

end Cert.ProjectReferenceIdeal.Proj

end
-- ==== Proof.ProjectRefRun.lean ====
/- The input projection's reference, its run. -/
module

public import proofs.«01_k».proof.Proof.ProjectRef
public import Idealize.ShloMosaic.Lib.Pipeline.ValueKit

@[expose] public section

set_option maxRecDepth 16384

noncomputable section

namespace Cert.ProjectReferenceIdeal.Proj

open Cert.ProjectReferenceIdeal Cert.ProjectReferenceIdeal.Gen Idealize.ShloMosaic Idealize.ShloMosaic.TcCoe Idealize.SL.Sem

theorem q_eq (m : (ℓ : Loc nD τ sig) → Buf (Elt Ideal) ℓ) (c : Dev nD) : Value.res_main_v102 m c
    = q (z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) := rfl

theorem kk_eq (m : (ℓ : Loc nD τ sig) → Buf (Elt Ideal) ℓ) (c : Dev nD) : Value.res_main_v103 m c
    = kk (z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) := rfl

/-- The reference's run: its seven results. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102) = q (z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))
      ∧ r.2.mem ((c.tc : Thread nD τ).loc main_v103) = kk (z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))
      ∧ r.2.mem ((c.tc : Thread nD τ).loc main_v104) = vv (z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v105) = f (z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v106) = u (z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v107) = cb (z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v108) = gates (z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => h c) (Value.run (F := Ideal) m ρ)

end Cert.ProjectReferenceIdeal.Proj

end
-- ==== Proof.ProjectPay.lean ====
/- The input projection's call: what a grid point writes, at an index. -/
module

public import proofs.«01_k».proof.Proof.Rope
public import proofs.«01_k».proof.Proof.DenseValue
public import proofs.«01_k».proof.Proof.Gen.ProjectIdeal.Value
public import Idealize.ShloMosaic.Lib.Pipeline.ValueKit

@[expose] public section

set_option maxRecDepth 16384

noncomputable section

namespace Cert.ProjectIdeal.Proj

open Cert.ProjectIdeal Cert.ProjectIdeal.Gen Idealize.ShloMosaic Idealize.ShloMosaic.TcCoe Idealize.SL.Sem Idealize.ShloMosaic.Pipeline

/-- The rows times a piece of the weights. -/
def mm (h : FVec Ideal S512x1024 .bf16) (w : FVec Ideal S1024x512 .bf16) : FVec Ideal S512x512 .f32 :=
  matmul dot_S512x1024_S1024x512_S512x512_1_0_0_1_n_n none h w (constant S512x512 .f32 0x00000000#32)

theorem mm_at (h : FVec Ideal S512x1024 .bf16) (w : FVec Ideal S1024x512 .bf16) (r n : Fin 512) :
    mm h w (ix2 r n) = ∑ k : Fin 1024, h (ix2 r k) * w (ix2 k n) := by
  pointwise [mm]

/-- A piece of the weights, read at an index. -/
theorem ldw_at (o : ℕ) (ho : o + 512 ≤ 6144) (w : Vec Ideal S1024x6144 .bf16)
    (b : ∀ a, (![0, o] : Fin 2 → ℕ) a + S1024x512.size a ≤ S1024x6144.size a) (k : Fin 1024) (n : Fin 512) :
    View.ld w (Rect.unit (s := S1024x6144) ![0, o] S1024x512.size b) (ix2 k n) = w (ix2 k ⟨o + n, by omega⟩) :=
  View.ld_unit_apply_of _ _ _ _ _ _ fun a => by match a with | 0 => exact (Nat.zero_add _).symm | 1 => rfl

theorem prod_at (o : ℕ) (ho : o + 512 ≤ 6144) (h : FVec Ideal S512x1024 .bf16) (w : Vec Ideal S1024x6144 .bf16)
    (b : ∀ a, (![0, o] : Fin 2 → ℕ) a + S1024x512.size a ≤ S1024x6144.size a) (r n : Fin 512) :
    mm h (View.ld w (Rect.unit (s := S1024x6144) ![0, o] S1024x512.size b)) (ix2 r n)
      = Rope.col (fun k => h (ix2 r k)) (fun k n => w (ix2 k n)) ⟨o + n, by omega⟩ := by
  rw [mm_at]
  exact Finset.sum_congr rfl fun k _ => congrArg _ (ldw_at o ho w b k n)

/-- The rows that the weights multiply. -/
abbrev hid (x0 : Vec Ideal S1x512x1024 .f32) (x1 x2 : Vec Ideal S1x1x1024 .f32) (x3 : Vec Ideal S1x1024 .f32) : FVec Ideal S512x1024 .bf16 :=
  k0_pay4 (View.ld x0 r0_0) (View.ld x3 r0_1) (View.ld x1 r0_2) (View.ld x2 r0_2)

theorem hid_at (x0 : Vec Ideal S1x512x1024 .f32) (x1 x2 : Vec Ideal S1x1x1024 .f32) (x3 : Vec Ideal S1x1024 .f32) (r : Fin 512) :
    (fun k => hid x0 x1 x2 x3 (ix2 r k))
      = Norm.mod (fun k => x0 (ix3 0 r k)) (fun k => x3 (ix2 0 k)) (fun k => x1 (ix3 0 0 k)) (fun k => x2 (ix3 0 0 k)) := by
  have e : ∀ k, hid x0 x1 x2 x3 (ix2 r k) = Norm.mod (fun k => View.ld x0 r0_0 (ix3 0 r k)) (fun k => View.ld x3 r0_1 (ix2 0 k)) (fun k => View.ld x1 r0_2 (ix3 0 0 k))
      (fun k => View.ld x2 r0_2 (ix3 0 0 k)) k := fun k => DenseIdeal.Ffn.pay3_at (View.ld x0 r0_0) (View.ld x3 r0_1) (View.ld x1 r0_2) (View.ld x2 r0_2) r k
  have f0 : (fun (k : Fin 1024) => View.ld x0 r0_0 (ix3 0 r k)) = fun (k : Fin 1024) => x0 (ix3 0 r k) := funext fun k =>
    View.ld_unit_apply_of _ _ _ _ _ _ fun a => by match a with | 0 => exact (Nat.zero_add _).symm | 1 => exact (Nat.zero_add _).symm | 2 => exact (Nat.zero_add _).symm
  have f3 : (fun (k : Fin 1024) => View.ld x3 r0_1 (ix2 0 k)) = fun (k : Fin 1024) => x3 (ix2 0 k) := funext fun k =>
    View.ld_unit_apply_of _ _ _ _ _ _ fun a => by match a with | 0 => exact (Nat.zero_add _).symm | 1 => exact (Nat.zero_add _).symm
  have f1 : ∀ x : Vec Ideal S1x1x1024 .f32, (fun (k : Fin 1024) => View.ld x r0_2 (ix3 0 0 k)) = fun (k : Fin 1024) => x (ix3 0 0 k) := fun x => funext fun k =>
    View.ld_unit_apply_of _ _ _ _ _ _ fun a => by match a with | 0 => exact (Nat.zero_add _).symm | 1 => exact (Nat.zero_add _).symm | 2 => exact (Nat.zero_add _).symm
  funext k
  rw [e k, f0, f3, f1, f1]

/-- A table's block, read at an index. -/
theorem ldt_at (t : Vec Ideal S512x128 .f32) (r : Fin 512) : (fun (l : Fin 128) => View.ld t r0_3 (ix2 r l)) = fun (l : Fin 128) => t (ix2 r l) := funext fun l =>
  View.ld_unit_apply_of _ _ _ _ _ _ fun a => by match a with | 0 => exact (Nat.zero_add _).symm | 1 => exact (Nat.zero_add _).symm

/-- The lanes of the first half of each run of 64. -/
abbrev mask : IVec S512x128 1 := k0_pay7 (Scalar.select (Scalar.cmpi .eq 64#32 0#32) 1#32 64#32) k0_pay5 k0_pay6

theorem mask_row : ∀ l : Fin 128, mask (ix2 0 l) = if l.val % 64 < 32 then 1#1 else 0#1 := by
  decide +kernel

theorem mask_at (r : Fin 512) (l : Fin 128) : mask (ix2 r l) = if l.val % 64 < 32 then 1#1 else 0#1 :=
  Eq.trans rfl (mask_row l)

/-- The rotated columns of a head's pair. -/
def rot (mk : IVec S512x128 1) (s cs sn : FVec Ideal S512x128 .f32) : FVec Ideal S512x128 .f32 :=
  addf (mulf s cs) (mulf (select mk (dynamicRotate 1 96#32 none s rotates_S512x128_d1) (dynamicRotate 1 32#32 none s rotates_S512x128_d1)) sn)

theorem up_at (s : FVec Ideal S512x128 .f32) (r : Fin 512) (l : Fin 128) :
    dynamicRotate 1 96#32 none s rotates_S512x128_d1 (ix2 r l) = s (ix2 r ⟨(l + 32) % 128, by omega⟩) := by
  rw [Pointwise.dynamicRotate_apply]
  refine congrArg s (funext fun a => ?_)
  match a with
  | 0 => rfl
  | 1 => exact Fin.ext (by show (l.val + 128 - (96 + 0) % 128) % 128 = (l.val + 32) % 128; omega)

theorem down_at (s : FVec Ideal S512x128 .f32) (r : Fin 512) (l : Fin 128) :
    dynamicRotate 1 32#32 none s rotates_S512x128_d1 (ix2 r l) = s (ix2 r ⟨(l + 96) % 128, by omega⟩) := by
  rw [Pointwise.dynamicRotate_apply]
  refine congrArg s (funext fun a => ?_)
  match a with
  | 0 => rfl
  | 1 => exact Fin.ext (by show (l.val + 128 - (32 + 0) % 128) % 128 = (l.val + 96) % 128; omega)

theorem rot_at (mk : IVec S512x128 1) (s cs sn : FVec Ideal S512x128 .f32) (r : Fin 512) (l : Fin 128)
    (h : mk (ix2 r l) = if l.val % 64 < 32 then 1#1 else 0#1) : rot mk s cs sn (ix2 r l)
      = s (ix2 r l) * cs (ix2 r l) + s (ix2 r ⟨if l.val % 64 < 32 then l + 32 else l - 32, by split <;> omega⟩) * sn (ix2 r l) := by
  have u := up_at s r l
  have d := down_at s r l
  have e : rot mk s cs sn (ix2 r l) = s (ix2 r l) * cs (ix2 r l) + (if mk (ix2 r l) = 1#1 then dynamicRotate 1 96#32 none s rotates_S512x128_d1 (ix2 r l)
      else dynamicRotate 1 32#32 none s rotates_S512x128_d1 (ix2 r l)) * sn (ix2 r l) := by
    unfold rot
    generalize dynamicRotate 1 96#32 none s rotates_S512x128_d1 = a
    generalize dynamicRotate 1 32#32 none s rotates_S512x128_d1 = b
    rfl
  rw [e, h, u, d]
  by_cases c : l.val % 64 < 32
  · rw [if_pos c, if_pos rfl]
    exact congrArg (fun i => s (ix2 r l) * cs (ix2 r l) + s (ix2 r i) * sn (ix2 r l)) (Fin.ext (by show (l.val + 32) % 128 = if l.val % 64 < 32 then _ else _; rw [if_pos c]; omega))
  · rw [if_neg c, if_neg (by decide)]
    exact congrArg (fun i => s (ix2 r l) * cs (ix2 r l) + s (ix2 r i) * sn (ix2 r l)) (Fin.ext (by show (l.val + 96) % 128 = if l.val % 64 < 32 then _ else _; rw [if_neg c]; omega))

/-- A head's pair of columns, rotated. -/
theorem pair_at (c o : ℕ) (hc : c % 128 = 0) (hn : c + 512 ≤ 6144) (ho : o % 128 = 0) (hm : o + 128 ≤ 512) (z : FVec Ideal S512x512 .f32) (y : Fin 6144 → EReal) (r : Fin 512)
    (hz : ∀ n : Fin 512, z (ix2 r n) = y ⟨c + n, by omega⟩) (sl : S512x512.Slices ![0, o] S512x128) (cs sn : FVec Ideal S512x128 .f32) (l : Fin 128) :
    rot mask (extractStridedSlice S512x128 ![0, o] z sl) cs sn (ix2 r l)
      = Rope.rope y (fun l => cs (ix2 r l)) (fun l => sn (ix2 r l)) ⟨c + o + l, by omega⟩ := by
  have s : ∀ l : Fin 128, extractStridedSlice S512x128 ![0, o] z sl (ix2 r l) = y ⟨c + (o + l), by omega⟩ := fun l =>
    (extractStridedSlice_apply _ _ _ _ (ix2 r ⟨o + l, by omega⟩) fun a => by match a with | 0 => exact (Nat.zero_add _).symm | 1 => rfl).trans (hz _)
  rw [rot_at _ _ _ _ r l (mask_at r l), s, s]
  unfold Rope.rope Rope.part Rope.lane
  have e0 : (⟨c + (o + l), by omega⟩ : Fin 6144) = ⟨c + o + l, by omega⟩ := Fin.ext (by show c + (o + l.val) = c + o + l.val; omega)
  have e1 : l = (⟨(c + o + l) % 128, by omega⟩ : Fin 128) := Fin.ext (by show l.val = (c + o + l.val) % 128; omega)
  have e2 : (⟨c + (o + (if l.val % 64 < 32 then l.val + 32 else l.val - 32)), by split <;> omega⟩ : Fin 6144)
      = ⟨if (c + o + l) % 64 < 32 then c + o + l + 32 else c + o + l - 32, by split <;> omega⟩ := Fin.ext (by
    show c + (o + (if l.val % 64 < 32 then l.val + 32 else l.val - 32)) = if (c + o + l.val) % 64 < 32 then c + o + l.val + 32 else c + o + l.val - 32
    by_cases h : l.val % 64 < 32
    · rw [if_pos h, if_pos (by omega)]; omega
    · rw [if_neg h, if_neg (by omega)]; omega)
  exact congrArg₂ (· + ·) (congrArg₂ (· * ·) (congrArg y e0) (congrArg (fun l => cs (ix2 r l)) e1)) (congrArg₂ (· * ·) (congrArg y e2) (congrArg (fun l => sn (ix2 r l)) e1))

/-- The queries' store. -/
def qfin (a : FVec Ideal S512x128 .f32) : FVec Ideal S1x512x128 .bf16 :=
  shapeCast S1x512x128 (truncf .bf16 (mulf a (broadcast S512x128 (Scalar.ofBits .f32 0x3E000000#32))) bitsLt_bf16_f32) shapeCasts_S512x128_S1x512x128

theorem qfin_at (a : FVec Ideal S512x128 .f32) (j : S1x512x128.Idx) : qfin a j = a (ix2 (j 1) (j 2)) * Ideal.ofBits .f32 0x3E000000#32 := by
  pointwise [qfin]

/-- The keys' store. -/
def kfin (a : FVec Ideal S512x128 .f32) : FVec Ideal S1x512x128 .bf16 :=
  shapeCast S1x512x128 (truncf .bf16 a bitsLt_bf16_f32) shapeCasts_S512x128_S1x512x128

theorem kfin_at (a : FVec Ideal S512x128 .f32) (j : S1x512x128.Idx) : kfin a j = a (ix2 (j 1) (j 2)) := by
  pointwise [kfin]

/-- The values' store. -/
def vfin (a : FVec Ideal S512x512 .f32) : FVec Ideal S1x512x256 .bf16 :=
  shapeCast S1x512x256 (truncf .bf16 (extractStridedSlice S512x256 ![0, 256] a slices_S512x512_o0_256_S512x256) bitsLt_bf16_f32) shapeCasts_S512x256_S1x512x256

theorem vfin_at (a : FVec Ideal S512x512 .f32) (z : Fin 1) (r : Fin 512) (n : Fin 256) : vfin a (ix3 z r n) = a (ix2 r ⟨256 + n, by omega⟩) := by
  pointwise [vfin]

/-- The store of 512 columns as they are. -/
def fin5 (a : FVec Ideal S512x512 .f32) : FVec Ideal S1x512x512 .bf16 :=
  shapeCast S1x512x512 (truncf .bf16 a bitsLt_bf16_f32) shapeCasts_S512x512_S1x512x512

theorem fin5_at (a : FVec Ideal S512x512 .f32) (z : Fin 1) (r n : Fin 512) : fin5 a (ix3 z r n) = a (ix2 r n) := by
  pointwise [fin5]

/-- The gates' store. -/
def gfin (a : FVec Ideal S512x512 .f32) : FVec Ideal S1x512x512 .bf16 :=
  shapeCast S1x512x512 (truncf .bf16 (logistic a) bitsLt_bf16_f32) shapeCasts_S512x512_S1x512x512

theorem gfin_at (a : FVec Ideal S512x512 .f32) (j : S1x512x512.Idx) : gfin a j = Ideal.logistic (a (ix2 (j 1) (j 2))) := by
  pointwise [gfin]

variable (x0 : Vec Ideal S1x512x1024 .f32) (x1 x2 : Vec Ideal S1x1x1024 .f32) (x3 : Vec Ideal S1x1024 .f32) (x4 : Vec Ideal S1024x6144 .bf16) (x5 x6 : Vec Ideal S512x128 .f32)

/-- A row's product with the weights, at a column. -/
abbrev zat (r : Fin 512) : Fin 6144 → EReal :=
  Rope.col (Norm.mod (fun k => x0 (ix3 0 r k)) (fun k => x3 (ix2 0 k)) (fun k => x1 (ix3 0 0 k)) (fun k => x2 (ix3 0 0 k))) (fun k n => x4 (ix2 k n))

theorem zat_eq (o : ℕ) (ho : o + 512 ≤ 6144) (b : ∀ a, (![0, o] : Fin 2 → ℕ) a + S1024x512.size a ≤ S1024x6144.size a) (r n : Fin 512) :
    mm (hid x0 x1 x2 x3) (View.ld x4 (Rect.unit (s := S1024x6144) ![0, o] S1024x512.size b)) (ix2 r n) = zat x0 x1 x2 x3 x4 r ⟨o + n, by omega⟩ := by
  rw [prod_at o ho, hid_at]

theorem qpiece (o : ℕ) (ho : o % 128 = 0) (hm : o + 128 ≤ 512) (sl : S512x512.Slices ![0, o] S512x128) (r : Fin 512) (l : Fin 128) (n : Fin 6144) (hn : n.val = o + l) :
    rot mask (extractStridedSlice S512x128 ![0, o] (mm (hid x0 x1 x2 x3) (View.ld x4 r0_4)) sl) (View.ld x5 r0_3) (View.ld x6 r0_3) (ix2 r l)
      = Rope.rope (zat x0 x1 x2 x3 x4 r) (fun l => x5 (ix2 r l)) (fun l => x6 (ix2 r l)) n := by
  refine (pair_at 0 o (by decide) (by decide) ho hm _ (zat x0 x1 x2 x3 x4 r) r (fun k => zat_eq x0 x1 x2 x3 x4 0 (by decide) _ r k) sl _ _ l).trans ?_
  rw [ldt_at, ldt_at]
  exact congrArg (Rope.rope (zat x0 x1 x2 x3 x4 r) (fun l => x5 (ix2 r l)) (fun l => x6 (ix2 r l))) (Fin.ext (by show 0 + o + l.val = n.val; omega))

theorem kpiece (o : ℕ) (ho : o % 128 = 0) (hm : o + 128 ≤ 512) (sl : S512x512.Slices ![0, o] S512x128) (r : Fin 512) (l : Fin 128) (n : Fin 6144) (hn : n.val = 512 + o + l) :
    rot mask (extractStridedSlice S512x128 ![0, o] (mm (hid x0 x1 x2 x3) (View.ld x4 r0_9)) sl) (View.ld x5 r0_3) (View.ld x6 r0_3) (ix2 r l)
      = Rope.rope (zat x0 x1 x2 x3 x4 r) (fun l => x5 (ix2 r l)) (fun l => x6 (ix2 r l)) n := by
  refine (pair_at 512 o (by decide) (by decide) ho hm _ (zat x0 x1 x2 x3 x4 r) r (fun k => zat_eq x0 x1 x2 x3 x4 512 (by decide) _ r k) sl _ _ l).trans ?_
  rw [ldt_at, ldt_at]
  exact congrArg (Rope.rope (zat x0 x1 x2 x3 x4 r) (fun l => x5 (ix2 r l)) (fun l => x6 (ix2 r l))) (Fin.ext hn.symm)

theorem gpiece (o : ℕ) (ho : o + 512 ≤ 6144) (b : ∀ a, (![0, o] : Fin 2 → ℕ) a + S1024x512.size a ≤ S1024x6144.size a) (r l : Fin 512) (n : Fin 6144) (hn : n.val = o + l) :
    mm (hid x0 x1 x2 x3) (View.ld x4 (Rect.unit (s := S1024x6144) ![0, o] S1024x512.size b)) (ix2 r l) = zat x0 x1 x2 x3 x4 r n :=
  (zat_eq x0 x1 x2 x3 x4 o ho b r l).trans (congrArg (zat x0 x1 x2 x3 x4 r) (Fin.ext hn.symm))

theorem out7_at (y : S1x512x512.Idx) : out0_7 x0 x1 x2 x3 x4 x5 x6 y
    = Rope.rope (zat x0 x1 x2 x3 x4 (y 1)) (fun l => x5 (ix2 (y 1) l)) (fun l => x6 (ix2 (y 1) l)) ⟨y 2, (y 2).isLt.trans (by decide)⟩ * Ideal.ofBits .f32 0x3E000000#32 := by
  unfold out0_7
  canon_tiles x hx
  case piece0 =>
    refine Eq.trans (b := qfin (rot mask (extractStridedSlice S512x128 ![0, 384] (mm (hid x0 x1 x2 x3) (View.ld x4 r0_4)) slices_S512x512_o0_384_S512x128) (View.ld x5 r0_3) (View.ld x6 r0_3)) x) (by rfl) ?_
    rw [show y 1 = x 1 from Fin.ext hx1]
    refine (qfin_at _ x).trans (congrArg (· * Ideal.ofBits .f32 0x3E000000#32) ?_)
    exact qpiece x0 x1 x2 x3 x4 x5 x6 384 (by decide) (by decide) _ (x 1) (x 2) _ (by show (y 2).val = 384 + (x 2).val; omega)
  case piece1 =>
    refine Eq.trans (b := qfin (rot mask (extractStridedSlice S512x128 ![0, 256] (mm (hid x0 x1 x2 x3) (View.ld x4 r0_4)) slices_S512x512_o0_256_S512x128) (View.ld x5 r0_3) (View.ld x6 r0_3)) x) (by rfl) ?_
    rw [show y 1 = x 1 from Fin.ext hx1]
    refine (qfin_at _ x).trans (congrArg (· * Ideal.ofBits .f32 0x3E000000#32) ?_)
    exact qpiece x0 x1 x2 x3 x4 x5 x6 256 (by decide) (by decide) _ (x 1) (x 2) _ (by show (y 2).val = 256 + (x 2).val; omega)
  case piece2 =>
    refine Eq.trans (b := qfin (rot mask (extractStridedSlice S512x128 ![0, 128] (mm (hid x0 x1 x2 x3) (View.ld x4 r0_4)) slices_S512x512_o0_128_S512x128) (View.ld x5 r0_3) (View.ld x6 r0_3)) x) (by rfl) ?_
    rw [show y 1 = x 1 from Fin.ext hx1]
    refine (qfin_at _ x).trans (congrArg (· * Ideal.ofBits .f32 0x3E000000#32) ?_)
    exact qpiece x0 x1 x2 x3 x4 x5 x6 128 (by decide) (by decide) _ (x 1) (x 2) _ (by show (y 2).val = 128 + (x 2).val; omega)
  case piece3 =>
    refine Eq.trans (b := qfin (rot mask (extractStridedSlice S512x128 ![0, 0] (mm (hid x0 x1 x2 x3) (View.ld x4 r0_4)) slices_S512x512_o0_0_S512x128) (View.ld x5 r0_3) (View.ld x6 r0_3)) x) (by rfl) ?_
    rw [show y 1 = x 1 from Fin.ext hx1]
    refine (qfin_at _ x).trans (congrArg (· * Ideal.ofBits .f32 0x3E000000#32) ?_)
    exact qpiece x0 x1 x2 x3 x4 x5 x6 0 (by decide) (by decide) _ (x 1) (x 2) _ (by show (y 2).val = 0 + (x 2).val; omega)

theorem out8_at (y : S1x512x256.Idx) : out0_8 x0 x1 x2 x3 x4 x5 x6 y
    = Rope.rope (zat x0 x1 x2 x3 x4 (y 1)) (fun l => x5 (ix2 (y 1) l)) (fun l => x6 (ix2 (y 1) l)) ⟨512 + (y 2).val, Nat.lt_of_lt_of_le (Nat.add_lt_add_left (y 2).isLt 512) (by decide)⟩ := by
  unfold out0_8
  canon_tiles x hx
  case piece0 =>
    refine Eq.trans (b := kfin (rot mask (extractStridedSlice S512x128 ![0, 128] (mm (hid x0 x1 x2 x3) (View.ld x4 r0_9)) slices_S512x512_o0_128_S512x128) (View.ld x5 r0_3) (View.ld x6 r0_3)) x) (by rfl) ?_
    rw [show y 1 = x 1 from Fin.ext hx1]
    refine (kfin_at _ x).trans ?_
    exact kpiece x0 x1 x2 x3 x4 x5 x6 128 (by decide) (by decide) _ (x 1) (x 2) _ (by show 512 + (y 2).val = 512 + 128 + (x 2).val; omega)
  case piece1 =>
    refine Eq.trans (b := kfin (rot mask (extractStridedSlice S512x128 ![0, 0] (mm (hid x0 x1 x2 x3) (View.ld x4 r0_9)) slices_S512x512_o0_0_S512x128) (View.ld x5 r0_3) (View.ld x6 r0_3)) x) (by rfl) ?_
    rw [show y 1 = x 1 from Fin.ext hx1]
    refine (kfin_at _ x).trans ?_
    exact kpiece x0 x1 x2 x3 x4 x5 x6 0 (by decide) (by decide) _ (x 1) (x 2) _ (by show 512 + (y 2).val = 512 + 0 + (x 2).val; omega)

theorem out9_at (z : Fin 1) (r : Fin 512) (n : Fin 256) : out0_9 x0 x1 x2 x3 x4 x5 x6 (ix3 z r n) = zat x0 x1 x2 x3 x4 r ⟨768 + n, by omega⟩ := by
  unfold out0_9
  frame_out
  refine Eq.trans (b := vfin (mm (hid x0 x1 x2 x3) (View.ld x4 r0_9)) (ix3 z r n)) (by rfl) ?_
  rw [vfin_at, zat_eq x0 x1 x2 x3 x4 512 (by decide)]
  exact congrArg (zat x0 x1 x2 x3 x4 r) (Fin.ext (by show 512 + (256 + n.val) = 768 + n.val; omega))

theorem out10_at (z : Fin 1) (r n : Fin 512) : out0_10 x0 x1 x2 x3 x4 x5 x6 (ix3 z r n) = zat x0 x1 x2 x3 x4 r ⟨1024 + n, by omega⟩ := by
  unfold out0_10
  frame_out
  refine Eq.trans (b := fin5 (mm (hid x0 x1 x2 x3) (View.ld x4 r0_13)) (ix3 z r n)) (by rfl) ?_
  rw [fin5_at, zat_eq x0 x1 x2 x3 x4 1024 (by decide)]

theorem out11_at (z : Fin 1) (r n : Fin 512) : out0_11 x0 x1 x2 x3 x4 x5 x6 (ix3 z r n) = zat x0 x1 x2 x3 x4 r ⟨2560 + n, by omega⟩ * zat x0 x1 x2 x3 x4 r ⟨1536 + n, by omega⟩ := by
  unfold out0_11
  frame_out
  refine Eq.trans (b := fin5 (mulf (mm (hid x0 x1 x2 x3) (View.ld x4 r0_15)) (mm (hid x0 x1 x2 x3) (View.ld x4 r0_16))) (ix3 z r n)) (by rfl) ?_
  rw [fin5_at]
  exact congrArg₂ (· * ·) (zat_eq x0 x1 x2 x3 x4 2560 (by decide) _ r n) (zat_eq x0 x1 x2 x3 x4 1536 (by decide) _ r n)

theorem out12_at (z : Fin 1) (r n : Fin 512) : out0_12 x0 x1 x2 x3 x4 x5 x6 (ix3 z r n) = zat x0 x1 x2 x3 x4 r ⟨2048 + n, by omega⟩ := by
  unfold out0_12
  frame_out
  refine Eq.trans (b := fin5 (mm (hid x0 x1 x2 x3) (View.ld x4 r0_17)) (ix3 z r n)) (by rfl) ?_
  rw [fin5_at, zat_eq x0 x1 x2 x3 x4 2048 (by decide)]

theorem out13_at (y : S1x512x3072.Idx) : out0_13 x0 x1 x2 x3 x4 x5 x6 y
    = Ideal.logistic (zat x0 x1 x2 x3 x4 (y 1) ⟨3072 + (y 2).val, Nat.lt_of_lt_of_le (Nat.add_lt_add_left (y 2).isLt 3072) (by decide)⟩) := by
  unfold out0_13
  canon_tiles x hx
  case piece0 =>
    refine Eq.trans (b := gfin (mm (hid x0 x1 x2 x3) (View.ld x4 r0_28)) x) (by rfl) ?_
    rw [show y 1 = x 1 from Fin.ext hx1]
    refine (gfin_at _ x).trans (congrArg Ideal.logistic ?_)
    exact gpiece x0 x1 x2 x3 x4 5632 (by decide) _ (x 1) (x 2) _ (by show 3072 + (y 2).val = 5632 + (x 2).val; omega)
  case piece1 =>
    refine Eq.trans (b := gfin (mm (hid x0 x1 x2 x3) (View.ld x4 r0_26)) x) (by rfl) ?_
    rw [show y 1 = x 1 from Fin.ext hx1]
    refine (gfin_at _ x).trans (congrArg Ideal.logistic ?_)
    exact gpiece x0 x1 x2 x3 x4 5120 (by decide) _ (x 1) (x 2) _ (by show 3072 + (y 2).val = 5120 + (x 2).val; omega)
  case piece2 =>
    refine Eq.trans (b := gfin (mm (hid x0 x1 x2 x3) (View.ld x4 r0_24)) x) (by rfl) ?_
    rw [show y 1 = x 1 from Fin.ext hx1]
    refine (gfin_at _ x).trans (congrArg Ideal.logistic ?_)
    exact gpiece x0 x1 x2 x3 x4 4608 (by decide) _ (x 1) (x 2) _ (by show 3072 + (y 2).val = 4608 + (x 2).val; omega)
  case piece3 =>
    refine Eq.trans (b := gfin (mm (hid x0 x1 x2 x3) (View.ld x4 r0_22)) x) (by rfl) ?_
    rw [show y 1 = x 1 from Fin.ext hx1]
    refine (gfin_at _ x).trans (congrArg Ideal.logistic ?_)
    exact gpiece x0 x1 x2 x3 x4 4096 (by decide) _ (x 1) (x 2) _ (by show 3072 + (y 2).val = 4096 + (x 2).val; omega)
  case piece4 =>
    refine Eq.trans (b := gfin (mm (hid x0 x1 x2 x3) (View.ld x4 r0_20)) x) (by rfl) ?_
    rw [show y 1 = x 1 from Fin.ext hx1]
    refine (gfin_at _ x).trans (congrArg Ideal.logistic ?_)
    exact gpiece x0 x1 x2 x3 x4 3584 (by decide) _ (x 1) (x 2) _ (by show 3072 + (y 2).val = 3584 + (x 2).val; omega)
  case piece5 =>
    refine Eq.trans (b := gfin (mm (hid x0 x1 x2 x3) (View.ld x4 r0_18)) x) (by rfl) ?_
    rw [show y 1 = x 1 from Fin.ext hx1]
    refine (gfin_at _ x).trans (congrArg Ideal.logistic ?_)
    exact gpiece x0 x1 x2 x3 x4 3072 (by decide) _ (x 1) (x 2) _ (by show 3072 + (y 2).val = 3072 + (x 2).val; omega)

end Cert.ProjectIdeal.Proj

end
-- ==== Proof.ProjectRefAt.lean ====
/- The input projection's reference, its layers each read at an index. -/
module

public import proofs.«01_k».proof.Proof.Rope
public import proofs.«01_k».proof.Proof.ProjectRef
public import Idealize.ShloMosaic.Lib.Pipeline.ValueKit
public import Idealize.ShloMosaic.Lib.ValueIdxRank6

@[expose] public section

set_option maxRecDepth 16384

noncomputable section

namespace Cert.ProjectReferenceIdeal.Proj

open Cert.ProjectReferenceIdeal Cert.ProjectReferenceIdeal.Gen Idealize.ShloMosaic Idealize.ShloMosaic.TcCoe Idealize.SL.Sem

theorem z_at (x : FVec Ideal S2x16384x1024 .f32) (sc sh : FVec Ideal S2x1x1024 .f32) (g : FVec Ideal S1x1024 .f32) (w : FVec Ideal S1024x6144 .bf16)
    (b : Fin 2) (r : Fin 16384) (n : Fin 6144) : z x sc sh g w (ix3 b r n)
      = Rope.col (Norm.mod (fun k => x (ix3 b r k)) (fun k => g (ix2 0 k)) (fun k => sc (ix3 b 0 k)) (fun k => sh (ix3 b 0 k))) (fun k n => w (ix2 k n)) n := by
  have e : ∀ h : FVec Ideal S2x16384x1024 .f32, Host.dotGeneral dot_S2x16384x1024_S1024x6144_S2x16384x6144_2_0_01_1_n_n none h (extf .f32 w bitsLt_bf16_f32) (ix3 b r n)
      = Rope.col (fun k => h (ix3 b r k)) (fun k n => w (ix2 k n)) n := fun h => by
    pointwise [Rope.col]
  refine (e _).trans ?_
  have f : (fun k => DenseReferenceIdeal.Ffn.mod x g sc sh (ix3 b r k))
      = Norm.mod (fun k => x (ix3 b r k)) (fun k => g (ix2 0 k)) (fun k => sc (ix3 b 0 k)) (fun k => sh (ix3 b 0 k)) := funext fun k =>
    DenseReferenceIdeal.Ffn.mod_at x g sc sh b r k
  rw [f]

/-! The row-major positions of the shapes in use. -/

theorem rm_t5 (r : Fin 16384) (v : Fin 1) (p : Fin 2) (i : Fin 2) (e : Fin 32) : (S16384x1x2x2x32.rowMajor (ix5 r v p i e)).val = (((r.val * 1 + v.val) * 2 + p.val) * 2 + i.val) * 32 + e.val :=
  Shape.rowMajor_val_five _

theorem rm_t51 (r : Fin 16384) (v : Fin 1) (p : Fin 2) (i : Fin 1) (e : Fin 32) : (S16384x1x2x1x32.rowMajor (ix5 r v p i e)).val = (((r.val * 1 + v.val) * 2 + p.val) * 1 + i.val) * 32 + e.val :=
  Shape.rowMajor_val_five _

theorem rm_t4 (r : Fin 16384) (v : Fin 1) (p : Fin 2) (e : Fin 32) : (S16384x1x2x32.rowMajor (ix4 r v p e)).val = ((r.val * 1 + v.val) * 2 + p.val) * 32 + e.val :=
  Shape.rowMajor_val_four _

theorem rm_t2 (r : Fin 16384) (l : Fin 128) : (S16384x128.rowMajor (ix2 r l)).val = r.val * 128 + l.val :=
  Shape.rowMajor_val_two _

theorem rm4_6 (b : Fin 2) (r : Fin 16384) (v : Fin 4) (p : Fin 2) (i : Fin 2) (e : Fin 32) : (S2x16384x4x2x2x32.rowMajor (ValueIdx.ix6 b r v p i e)).val = ((((b.val * 16384 + r.val) * 4 + v.val) * 2 + p.val) * 2 + i.val) * 32 + e.val :=
  Shape.rowMajor_val_six _

theorem rm4_61 (b : Fin 2) (r : Fin 16384) (v : Fin 4) (p : Fin 2) (i : Fin 1) (e : Fin 32) : (S2x16384x4x2x1x32.rowMajor (ValueIdx.ix6 b r v p i e)).val = ((((b.val * 16384 + r.val) * 4 + v.val) * 2 + p.val) * 1 + i.val) * 32 + e.val :=
  Shape.rowMajor_val_six _

theorem rm4_5 (b : Fin 2) (r : Fin 16384) (v : Fin 4) (p : Fin 2) (e : Fin 32) : (S2x16384x4x2x32.rowMajor (ix5 b r v p e)).val = (((b.val * 16384 + r.val) * 4 + v.val) * 2 + p.val) * 32 + e.val :=
  Shape.rowMajor_val_five _

theorem rm4_3 (b : Fin 2) (r : Fin 16384) (n : Fin 512) : (S2x16384x512.rowMajor (ix3 b r n)).val = (b.val * 16384 + r.val) * 512 + n.val :=
  Shape.rowMajor_val_three _

theorem rm2_6 (b : Fin 2) (r : Fin 16384) (v : Fin 2) (p : Fin 2) (i : Fin 2) (e : Fin 32) : (S2x16384x2x2x2x32.rowMajor (ValueIdx.ix6 b r v p i e)).val = ((((b.val * 16384 + r.val) * 2 + v.val) * 2 + p.val) * 2 + i.val) * 32 + e.val :=
  Shape.rowMajor_val_six _

theorem rm2_61 (b : Fin 2) (r : Fin 16384) (v : Fin 2) (p : Fin 2) (i : Fin 1) (e : Fin 32) : (S2x16384x2x2x1x32.rowMajor (ValueIdx.ix6 b r v p i e)).val = ((((b.val * 16384 + r.val) * 2 + v.val) * 2 + p.val) * 1 + i.val) * 32 + e.val :=
  Shape.rowMajor_val_six _

theorem rm2_5 (b : Fin 2) (r : Fin 16384) (v : Fin 2) (p : Fin 2) (e : Fin 32) : (S2x16384x2x2x32.rowMajor (ix5 b r v p e)).val = (((b.val * 16384 + r.val) * 2 + v.val) * 2 + p.val) * 32 + e.val :=
  Shape.rowMajor_val_five _

theorem rm2_3 (b : Fin 2) (r : Fin 16384) (n : Fin 256) : (S2x16384x256.rowMajor (ix3 b r n)).val = (b.val * 16384 + r.val) * 256 + n.val :=
  Shape.rowMajor_val_three _

theorem tab0_at (t : FVec Ideal S16384x128 .f32) (u : Fin 1) (r : Fin 16384) (v : Fin 1) (p : Fin 2) (e : Fin 32) :
    tab0 t (ix5 u r v p e) = t (ix2 r ⟨p * 64 + 0 + e, by omega⟩) := by
  refine (broadcastInDim_apply _ _ _ _ (ix4 r 0 p e) fun a => by
    match a with | 0 => rfl | 1 => rfl | 2 => rfl | 3 => rfl).trans ?_
  refine (shapeCast_apply _ _ _ (ix5 r 0 p 0 e) (((rm_t51 _ _ _ _ _).trans (by omega)).trans (rm_t4 _ _ _ _).symm)).trans ?_
  refine (extractStridedSlice_apply _ _ _ _ (ix5 r 0 p 0 e) fun a => by
    match a with | 0 => exact (Nat.zero_add _).symm | 1 => rfl | 2 => exact (Nat.zero_add _).symm | 3 => rfl | 4 => exact (Nat.zero_add _).symm).trans ?_
  exact shapeCast_apply _ _ _ _ (((rm_t2 _ _).trans (by dsimp; omega)).trans (rm_t5 _ _ _ _ _).symm)

theorem tab1_at (t : FVec Ideal S16384x128 .f32) (u : Fin 1) (r : Fin 16384) (v : Fin 1) (p : Fin 2) (e : Fin 32) :
    tab1 t (ix5 u r v p e) = t (ix2 r ⟨p * 64 + 32 + e, by omega⟩) := by
  refine (broadcastInDim_apply _ _ _ _ (ix4 r 0 p e) fun a => by
    match a with | 0 => rfl | 1 => rfl | 2 => rfl | 3 => rfl).trans ?_
  refine (shapeCast_apply _ _ _ (ix5 r 0 p 0 e) (((rm_t51 _ _ _ _ _).trans (by omega)).trans (rm_t4 _ _ _ _).symm)).trans ?_
  refine (extractStridedSlice_apply _ _ _ _ (ix5 r 0 p 1 e) fun a => by
    match a with | 0 => exact (Nat.zero_add _).symm | 1 => rfl | 2 => exact (Nat.zero_add _).symm | 3 => rfl | 4 => exact (Nat.zero_add _).symm).trans ?_
  exact shapeCast_apply _ _ _ _ (((rm_t2 _ _).trans (by dsimp; omega)).trans (rm_t5 _ _ _ _ _).symm)

theorem half0_4_at (a : FVec Ideal S2x16384x512 .f32) (b : Fin 2) (r : Fin 16384) (v : Fin 4) (p : Fin 2) (e : Fin 32) :
    half0_4 a (ix5 b r v p e) = a (ix3 b r ⟨v * 128 + p * 64 + 0 + e, by omega⟩) := by
  refine (shapeCast_apply _ _ _ (ValueIdx.ix6 b r v p 0 e) (((rm4_61 _ _ _ _ _ _).trans (by dsimp; omega)).trans (rm4_5 _ _ _ _ _).symm)).trans ?_
  refine (extractStridedSlice_apply _ _ _ _ (ValueIdx.ix6 b r v p 0 e) fun a => by
    match a with | 0 => exact (Nat.zero_add _).symm | 1 => exact (Nat.zero_add _).symm | 2 => exact (Nat.zero_add _).symm | 3 => exact (Nat.zero_add _).symm | 4 => rfl | 5 => exact (Nat.zero_add _).symm).trans ?_
  exact shapeCast_apply _ _ _ _ (((rm4_3 _ _ _).trans (by dsimp; omega)).trans (rm4_6 _ _ _ _ _ _).symm)

theorem half1_4_at (a : FVec Ideal S2x16384x512 .f32) (b : Fin 2) (r : Fin 16384) (v : Fin 4) (p : Fin 2) (e : Fin 32) :
    half1_4 a (ix5 b r v p e) = a (ix3 b r ⟨v * 128 + p * 64 + 32 + e, by omega⟩) := by
  refine (shapeCast_apply _ _ _ (ValueIdx.ix6 b r v p 0 e) (((rm4_61 _ _ _ _ _ _).trans (by dsimp; omega)).trans (rm4_5 _ _ _ _ _).symm)).trans ?_
  refine (extractStridedSlice_apply _ _ _ _ (ValueIdx.ix6 b r v p 1 e) fun a => by
    match a with | 0 => exact (Nat.zero_add _).symm | 1 => exact (Nat.zero_add _).symm | 2 => exact (Nat.zero_add _).symm | 3 => exact (Nat.zero_add _).symm | 4 => rfl | 5 => exact (Nat.zero_add _).symm).trans ?_
  exact shapeCast_apply _ _ _ _ (((rm4_3 _ _ _).trans (by dsimp; omega)).trans (rm4_6 _ _ _ _ _ _).symm)

theorem stack_4_low (y0 y1 : FVec Ideal S2x16384x4x2x32 .f32) (b : Fin 2) (r : Fin 16384) (n : Fin 512) (h : n.val % 64 < 32) :
    stack_4 y0 y1 (ix3 b r n) = y0 (ix5 b r ⟨n / 128, by omega⟩ ⟨n / 64 % 2, by omega⟩ ⟨n % 32, by omega⟩) := by
  refine (shapeCast_apply _ _ _ (ValueIdx.ix6 b r (⟨n / 128, by omega⟩ : Fin 4) (⟨n / 64 % 2, by omega⟩ : Fin 2) (0 : Fin 2) (⟨n % 32, by omega⟩ : Fin 32))
    (((rm4_6 _ _ _ _ _ _).trans (by dsimp; omega)).trans (rm4_3 _ _ _).symm)).trans ?_
  refine (concatenate_pair_apply_left (t := S2x16384x4x2x2x32) (s₁ := S2x16384x4x2x1x32) (s₂ := S2x16384x4x2x1x32) 4 _ _ _ _ rfl (ValueIdx.ix6 b r (⟨n / 128, by omega⟩ : Fin 4) (⟨n / 64 % 2, by omega⟩ : Fin 2) (0 : Fin 1) (⟨n % 32, by omega⟩ : Fin 32))
    fun a => by match a with | 0 => rfl | 1 => rfl | 2 => rfl | 3 => rfl | 4 => rfl | 5 => rfl).trans ?_
  exact broadcastInDim_apply _ _ _ _ _ fun a => by match a with | 0 => rfl | 1 => rfl | 2 => rfl | 3 => rfl | 4 => rfl

theorem stack_4_high (y0 y1 : FVec Ideal S2x16384x4x2x32 .f32) (b : Fin 2) (r : Fin 16384) (n : Fin 512) (h : ¬ n.val % 64 < 32) :
    stack_4 y0 y1 (ix3 b r n) = y1 (ix5 b r ⟨n / 128, by omega⟩ ⟨n / 64 % 2, by omega⟩ ⟨n % 32, by omega⟩) := by
  refine (shapeCast_apply _ _ _ (ValueIdx.ix6 b r (⟨n / 128, by omega⟩ : Fin 4) (⟨n / 64 % 2, by omega⟩ : Fin 2) (1 : Fin 2) (⟨n % 32, by omega⟩ : Fin 32))
    (((rm4_6 _ _ _ _ _ _).trans (by dsimp; omega)).trans (rm4_3 _ _ _).symm)).trans ?_
  refine (concatenate_pair_apply_right (t := S2x16384x4x2x2x32) (s₁ := S2x16384x4x2x1x32) (s₂ := S2x16384x4x2x1x32) 4 _ _ _ _ rfl rfl (ValueIdx.ix6 b r (⟨n / 128, by omega⟩ : Fin 4) (⟨n / 64 % 2, by omega⟩ : Fin 2) (0 : Fin 1) (⟨n % 32, by omega⟩ : Fin 32))
    (fun a ha => by match a with | 0 => rfl | 1 => rfl | 2 => rfl | 3 => rfl | 4 => exact absurd rfl ha | 5 => rfl) rfl).trans ?_
  exact broadcastInDim_apply _ _ _ _ _ fun a => by match a with | 0 => rfl | 1 => rfl | 2 => rfl | 3 => rfl | 4 => rfl

theorem spread_4_at (t : FVec Ideal S1x16384x1x2x32 .f32) (b : Fin 2) (r : Fin 16384) (v : Fin 4) (p : Fin 2) (e : Fin 32) :
    spread_4 t (ix5 b r v p e) = t (ix5 0 r 0 p e) :=
  broadcastInDim_apply _ _ _ _ _ fun a => by match a with | 0 => rfl | 1 => rfl | 2 => rfl | 3 => rfl | 4 => rfl

theorem rope_4_at (y : FVec Ideal S2x16384x6144 .f32) (cs sn : FVec Ideal S16384x128 .f32) (b : Fin 2) (r : Fin 16384) (n : Fin 512) :
    rope_4 (extractStridedSlice S2x16384x512 ![0, 0, 0] y slices_S2x16384x6144_S2x16384x512_0_0_0) cs sn (ix3 b r n)
      = Rope.rope (fun k => y (ix3 b r k)) (fun l => cs (ix2 r l)) (fun l => sn (ix2 r l)) ⟨0 + n, by omega⟩ := by
  have s : ∀ k : Fin 512, extractStridedSlice S2x16384x512 ![0, 0, 0] y slices_S2x16384x6144_S2x16384x512_0_0_0 (ix3 b r k) = y (ix3 b r ⟨0 + k, by omega⟩) := fun k =>
    extractStridedSlice_apply _ _ _ _ _ fun a => by match a with | 0 => exact (Nat.zero_add _).symm | 1 => exact (Nat.zero_add _).symm | 2 => rfl
  generalize extractStridedSlice S2x16384x512 ![0, 0, 0] y slices_S2x16384x6144_S2x16384x512_0_0_0 = a at s
  unfold rope_4
  by_cases h : n.val % 64 < 32
  · rw [stack_4_low _ _ b r n h]
    refine Eq.trans (b := half0_4 a (ix5 b r ⟨n / 128, by omega⟩ ⟨n / 64 % 2, by omega⟩ ⟨n % 32, by omega⟩) * spread_4 (tab0 cs) (ix5 b r ⟨n / 128, by omega⟩ ⟨n / 64 % 2, by omega⟩ ⟨n % 32, by omega⟩)
      + half1_4 a (ix5 b r ⟨n / 128, by omega⟩ ⟨n / 64 % 2, by omega⟩ ⟨n % 32, by omega⟩) * spread_4 (tab0 sn) (ix5 b r ⟨n / 128, by omega⟩ ⟨n / 64 % 2, by omega⟩ ⟨n % 32, by omega⟩)) rfl ?_
    rw [half0_4_at, half1_4_at, spread_4_at, spread_4_at, tab0_at, tab0_at, s, s]
    unfold Rope.rope Rope.part Rope.lane
    congr 2
    · exact congrArg (fun k => y (ix3 b r k)) (Fin.ext (by dsimp; omega))
    · exact congrArg (fun k => cs (ix2 r k)) (Fin.ext (by dsimp; omega))
    · exact congrArg (fun k => y (ix3 b r k)) (Fin.ext (by dsimp; split <;> omega))
    · exact congrArg (fun k => sn (ix2 r k)) (Fin.ext (by dsimp; omega))
  · rw [stack_4_high _ _ b r n h]
    refine Eq.trans (b := half1_4 a (ix5 b r ⟨n / 128, by omega⟩ ⟨n / 64 % 2, by omega⟩ ⟨n % 32, by omega⟩) * spread_4 (tab1 cs) (ix5 b r ⟨n / 128, by omega⟩ ⟨n / 64 % 2, by omega⟩ ⟨n % 32, by omega⟩)
      + half0_4 a (ix5 b r ⟨n / 128, by omega⟩ ⟨n / 64 % 2, by omega⟩ ⟨n % 32, by omega⟩) * spread_4 (tab1 sn) (ix5 b r ⟨n / 128, by omega⟩ ⟨n / 64 % 2, by omega⟩ ⟨n % 32, by omega⟩)) rfl ?_
    rw [half0_4_at, half1_4_at, spread_4_at, spread_4_at, tab1_at, tab1_at, s, s]
    unfold Rope.rope Rope.part Rope.lane
    congr 2
    · exact congrArg (fun k => y (ix3 b r k)) (Fin.ext (by dsimp; omega))
    · exact congrArg (fun k => cs (ix2 r k)) (Fin.ext (by dsimp; omega))
    · exact congrArg (fun k => y (ix3 b r k)) (Fin.ext (by dsimp; split <;> omega))
    · exact congrArg (fun k => sn (ix2 r k)) (Fin.ext (by dsimp; omega))

theorem half0_2_at (a : FVec Ideal S2x16384x256 .f32) (b : Fin 2) (r : Fin 16384) (v : Fin 2) (p : Fin 2) (e : Fin 32) :
    half0_2 a (ix5 b r v p e) = a (ix3 b r ⟨v * 128 + p * 64 + 0 + e, by omega⟩) := by
  refine (shapeCast_apply _ _ _ (ValueIdx.ix6 b r v p 0 e) (((rm2_61 _ _ _ _ _ _).trans (by dsimp; omega)).trans (rm2_5 _ _ _ _ _).symm)).trans ?_
  refine (extractStridedSlice_apply _ _ _ _ (ValueIdx.ix6 b r v p 0 e) fun a => by
    match a with | 0 => exact (Nat.zero_add _).symm | 1 => exact (Nat.zero_add _).symm | 2 => exact (Nat.zero_add _).symm | 3 => exact (Nat.zero_add _).symm | 4 => rfl | 5 => exact (Nat.zero_add _).symm).trans ?_
  exact shapeCast_apply _ _ _ _ (((rm2_3 _ _ _).trans (by dsimp; omega)).trans (rm2_6 _ _ _ _ _ _).symm)

theorem half1_2_at (a : FVec Ideal S2x16384x256 .f32) (b : Fin 2) (r : Fin 16384) (v : Fin 2) (p : Fin 2) (e : Fin 32) :
    half1_2 a (ix5 b r v p e) = a (ix3 b r ⟨v * 128 + p * 64 + 32 + e, by omega⟩) := by
  refine (shapeCast_apply _ _ _ (ValueIdx.ix6 b r v p 0 e) (((rm2_61 _ _ _ _ _ _).trans (by dsimp; omega)).trans (rm2_5 _ _ _ _ _).symm)).trans ?_
  refine (extractStridedSlice_apply _ _ _ _ (ValueIdx.ix6 b r v p 1 e) fun a => by
    match a with | 0 => exact (Nat.zero_add _).symm | 1 => exact (Nat.zero_add _).symm | 2 => exact (Nat.zero_add _).symm | 3 => exact (Nat.zero_add _).symm | 4 => rfl | 5 => exact (Nat.zero_add _).symm).trans ?_
  exact shapeCast_apply _ _ _ _ (((rm2_3 _ _ _).trans (by dsimp; omega)).trans (rm2_6 _ _ _ _ _ _).symm)

theorem stack_2_low (y0 y1 : FVec Ideal S2x16384x2x2x32 .f32) (b : Fin 2) (r : Fin 16384) (n : Fin 256) (h : n.val % 64 < 32) :
    stack_2 y0 y1 (ix3 b r n) = y0 (ix5 b r ⟨n / 128, by omega⟩ ⟨n / 64 % 2, by omega⟩ ⟨n % 32, by omega⟩) := by
  refine (shapeCast_apply _ _ _ (ValueIdx.ix6 b r (⟨n / 128, by omega⟩ : Fin 2) (⟨n / 64 % 2, by omega⟩ : Fin 2) (0 : Fin 2) (⟨n % 32, by omega⟩ : Fin 32))
    (((rm2_6 _ _ _ _ _ _).trans (by dsimp; omega)).trans (rm2_3 _ _ _).symm)).trans ?_
  refine (concatenate_pair_apply_left (t := S2x16384x2x2x2x32) (s₁ := S2x16384x2x2x1x32) (s₂ := S2x16384x2x2x1x32) 4 _ _ _ _ rfl (ValueIdx.ix6 b r (⟨n / 128, by omega⟩ : Fin 2) (⟨n / 64 % 2, by omega⟩ : Fin 2) (0 : Fin 1) (⟨n % 32, by omega⟩ : Fin 32))
    fun a => by match a with | 0 => rfl | 1 => rfl | 2 => rfl | 3 => rfl | 4 => rfl | 5 => rfl).trans ?_
  exact broadcastInDim_apply _ _ _ _ _ fun a => by match a with | 0 => rfl | 1 => rfl | 2 => rfl | 3 => rfl | 4 => rfl

theorem stack_2_high (y0 y1 : FVec Ideal S2x16384x2x2x32 .f32) (b : Fin 2) (r : Fin 16384) (n : Fin 256) (h : ¬ n.val % 64 < 32) :
    stack_2 y0 y1 (ix3 b r n) = y1 (ix5 b r ⟨n / 128, by omega⟩ ⟨n / 64 % 2, by omega⟩ ⟨n % 32, by omega⟩) := by
  refine (shapeCast_apply _ _ _ (ValueIdx.ix6 b r (⟨n / 128, by omega⟩ : Fin 2) (⟨n / 64 % 2, by omega⟩ : Fin 2) (1 : Fin 2) (⟨n % 32, by omega⟩ : Fin 32))
    (((rm2_6 _ _ _ _ _ _).trans (by dsimp; omega)).trans (rm2_3 _ _ _).symm)).trans ?_
  refine (concatenate_pair_apply_right (t := S2x16384x2x2x2x32) (s₁ := S2x16384x2x2x1x32) (s₂ := S2x16384x2x2x1x32) 4 _ _ _ _ rfl rfl (ValueIdx.ix6 b r (⟨n / 128, by omega⟩ : Fin 2) (⟨n / 64 % 2, by omega⟩ : Fin 2) (0 : Fin 1) (⟨n % 32, by omega⟩ : Fin 32))
    (fun a ha => by match a with | 0 => rfl | 1 => rfl | 2 => rfl | 3 => rfl | 4 => exact absurd rfl ha | 5 => rfl) rfl).trans ?_
  exact broadcastInDim_apply _ _ _ _ _ fun a => by match a with | 0 => rfl | 1 => rfl | 2 => rfl | 3 => rfl | 4 => rfl

theorem spread_2_at (t : FVec Ideal S1x16384x1x2x32 .f32) (b : Fin 2) (r : Fin 16384) (v : Fin 2) (p : Fin 2) (e : Fin 32) :
    spread_2 t (ix5 b r v p e) = t (ix5 0 r 0 p e) :=
  broadcastInDim_apply _ _ _ _ _ fun a => by match a with | 0 => rfl | 1 => rfl | 2 => rfl | 3 => rfl | 4 => rfl

theorem rope_2_at (y : FVec Ideal S2x16384x6144 .f32) (cs sn : FVec Ideal S16384x128 .f32) (b : Fin 2) (r : Fin 16384) (n : Fin 256) :
    rope_2 (extractStridedSlice S2x16384x256 ![0, 0, 512] y slices_S2x16384x6144_S2x16384x256_0_0_512) cs sn (ix3 b r n)
      = Rope.rope (fun k => y (ix3 b r k)) (fun l => cs (ix2 r l)) (fun l => sn (ix2 r l)) ⟨512 + n, by omega⟩ := by
  have s : ∀ k : Fin 256, extractStridedSlice S2x16384x256 ![0, 0, 512] y slices_S2x16384x6144_S2x16384x256_0_0_512 (ix3 b r k) = y (ix3 b r ⟨512 + k, by omega⟩) := fun k =>
    extractStridedSlice_apply _ _ _ _ _ fun a => by match a with | 0 => exact (Nat.zero_add _).symm | 1 => exact (Nat.zero_add _).symm | 2 => rfl
  generalize extractStridedSlice S2x16384x256 ![0, 0, 512] y slices_S2x16384x6144_S2x16384x256_0_0_512 = a at s
  unfold rope_2
  by_cases h : n.val % 64 < 32
  · rw [stack_2_low _ _ b r n h]
    refine Eq.trans (b := half0_2 a (ix5 b r ⟨n / 128, by omega⟩ ⟨n / 64 % 2, by omega⟩ ⟨n % 32, by omega⟩) * spread_2 (tab0 cs) (ix5 b r ⟨n / 128, by omega⟩ ⟨n / 64 % 2, by omega⟩ ⟨n % 32, by omega⟩)
      + half1_2 a (ix5 b r ⟨n / 128, by omega⟩ ⟨n / 64 % 2, by omega⟩ ⟨n % 32, by omega⟩) * spread_2 (tab0 sn) (ix5 b r ⟨n / 128, by omega⟩ ⟨n / 64 % 2, by omega⟩ ⟨n % 32, by omega⟩)) rfl ?_
    rw [half0_2_at, half1_2_at, spread_2_at, spread_2_at, tab0_at, tab0_at, s, s]
    unfold Rope.rope Rope.part Rope.lane
    congr 2
    · exact congrArg (fun k => y (ix3 b r k)) (Fin.ext (by dsimp; omega))
    · exact congrArg (fun k => cs (ix2 r k)) (Fin.ext (by dsimp; omega))
    · exact congrArg (fun k => y (ix3 b r k)) (Fin.ext (by dsimp; split <;> omega))
    · exact congrArg (fun k => sn (ix2 r k)) (Fin.ext (by dsimp; omega))
  · rw [stack_2_high _ _ b r n h]
    refine Eq.trans (b := half1_2 a (ix5 b r ⟨n / 128, by omega⟩ ⟨n / 64 % 2, by omega⟩ ⟨n % 32, by omega⟩) * spread_2 (tab1 cs) (ix5 b r ⟨n / 128, by omega⟩ ⟨n / 64 % 2, by omega⟩ ⟨n % 32, by omega⟩)
      + half0_2 a (ix5 b r ⟨n / 128, by omega⟩ ⟨n / 64 % 2, by omega⟩ ⟨n % 32, by omega⟩) * spread_2 (tab1 sn) (ix5 b r ⟨n / 128, by omega⟩ ⟨n / 64 % 2, by omega⟩ ⟨n % 32, by omega⟩)) rfl ?_
    rw [half0_2_at, half1_2_at, spread_2_at, spread_2_at, tab1_at, tab1_at, s, s]
    unfold Rope.rope Rope.part Rope.lane
    congr 2
    · exact congrArg (fun k => y (ix3 b r k)) (Fin.ext (by dsimp; omega))
    · exact congrArg (fun k => cs (ix2 r k)) (Fin.ext (by dsimp; omega))
    · exact congrArg (fun k => y (ix3 b r k)) (Fin.ext (by dsimp; split <;> omega))
    · exact congrArg (fun k => sn (ix2 r k)) (Fin.ext (by dsimp; omega))

theorem q_at (y : FVec Ideal S2x16384x6144 .f32) (cs sn : FVec Ideal S16384x128 .f32) (b : Fin 2) (r : Fin 16384) (n : Fin 512) : q y cs sn (ix3 b r n)
      = Rope.rope (fun k => y (ix3 b r k)) (fun l => cs (ix2 r l)) (fun l => sn (ix2 r l)) ⟨n, by omega⟩ * Ideal.ofBits .f32 0x3E000000#32 := by
  have t : ∀ a : FVec Ideal S2x16384x512 .f32, truncf .bf16 (mulf a (broadcastInDim S2x16384x512 ![] bcast_S_S2x16384x512 (constant S_ .f32 0x3E000000#32))) bitsLt_bf16_f32 (ix3 b r n)
      = a (ix3 b r n) * Ideal.ofBits .f32 0x3E000000#32 := fun a => rfl
  have e : (⟨0 + n, by omega⟩ : Fin 6144) = ⟨n, by omega⟩ := Fin.ext (Nat.zero_add _)
  unfold q
  rw [t, rope_4_at, e]

theorem kk_at (y : FVec Ideal S2x16384x6144 .f32) (cs sn : FVec Ideal S16384x128 .f32) (b : Fin 2) (r : Fin 16384) (n : Fin 256) : kk y cs sn (ix3 b r n)
      = Rope.rope (fun k => y (ix3 b r k)) (fun l => cs (ix2 r l)) (fun l => sn (ix2 r l)) ⟨512 + n, by omega⟩ := by
  have t : ∀ a : FVec Ideal S2x16384x256 .f32, truncf .bf16 a bitsLt_bf16_f32 (ix3 b r n) = a (ix3 b r n) := fun a => rfl
  unfold kk
  rw [t, rope_2_at]

theorem vv_at (y : FVec Ideal S2x16384x6144 .f32) (b : Fin 2) (r : Fin 16384) (n : Fin 256) : vv y (ix3 b r n) = y (ix3 b r ⟨768 + n, by omega⟩) := by
  pointwise [vv]

theorem f_at (y : FVec Ideal S2x16384x6144 .f32) (b : Fin 2) (r : Fin 16384) (n : Fin 512) : f y (ix3 b r n) = y (ix3 b r ⟨1024 + n, by omega⟩) := by
  pointwise [f]

theorem u_at (y : FVec Ideal S2x16384x6144 .f32) (b : Fin 2) (r : Fin 16384) (n : Fin 512) :
    u y (ix3 b r n) = y (ix3 b r ⟨2560 + n, by omega⟩) * y (ix3 b r ⟨1536 + n, by omega⟩) := by
  pointwise [u]

theorem cb_at (y : FVec Ideal S2x16384x6144 .f32) (b : Fin 2) (r : Fin 16384) (n : Fin 512) : cb y (ix3 b r n) = y (ix3 b r ⟨2048 + n, by omega⟩) := by
  pointwise [cb]

theorem gates_at (y : FVec Ideal S2x16384x6144 .f32) (b : Fin 2) (r : Fin 16384) (n : Fin 3072) :
    gates y (ix3 b r n) = Ideal.logistic (y (ix3 b r ⟨3072 + n, by omega⟩)) := by
  pointwise [gates]
  rfl

end Cert.ProjectReferenceIdeal.Proj

end
-- ==== Proof.ProjectValue.lean ====
/- The input projection's call: the result arrays. -/
module

public import proofs.«01_k».proof.Proof.ProjectPay
public import proofs.«01_k».proof.Proof.ProjectRefAt
public import Idealize.ShloMosaic.Lib.Pipeline.ValueKit

@[expose] public section

set_option maxRecDepth 16384

noncomputable section

namespace Cert.ProjectIdeal.Proj

open Cert.ProjectIdeal Cert.ProjectIdeal.Gen Idealize.ShloMosaic Idealize.ShloMosaic.TcCoe Idealize.SL.Sem Idealize.ShloMosaic.Pipeline

/-- The windows' block indices. -/
theorem idx_val : ∀ t : Fin cfg0.N, win0_0.index t = ![(grid0.coords t 0).val, (grid0.coords t 1).val, 0] ∧ win0_1.index t = ![(grid0.coords t 0).val, 0, 0]
    ∧ win0_2.index t = ![(grid0.coords t 0).val, 0, 0] ∧ win0_3.index t = ![0, 0] ∧ win0_4.index t = ![0, 0] ∧ win0_5.index t = ![(grid0.coords t 1).val, 0]
    ∧ win0_6.index t = ![(grid0.coords t 1).val, 0]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0] :=
  (by decide +kernel : ∀ t : Fin grid0.N, _)

variable (m : (ℓ : Loc nD τ sig) → Buf (Elt Ideal) ℓ)

theorem blk0_at (c : Dev nD) (t : Fin cfg0.N) (r : Fin 512) (l : Fin 1024) (j : S2x16384x1024.Idx) (h0 : (j 0 : ℕ) = grid0.coords t 0)
    (h1 : (j 1 : ℕ) = (grid0.coords t 1 : ℕ) * 512 + r) (h2 : (j 2 : ℕ) = l) : iblk m c 0 t (ix3 0 r l) = m ((c.tc : Thread nD τ).loc main_arg0) j := by
  blk_point [iblk, V, idx_val t]

theorem blk1_at (c : Dev nD) (t : Fin cfg0.N) (l : Fin 1024) (j : S2x1x1024.Idx) (h0 : (j 0 : ℕ) = grid0.coords t 0)
    (h1 : (j 1 : ℕ) = 0) (h2 : (j 2 : ℕ) = l) : iblk m c 1 t (ix3 0 0 l) = m ((c.tc : Thread nD τ).loc main_arg1) j := by
  blk_point [iblk, V, idx_val t]

theorem blk2_at (c : Dev nD) (t : Fin cfg0.N) (l : Fin 1024) (j : S2x1x1024.Idx) (h0 : (j 0 : ℕ) = grid0.coords t 0)
    (h1 : (j 1 : ℕ) = 0) (h2 : (j 2 : ℕ) = l) : iblk m c 2 t (ix3 0 0 l) = m ((c.tc : Thread nD τ).loc main_arg2) j := by
  blk_point [iblk, V, idx_val t]

theorem blk3_at (c : Dev nD) (t : Fin cfg0.N) (r : Fin 1) (l : Fin 1024) (j : S1x1024.Idx) (h0 : (j 0 : ℕ) = r) (h1 : (j 1 : ℕ) = l) :
    iblk m c 3 t (ix2 r l) = m ((c.tc : Thread nD τ).loc main_arg3) j := by
  blk_point [iblk, V, idx_val t]

theorem blk4_at (c : Dev nD) (t : Fin cfg0.N) (r : Fin 1024) (l : Fin 6144) (j : S1024x6144.Idx) (h0 : (j 0 : ℕ) = r) (h1 : (j 1 : ℕ) = l) :
    iblk m c 4 t (ix2 r l) = m ((c.tc : Thread nD τ).loc main_arg4) j := by
  blk_point [iblk, V, idx_val t]

theorem blk5_at (c : Dev nD) (t : Fin cfg0.N) (r : Fin 512) (l : Fin 128) (j : S16384x128.Idx) (h0 : (j 0 : ℕ) = (grid0.coords t 1 : ℕ) * 512 + r) (h1 : (j 1 : ℕ) = l) :
    iblk m c 5 t (ix2 r l) = m ((c.tc : Thread nD τ).loc main_arg5) j := by
  blk_point [iblk, V, idx_val t]

theorem blk6_at (c : Dev nD) (t : Fin cfg0.N) (r : Fin 512) (l : Fin 128) (j : S16384x128.Idx) (h0 : (j 0 : ℕ) = (grid0.coords t 1 : ℕ) * 512 + r) (h1 : (j 1 : ℕ) = l) :
    iblk m c 6 t (ix2 r l) = m ((c.tc : Thread nD τ).loc main_arg6) j := by
  blk_point [iblk, V, idx_val t]

/-- The reference's product. -/
abbrev zref (c : Dev nD) := ProjectReferenceIdeal.Proj.z (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- A block's product is the reference's there. -/
theorem zat_ref (c : Dev nD) (t : Fin cfg0.N) (r : Fin 512) (bt : (grid0.coords t 0 : ℕ) < 2) (hr : (grid0.coords t 1 : ℕ) * 512 + (r : ℕ) < 16384) :
    zat (iblk m c 0 t) (iblk m c 1 t) (iblk m c 2 t) (iblk m c 3 t) (iblk m c 4 t) r = fun n => zref m c (ix3 ⟨grid0.coords t 0, bt⟩ ⟨(grid0.coords t 1 : ℕ) * 512 + (r : ℕ), hr⟩ n) := by
  have e0 : (fun k => iblk m c 0 t (ix3 0 r k)) = fun k => (m ((c.tc : Thread nD τ).loc main_arg0)) (ix3 ⟨grid0.coords t 0, bt⟩ ⟨(grid0.coords t 1 : ℕ) * 512 + (r : ℕ), hr⟩ k) := funext fun k => blk0_at m c t r k _ rfl rfl rfl
  have e1 : (fun k => iblk m c 1 t (ix3 0 0 k)) = fun k => (m ((c.tc : Thread nD τ).loc main_arg1)) (ix3 ⟨grid0.coords t 0, bt⟩ 0 k) := funext fun k => blk1_at m c t k _ rfl rfl rfl
  have e2 : (fun k => iblk m c 2 t (ix3 0 0 k)) = fun k => (m ((c.tc : Thread nD τ).loc main_arg2)) (ix3 ⟨grid0.coords t 0, bt⟩ 0 k) := funext fun k => blk2_at m c t k _ rfl rfl rfl
  have e3 : (fun k => iblk m c 3 t (ix2 0 k)) = fun k => (m ((c.tc : Thread nD τ).loc main_arg3)) (ix2 0 k) := funext fun k => blk3_at m c t 0 k _ rfl rfl
  have e4 : (fun k n => iblk m c 4 t (ix2 k n)) = fun k n => (m ((c.tc : Thread nD τ).loc main_arg4)) (ix2 k n) := funext fun k => funext fun n => blk4_at m c t k n _ rfl rfl
  funext n
  refine Eq.trans ?_ (ProjectReferenceIdeal.Proj.z_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨grid0.coords t 0, bt⟩ ⟨(grid0.coords t 1 : ℕ) * 512 + (r : ℕ), hr⟩ n).symm
  unfold zat
  rw [e0, e1, e2, e3, e4]

theorem cos_ref (c : Dev nD) (t : Fin cfg0.N) (r : Fin 512) (hr : (grid0.coords t 1 : ℕ) * 512 + (r : ℕ) < 16384) :
    (fun l => iblk m c 5 t (ix2 r l)) = fun l => (m ((c.tc : Thread nD τ).loc main_arg5)) (ix2 ⟨(grid0.coords t 1 : ℕ) * 512 + (r : ℕ), hr⟩ l) := funext fun l => blk5_at m c t r l _ rfl rfl

theorem sin_ref (c : Dev nD) (t : Fin cfg0.N) (r : Fin 512) (hr : (grid0.coords t 1 : ℕ) * 512 + (r : ℕ) < 16384) :
    (fun l => iblk m c 6 t (ix2 r l)) = fun l => (m ((c.tc : Thread nD τ).loc main_arg6)) (ix2 ⟨(grid0.coords t 1 : ℕ) * 512 + (r : ℕ), hr⟩ l) := funext fun l => blk6_at m c t r l _ rfl rfl

theorem block7_eq (c : Dev nD) (t : Fin cfg0.N) (z : Fin 1) (r : Fin 512) (n : Fin 512) (bt : (grid0.coords t 0 : ℕ) < 2) (hr : (grid0.coords t 1 : ℕ) * 512 + (r : ℕ) < 16384) :
    out0_7 (iblk m c 0 t) (iblk m c 1 t) (iblk m c 2 t) (iblk m c 3 t) (iblk m c 4 t) (iblk m c 5 t) (iblk m c 6 t) (ix3 z r n) = ProjectReferenceIdeal.Proj.q (zref m c) (m ((c.tc : Thread nD τ).loc main_arg5)) (m ((c.tc : Thread nD τ).loc main_arg6)) (ix3 ⟨grid0.coords t 0, bt⟩ ⟨(grid0.coords t 1 : ℕ) * 512 + (r : ℕ), hr⟩ n) := by
  refine Eq.trans (b := Rope.rope (zat (iblk m c 0 t) (iblk m c 1 t) (iblk m c 2 t) (iblk m c 3 t) (iblk m c 4 t) r) (fun l => iblk m c 5 t (ix2 r l)) (fun l => iblk m c 6 t (ix2 r l)) ⟨n, by omega⟩ * Ideal.ofBits .f32 0x3E000000#32) (out7_at (iblk m c 0 t) (iblk m c 1 t) (iblk m c 2 t) (iblk m c 3 t) (iblk m c 4 t) (iblk m c 5 t) (iblk m c 6 t) (ix3 z r n)) ?_
  refine Eq.trans ?_ (ProjectReferenceIdeal.Proj.q_at (zref m c) (m ((c.tc : Thread nD τ).loc main_arg5)) (m ((c.tc : Thread nD τ).loc main_arg6)) ⟨grid0.coords t 0, bt⟩ ⟨(grid0.coords t 1 : ℕ) * 512 + (r : ℕ), hr⟩ n).symm
  rw [zat_ref m c t r bt hr, cos_ref m c t r hr, sin_ref m c t r hr]

theorem block8_eq (c : Dev nD) (t : Fin cfg0.N) (z : Fin 1) (r : Fin 512) (n : Fin 256) (bt : (grid0.coords t 0 : ℕ) < 2) (hr : (grid0.coords t 1 : ℕ) * 512 + (r : ℕ) < 16384) :
    out0_8 (iblk m c 0 t) (iblk m c 1 t) (iblk m c 2 t) (iblk m c 3 t) (iblk m c 4 t) (iblk m c 5 t) (iblk m c 6 t) (ix3 z r n) = ProjectReferenceIdeal.Proj.kk (zref m c) (m ((c.tc : Thread nD τ).loc main_arg5)) (m ((c.tc : Thread nD τ).loc main_arg6)) (ix3 ⟨grid0.coords t 0, bt⟩ ⟨(grid0.coords t 1 : ℕ) * 512 + (r : ℕ), hr⟩ n) := by
  refine Eq.trans (b := Rope.rope (zat (iblk m c 0 t) (iblk m c 1 t) (iblk m c 2 t) (iblk m c 3 t) (iblk m c 4 t) r) (fun l => iblk m c 5 t (ix2 r l)) (fun l => iblk m c 6 t (ix2 r l)) ⟨512 + n, by omega⟩) (out8_at (iblk m c 0 t) (iblk m c 1 t) (iblk m c 2 t) (iblk m c 3 t) (iblk m c 4 t) (iblk m c 5 t) (iblk m c 6 t) (ix3 z r n)) ?_
  refine Eq.trans ?_ (ProjectReferenceIdeal.Proj.kk_at (zref m c) (m ((c.tc : Thread nD τ).loc main_arg5)) (m ((c.tc : Thread nD τ).loc main_arg6)) ⟨grid0.coords t 0, bt⟩ ⟨(grid0.coords t 1 : ℕ) * 512 + (r : ℕ), hr⟩ n).symm
  rw [zat_ref m c t r bt hr, cos_ref m c t r hr, sin_ref m c t r hr]

theorem block9_eq (c : Dev nD) (t : Fin cfg0.N) (z : Fin 1) (r : Fin 512) (n : Fin 256) (bt : (grid0.coords t 0 : ℕ) < 2) (hr : (grid0.coords t 1 : ℕ) * 512 + (r : ℕ) < 16384) :
    out0_9 (iblk m c 0 t) (iblk m c 1 t) (iblk m c 2 t) (iblk m c 3 t) (iblk m c 4 t) (iblk m c 5 t) (iblk m c 6 t) (ix3 z r n) = ProjectReferenceIdeal.Proj.vv (zref m c) (ix3 ⟨grid0.coords t 0, bt⟩ ⟨(grid0.coords t 1 : ℕ) * 512 + (r : ℕ), hr⟩ n) := by
  refine Eq.trans (b := zat (iblk m c 0 t) (iblk m c 1 t) (iblk m c 2 t) (iblk m c 3 t) (iblk m c 4 t) r ⟨768 + n, by omega⟩) (out9_at (iblk m c 0 t) (iblk m c 1 t) (iblk m c 2 t) (iblk m c 3 t) (iblk m c 4 t) (iblk m c 5 t) (iblk m c 6 t) z r n) ?_
  refine Eq.trans ?_ (ProjectReferenceIdeal.Proj.vv_at (zref m c) ⟨grid0.coords t 0, bt⟩ ⟨(grid0.coords t 1 : ℕ) * 512 + (r : ℕ), hr⟩ n).symm
  rw [zat_ref m c t r bt hr]

theorem block10_eq (c : Dev nD) (t : Fin cfg0.N) (z : Fin 1) (r : Fin 512) (n : Fin 512) (bt : (grid0.coords t 0 : ℕ) < 2) (hr : (grid0.coords t 1 : ℕ) * 512 + (r : ℕ) < 16384) :
    out0_10 (iblk m c 0 t) (iblk m c 1 t) (iblk m c 2 t) (iblk m c 3 t) (iblk m c 4 t) (iblk m c 5 t) (iblk m c 6 t) (ix3 z r n) = ProjectReferenceIdeal.Proj.f (zref m c) (ix3 ⟨grid0.coords t 0, bt⟩ ⟨(grid0.coords t 1 : ℕ) * 512 + (r : ℕ), hr⟩ n) := by
  refine Eq.trans (b := zat (iblk m c 0 t) (iblk m c 1 t) (iblk m c 2 t) (iblk m c 3 t) (iblk m c 4 t) r ⟨1024 + n, by omega⟩) (out10_at (iblk m c 0 t) (iblk m c 1 t) (iblk m c 2 t) (iblk m c 3 t) (iblk m c 4 t) (iblk m c 5 t) (iblk m c 6 t) z r n) ?_
  refine Eq.trans ?_ (ProjectReferenceIdeal.Proj.f_at (zref m c) ⟨grid0.coords t 0, bt⟩ ⟨(grid0.coords t 1 : ℕ) * 512 + (r : ℕ), hr⟩ n).symm
  rw [zat_ref m c t r bt hr]

theorem block11_eq (c : Dev nD) (t : Fin cfg0.N) (z : Fin 1) (r : Fin 512) (n : Fin 512) (bt : (grid0.coords t 0 : ℕ) < 2) (hr : (grid0.coords t 1 : ℕ) * 512 + (r : ℕ) < 16384) :
    out0_11 (iblk m c 0 t) (iblk m c 1 t) (iblk m c 2 t) (iblk m c 3 t) (iblk m c 4 t) (iblk m c 5 t) (iblk m c 6 t) (ix3 z r n) = ProjectReferenceIdeal.Proj.u (zref m c) (ix3 ⟨grid0.coords t 0, bt⟩ ⟨(grid0.coords t 1 : ℕ) * 512 + (r : ℕ), hr⟩ n) := by
  refine Eq.trans (b := zat (iblk m c 0 t) (iblk m c 1 t) (iblk m c 2 t) (iblk m c 3 t) (iblk m c 4 t) r ⟨2560 + n, by omega⟩ * zat (iblk m c 0 t) (iblk m c 1 t) (iblk m c 2 t) (iblk m c 3 t) (iblk m c 4 t) r ⟨1536 + n, by omega⟩) (out11_at (iblk m c 0 t) (iblk m c 1 t) (iblk m c 2 t) (iblk m c 3 t) (iblk m c 4 t) (iblk m c 5 t) (iblk m c 6 t) z r n) ?_
  refine Eq.trans ?_ (ProjectReferenceIdeal.Proj.u_at (zref m c) ⟨grid0.coords t 0, bt⟩ ⟨(grid0.coords t 1 : ℕ) * 512 + (r : ℕ), hr⟩ n).symm
  rw [zat_ref m c t r bt hr]

theorem block12_eq (c : Dev nD) (t : Fin cfg0.N) (z : Fin 1) (r : Fin 512) (n : Fin 512) (bt : (grid0.coords t 0 : ℕ) < 2) (hr : (grid0.coords t 1 : ℕ) * 512 + (r : ℕ) < 16384) :
    out0_12 (iblk m c 0 t) (iblk m c 1 t) (iblk m c 2 t) (iblk m c 3 t) (iblk m c 4 t) (iblk m c 5 t) (iblk m c 6 t) (ix3 z r n) = ProjectReferenceIdeal.Proj.cb (zref m c) (ix3 ⟨grid0.coords t 0, bt⟩ ⟨(grid0.coords t 1 : ℕ) * 512 + (r : ℕ), hr⟩ n) := by
  refine Eq.trans (b := zat (iblk m c 0 t) (iblk m c 1 t) (iblk m c 2 t) (iblk m c 3 t) (iblk m c 4 t) r ⟨2048 + n, by omega⟩) (out12_at (iblk m c 0 t) (iblk m c 1 t) (iblk m c 2 t) (iblk m c 3 t) (iblk m c 4 t) (iblk m c 5 t) (iblk m c 6 t) z r n) ?_
  refine Eq.trans ?_ (ProjectReferenceIdeal.Proj.cb_at (zref m c) ⟨grid0.coords t 0, bt⟩ ⟨(grid0.coords t 1 : ℕ) * 512 + (r : ℕ), hr⟩ n).symm
  rw [zat_ref m c t r bt hr]

theorem block13_eq (c : Dev nD) (t : Fin cfg0.N) (z : Fin 1) (r : Fin 512) (n : Fin 3072) (bt : (grid0.coords t 0 : ℕ) < 2) (hr : (grid0.coords t 1 : ℕ) * 512 + (r : ℕ) < 16384) :
    out0_13 (iblk m c 0 t) (iblk m c 1 t) (iblk m c 2 t) (iblk m c 3 t) (iblk m c 4 t) (iblk m c 5 t) (iblk m c 6 t) (ix3 z r n) = ProjectReferenceIdeal.Proj.gates (zref m c) (ix3 ⟨grid0.coords t 0, bt⟩ ⟨(grid0.coords t 1 : ℕ) * 512 + (r : ℕ), hr⟩ n) := by
  refine Eq.trans (b := Ideal.logistic (zat (iblk m c 0 t) (iblk m c 1 t) (iblk m c 2 t) (iblk m c 3 t) (iblk m c 4 t) r ⟨3072 + n, by omega⟩)) (out13_at (iblk m c 0 t) (iblk m c 1 t) (iblk m c 2 t) (iblk m c 3 t) (iblk m c 4 t) (iblk m c 5 t) (iblk m c 6 t) (ix3 z r n)) ?_
  refine Eq.trans ?_ (ProjectReferenceIdeal.Proj.gates_at (zref m c) ⟨grid0.coords t 0, bt⟩ ⟨(grid0.coords t 1 : ℕ) * 512 + (r : ℕ), hr⟩ n).symm
  rw [zat_ref m c t r bt hr]

theorem final7 (c : Dev nD) : (dats m 0 c).arrAt 7 cfg0.N = ProjectReferenceIdeal.Proj.q (zref m c) (m ((c.tc : Thread nD τ).loc main_arg5)) (m ((c.tc : Thread nD τ).loc main_arg6)) := by
  refine (dats m 0 c).arrAt_eq_of_covers 7 _ (by decide +kernel) fun t hf y => ?_
  blk_simp
  rw [after0_7]
  have b0 : (y 0 : ℕ) < 1 := (y 0).isLt
  have b1 : (y 1 : ℕ) < 512 := (y 1).isLt
  have b2 : (y 2 : ℕ) < 512 := (y 2).isLt
  have bt : (grid0.coords t 0 : ℕ) < 2 := (grid0.coords t 0).isLt
  have hβ : (grid0.coords t 1 : ℕ) < 32 := (grid0.coords t 1).isLt
  have ey : y = ix3 (y 0) (y 1) (y 2) := by funext a; match a with | 0 => rfl | 1 => rfl | 2 => rfl
  rw [ey]
  refine (block7_eq m c t (y 0) (y 1) (y 2) bt (by omega)).trans (congrArg _ ?_)
  funext a
  match a with
  | 0 => exact Fin.ext (by blk_simp [idx_val t]; try omega)
  | 1 => exact Fin.ext (by blk_simp [idx_val t]; try omega)
  | 2 => exact Fin.ext (by blk_simp [idx_val t]; try omega)

theorem final8 (c : Dev nD) : (dats m 0 c).arrAt 8 cfg0.N = ProjectReferenceIdeal.Proj.kk (zref m c) (m ((c.tc : Thread nD τ).loc main_arg5)) (m ((c.tc : Thread nD τ).loc main_arg6)) := by
  refine (dats m 0 c).arrAt_eq_of_covers 8 _ (by decide +kernel) fun t hf y => ?_
  blk_simp
  rw [after0_8]
  have b0 : (y 0 : ℕ) < 1 := (y 0).isLt
  have b1 : (y 1 : ℕ) < 512 := (y 1).isLt
  have b2 : (y 2 : ℕ) < 256 := (y 2).isLt
  have bt : (grid0.coords t 0 : ℕ) < 2 := (grid0.coords t 0).isLt
  have hβ : (grid0.coords t 1 : ℕ) < 32 := (grid0.coords t 1).isLt
  have ey : y = ix3 (y 0) (y 1) (y 2) := by funext a; match a with | 0 => rfl | 1 => rfl | 2 => rfl
  rw [ey]
  refine (block8_eq m c t (y 0) (y 1) (y 2) bt (by omega)).trans (congrArg _ ?_)
  funext a
  match a with
  | 0 => exact Fin.ext (by blk_simp [idx_val t]; try omega)
  | 1 => exact Fin.ext (by blk_simp [idx_val t]; try omega)
  | 2 => exact Fin.ext (by blk_simp [idx_val t]; try omega)

theorem final9 (c : Dev nD) : (dats m 0 c).arrAt 9 cfg0.N = ProjectReferenceIdeal.Proj.vv (zref m c) := by
  refine (dats m 0 c).arrAt_eq_of_covers 9 _ (by decide +kernel) fun t hf y => ?_
  blk_simp
  rw [after0_9]
  have b0 : (y 0 : ℕ) < 1 := (y 0).isLt
  have b1 : (y 1 : ℕ) < 512 := (y 1).isLt
  have b2 : (y 2 : ℕ) < 256 := (y 2).isLt
  have bt : (grid0.coords t 0 : ℕ) < 2 := (grid0.coords t 0).isLt
  have hβ : (grid0.coords t 1 : ℕ) < 32 := (grid0.coords t 1).isLt
  have ey : y = ix3 (y 0) (y 1) (y 2) := by funext a; match a with | 0 => rfl | 1 => rfl | 2 => rfl
  rw [ey]
  refine (block9_eq m c t (y 0) (y 1) (y 2) bt (by omega)).trans (congrArg _ ?_)
  funext a
  match a with
  | 0 => exact Fin.ext (by blk_simp [idx_val t]; try omega)
  | 1 => exact Fin.ext (by blk_simp [idx_val t]; try omega)
  | 2 => exact Fin.ext (by blk_simp [idx_val t]; try omega)

theorem final10 (c : Dev nD) : (dats m 0 c).arrAt 10 cfg0.N = ProjectReferenceIdeal.Proj.f (zref m c) := by
  refine (dats m 0 c).arrAt_eq_of_covers 10 _ (by decide +kernel) fun t hf y => ?_
  blk_simp
  rw [after0_10]
  have b0 : (y 0 : ℕ) < 1 := (y 0).isLt
  have b1 : (y 1 : ℕ) < 512 := (y 1).isLt
  have b2 : (y 2 : ℕ) < 512 := (y 2).isLt
  have bt : (grid0.coords t 0 : ℕ) < 2 := (grid0.coords t 0).isLt
  have hβ : (grid0.coords t 1 : ℕ) < 32 := (grid0.coords t 1).isLt
  have ey : y = ix3 (y 0) (y 1) (y 2) := by funext a; match a with | 0 => rfl | 1 => rfl | 2 => rfl
  rw [ey]
  refine (block10_eq m c t (y 0) (y 1) (y 2) bt (by omega)).trans (congrArg _ ?_)
  funext a
  match a with
  | 0 => exact Fin.ext (by blk_simp [idx_val t]; try omega)
  | 1 => exact Fin.ext (by blk_simp [idx_val t]; try omega)
  | 2 => exact Fin.ext (by blk_simp [idx_val t]; try omega)

theorem final11 (c : Dev nD) : (dats m 0 c).arrAt 11 cfg0.N = ProjectReferenceIdeal.Proj.u (zref m c) := by
  refine (dats m 0 c).arrAt_eq_of_covers 11 _ (by decide +kernel) fun t hf y => ?_
  blk_simp
  rw [after0_11]
  have b0 : (y 0 : ℕ) < 1 := (y 0).isLt
  have b1 : (y 1 : ℕ) < 512 := (y 1).isLt
  have b2 : (y 2 : ℕ) < 512 := (y 2).isLt
  have bt : (grid0.coords t 0 : ℕ) < 2 := (grid0.coords t 0).isLt
  have hβ : (grid0.coords t 1 : ℕ) < 32 := (grid0.coords t 1).isLt
  have ey : y = ix3 (y 0) (y 1) (y 2) := by funext a; match a with | 0 => rfl | 1 => rfl | 2 => rfl
  rw [ey]
  refine (block11_eq m c t (y 0) (y 1) (y 2) bt (by omega)).trans (congrArg _ ?_)
  funext a
  match a with
  | 0 => exact Fin.ext (by blk_simp [idx_val t]; try omega)
  | 1 => exact Fin.ext (by blk_simp [idx_val t]; try omega)
  | 2 => exact Fin.ext (by blk_simp [idx_val t]; try omega)

theorem final12 (c : Dev nD) : (dats m 0 c).arrAt 12 cfg0.N = ProjectReferenceIdeal.Proj.cb (zref m c) := by
  refine (dats m 0 c).arrAt_eq_of_covers 12 _ (by decide +kernel) fun t hf y => ?_
  blk_simp
  rw [after0_12]
  have b0 : (y 0 : ℕ) < 1 := (y 0).isLt
  have b1 : (y 1 : ℕ) < 512 := (y 1).isLt
  have b2 : (y 2 : ℕ) < 512 := (y 2).isLt
  have bt : (grid0.coords t 0 : ℕ) < 2 := (grid0.coords t 0).isLt
  have hβ : (grid0.coords t 1 : ℕ) < 32 := (grid0.coords t 1).isLt
  have ey : y = ix3 (y 0) (y 1) (y 2) := by funext a; match a with | 0 => rfl | 1 => rfl | 2 => rfl
  rw [ey]
  refine (block12_eq m c t (y 0) (y 1) (y 2) bt (by omega)).trans (congrArg _ ?_)
  funext a
  match a with
  | 0 => exact Fin.ext (by blk_simp [idx_val t]; try omega)
  | 1 => exact Fin.ext (by blk_simp [idx_val t]; try omega)
  | 2 => exact Fin.ext (by blk_simp [idx_val t]; try omega)

theorem final13 (c : Dev nD) : (dats m 0 c).arrAt 13 cfg0.N = ProjectReferenceIdeal.Proj.gates (zref m c) := by
  refine (dats m 0 c).arrAt_eq_of_covers 13 _ (by decide +kernel) fun t hf y => ?_
  blk_simp
  rw [after0_13]
  have b0 : (y 0 : ℕ) < 1 := (y 0).isLt
  have b1 : (y 1 : ℕ) < 512 := (y 1).isLt
  have b2 : (y 2 : ℕ) < 3072 := (y 2).isLt
  have bt : (grid0.coords t 0 : ℕ) < 2 := (grid0.coords t 0).isLt
  have hβ : (grid0.coords t 1 : ℕ) < 32 := (grid0.coords t 1).isLt
  have ey : y = ix3 (y 0) (y 1) (y 2) := by funext a; match a with | 0 => rfl | 1 => rfl | 2 => rfl
  rw [ey]
  refine (block13_eq m c t (y 0) (y 1) (y 2) bt (by omega)).trans (congrArg _ ?_)
  funext a
  match a with
  | 0 => exact Fin.ext (by blk_simp [idx_val t]; try omega)
  | 1 => exact Fin.ext (by blk_simp [idx_val t]; try omega)
  | 2 => exact Fin.ext (by blk_simp [idx_val t]; try omega)

end Cert.ProjectIdeal.Proj

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_scores
public import proofs.«01_k».proof.Proof.Gen.Pre_schedule
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Dense
public import proofs.«01_k».proof.Proof.Gen.Dense.Frame
public import proofs.«01_k».proof.Proof.Gen.DenseIdeal
public import proofs.«01_k».proof.Proof.Gen.DenseIdeal.Frame
public import proofs.«01_k».proof.Proof.Gen.DenseIdeal.Value
public import proofs.«01_k».proof.Proof.Gen.DenseReferenceIdeal
public import proofs.«01_k».proof.Proof.Gen.DenseReferenceIdeal.Run
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Result
public import proofs.«01_k».proof.Proof.BitsLaunch
public import proofs.«01_k».proof.Proof.BitsSchedule
public import proofs.«01_k».proof.Proof.Launch
public import proofs.«01_k».proof.Proof.Schedule
public import proofs.«01_k».proof.Proof.ExpertRef
public import proofs.«01_k».proof.Proof.ExpertMatch
public import proofs.«01_k».proof.Proof.DenseRef
public import proofs.«01_k».proof.Proof.DenseValue
public import proofs.«01_k».proof.Proof.ProjectRefRun
public import proofs.«01_k».proof.Proof.ProjectValue
public import Idealize.ShloMosaic.Adequacy
public import Idealize.ShloMosaic.Init

@[expose] public section

noncomputable section

namespace Cert.Proof

open Idealize.ShloMosaic Idealize.SL.Sem

/-- The kernel runs and keeps its arguments. -/
theorem frame_kernel : quiescent_Kernel (hKernel := Cert.Kernel.Gen.facts) := fun m g _ => Cert.Kernel.Gen.frame m g

/-- So does its idealization. -/
theorem frame_ideal : quiescent_KernelIdeal (hKernelIdeal := Cert.KernelIdeal.Gen.facts) := fun m g _ => Cert.KernelIdeal.Gen.frame m g

theorem frame_ideal_pre : quiescent_KernelIdeal_pre_finite_scores (hKernelIdeal := Cert.KernelIdeal.Gen.facts) (hPre_finite_scores := Cert.Pre_finite_scores.Gen.facts) :=
  fun m g _ => Cert.KernelIdeal.Gen.frame m g

/-- The reference runs and keeps its arguments; it has no counter. -/
theorem frame_reference : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run (F := Ideal) m g)

theorem frame_reference_pre : quiescent_ReferenceIdeal_pre_finite_scores (hReferenceIdeal := Cert.ReferenceIdeal.Gen.facts) (hPre_finite_scores := Cert.Pre_finite_scores.Gen.facts) :=
  fun m g _ => (θ_run Cert.ReferenceIdeal.defs _ _).mono (fun r h => ⟨fun c => (h c).2, sem_eq_zero_of_no_sems (by decide) r.2⟩) (Cert.ReferenceIdeal.Value.run (F := Ideal) m g)

/-- The idealization's one rule: the mask's constant is named. -/
theorem preserves : preserves_Kernel_KernelIdeal :=
  IdealRules.named_const.statement Cert.KernelIdeal.κ "mask" .f32 0xF149F2CA#32 ⊥ rfl

/-- A number whose absolute value is below infinity is finite. -/
theorem fin_of_cmp (x : EReal) (h : Ideal.cmp .olt (max x (-x)) (Ideal.ofBits .f32 0x7F800000#32) = 1#1) : Cert.Match.Fin' x := by
  have ht : Ideal.ofBits .f32 0x7F800000#32 = ⊤ := by simp [Ideal.ofBits, Ideal.ieee]
  rw [ht] at h
  induction x with
  | bot => exact absurd h (by simp [Ideal.cmp])
  | coe r => exact ⟨r, rfl⟩
  | top => exact absurd h (by simp [Ideal.cmp])

/-- On finite queries, keys and sinks the kernel's array is the reference's. -/
theorem algebraic : algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' pre agree
  refine ⟨fun c => (Cert.KernelIdeal.Gen.dats m 0 c).arrAt 10 Cert.KernelIdeal.cfg0.N, Cert.KernelIdeal.Value.run_blocks m g, ?_⟩
  refine (θ_run Cert.ReferenceIdeal.defs _ _).mono (fun r h c => ?_) (Cert.ReferenceIdeal.Value.run m' g')
  obtain ⟨a0, a1, a2, a3, a4, a5⟩ := agree c
  obtain ⟨p0, p1, p2, p3⟩ := pre c
  obtain ⟨e, k⟩ := h c
  refine ⟨e.trans ?_, k⟩
  refine Eq.trans ?_ (Cert.KernelIdeal.Attn.final m c (fun i => fin_of_cmp _ (congrFun p0 i)) (fun i => fin_of_cmp _ (congrFun p1 i)) (fun i => fin_of_cmp _ (congrFun p2 i)) (fun i => fin_of_cmp _ (congrFun p3 i))).symm
  rw [← a0, ← a1, ← a2, ← a3, ← a4, ← a5]
  exact Cert.ReferenceIdeal.Attn.res_eq m' c

/-- The tables of a launch of the experts: the five arguments that hold them. -/
def tables (m : (ℓ : Loc Cert.Experts.nD Cert.Experts.τ Cert.Experts.sig) → Buf (Elt Bits) ℓ) : Cert.Experts.Sched.Tables :=
  ⟨m (((0 : Dev Cert.Experts.nD).tc : Thread Cert.Experts.nD Cert.Experts.τ).loc Cert.Experts.main_arg1), m (((0 : Dev Cert.Experts.nD).tc : Thread Cert.Experts.nD Cert.Experts.τ).loc Cert.Experts.main_arg2),
    m (((0 : Dev Cert.Experts.nD).tc : Thread Cert.Experts.nD Cert.Experts.τ).loc Cert.Experts.main_arg3), m (((0 : Dev Cert.Experts.nD).tc : Thread Cert.Experts.nD Cert.Experts.τ).loc Cert.Experts.main_arg4),
    m (((0 : Dev Cert.Experts.nD).tc : Thread Cert.Experts.nD Cert.Experts.τ).loc Cert.Experts.main_arg5)⟩

theorem holds (m : (ℓ : Loc Cert.Experts.nD Cert.Experts.τ Cert.Experts.sig) → Buf (Elt Bits) ℓ) : Cert.Experts.Sched.Holds (tables m) m := fun c => by
  obtain rfl : c = 0 := Subsingleton.elim _ _
  exact ⟨rfl, rfl, rfl, rfl, rfl⟩

/-- The tables of a launch of the experts: the five arguments that hold them. -/
def tablesIdeal (m : (ℓ : Loc Cert.ExpertsIdeal.nD Cert.ExpertsIdeal.τ Cert.ExpertsIdeal.sig) → Buf (Elt Ideal) ℓ) : Cert.ExpertsIdeal.Sched.Tables :=
  ⟨m (((0 : Dev Cert.ExpertsIdeal.nD).tc : Thread Cert.ExpertsIdeal.nD Cert.ExpertsIdeal.τ).loc Cert.ExpertsIdeal.main_arg1), m (((0 : Dev Cert.ExpertsIdeal.nD).tc : Thread Cert.ExpertsIdeal.nD Cert.ExpertsIdeal.τ).loc Cert.ExpertsIdeal.main_arg2),
    m (((0 : Dev Cert.ExpertsIdeal.nD).tc : Thread Cert.ExpertsIdeal.nD Cert.ExpertsIdeal.τ).loc Cert.ExpertsIdeal.main_arg3), m (((0 : Dev Cert.ExpertsIdeal.nD).tc : Thread Cert.ExpertsIdeal.nD Cert.ExpertsIdeal.τ).loc Cert.ExpertsIdeal.main_arg4),
    m (((0 : Dev Cert.ExpertsIdeal.nD).tc : Thread Cert.ExpertsIdeal.nD Cert.ExpertsIdeal.τ).loc Cert.ExpertsIdeal.main_arg5)⟩

theorem holdsIdeal (m : (ℓ : Loc Cert.ExpertsIdeal.nD Cert.ExpertsIdeal.τ Cert.ExpertsIdeal.sig) → Buf (Elt Ideal) ℓ) : Cert.ExpertsIdeal.Sched.Holds (tablesIdeal m) m := fun c => by
  obtain rfl : c = 0 := Subsingleton.elim _ _
  exact ⟨rfl, rfl, rfl, rfl, rfl⟩

/-- The experts run on a valid schedule and keep their arguments. -/
theorem frame_experts : quiescent_Experts (hExperts := Cert.Experts.Gen.facts) (hPre_schedule := Cert.Pre_schedule.Gen.facts) := fun m g pre =>
  Cert.Experts.Sched.frame (tables m) (Cert.Experts.Sched.valid (tables m) _ _ _ _ (pre 0)) m g (holds m)

/-- So does their idealization. -/
theorem frame_experts_ideal : quiescent_ExpertsIdeal (hExpertsIdeal := Cert.ExpertsIdeal.Gen.facts) (hPre_schedule := Cert.Pre_schedule.Gen.facts) := fun m g pre =>
  Cert.ExpertsIdeal.Sched.frame (tablesIdeal m) (Cert.ExpertsIdeal.Sched.valid (tablesIdeal m) _ _ _ _ (pre 0)) m g (holdsIdeal m)

theorem frame_experts_reference : quiescent_ExpertsReferenceIdeal (hExpertsReferenceIdeal := Cert.ExpertsReferenceIdeal.Gen.facts) := fun m g _ =>
  (θ_run Cert.ExpertsReferenceIdeal.defs _ _).mono (fun r h => ⟨fun c => (h c).2, sem_eq_zero_of_no_sems (by decide) r.2⟩) (Cert.ExpertsReferenceIdeal.Value.run (F := Ideal) m g)

theorem frame_experts_reference_pre : quiescent_ExpertsReferenceIdeal_pre_schedule (hExpertsReferenceIdeal := Cert.ExpertsReferenceIdeal.Gen.facts) (hPre_schedule := Cert.Pre_schedule.Gen.facts) :=
  fun m g _ => (θ_run Cert.ExpertsReferenceIdeal.defs _ _).mono (fun r h => ⟨fun c => (h c).2, sem_eq_zero_of_no_sems (by decide) r.2⟩) (Cert.ExpertsReferenceIdeal.Value.run (F := Ideal) m g)

/-- On a valid schedule the experts' array is the reference's. -/
theorem algebraic_experts : algebraic_ExpertsIdeal_ExpertsReferenceIdeal (hExpertsIdeal := Cert.ExpertsIdeal.Gen.facts)
    (hExpertsReferenceIdeal := Cert.ExpertsReferenceIdeal.Gen.facts) (hPre_schedule := Cert.Pre_schedule.Gen.facts) := by
  intro m g m' g' pre agree
  have hT := Cert.ExpertsIdeal.Sched.valid (tablesIdeal m) _ _ _ _ (pre 0)
  refine ⟨fun c => (Cert.ExpertsIdeal.Sched.dats (tablesIdeal m) hT m g 0 c).arrAt (4 : Fin 5) (Cert.ExpertsIdeal.Sched.cfgA (F := Ideal) (tablesIdeal m) hT).N,
    Cert.ExpertsIdeal.Swiglu.run_blocks (tablesIdeal m) hT m g (holdsIdeal m), ?_⟩
  refine (θ_run Cert.ExpertsReferenceIdeal.defs _ _).mono (fun r h c => ?_) (Cert.ExpertsReferenceIdeal.Value.run m' g')
  obtain rfl : c = 0 := Subsingleton.elim _ _
  obtain ⟨a0, a1, a2, a3, a4, -, a6, a7, a8⟩ := agree 0
  obtain ⟨e, k⟩ := h 0
  have e' : _ = Cert.ExpertsReferenceIdeal.Swiglu.result (m' (((0 : Dev Cert.ExpertsReferenceIdeal.nD).tc : Thread Cert.ExpertsReferenceIdeal.nD Cert.ExpertsReferenceIdeal.τ).loc Cert.ExpertsReferenceIdeal.main_arg0))
      (m' (((0 : Dev Cert.ExpertsReferenceIdeal.nD).tc : Thread Cert.ExpertsReferenceIdeal.nD Cert.ExpertsReferenceIdeal.τ).loc Cert.ExpertsReferenceIdeal.main_arg1))
      (m' (((0 : Dev Cert.ExpertsReferenceIdeal.nD).tc : Thread Cert.ExpertsReferenceIdeal.nD Cert.ExpertsReferenceIdeal.τ).loc Cert.ExpertsReferenceIdeal.main_arg2))
      (m' (((0 : Dev Cert.ExpertsReferenceIdeal.nD).tc : Thread Cert.ExpertsReferenceIdeal.nD Cert.ExpertsReferenceIdeal.τ).loc Cert.ExpertsReferenceIdeal.main_arg3))
      (m' (((0 : Dev Cert.ExpertsReferenceIdeal.nD).tc : Thread Cert.ExpertsReferenceIdeal.nD Cert.ExpertsReferenceIdeal.τ).loc Cert.ExpertsReferenceIdeal.main_arg4))
      (m' (((0 : Dev Cert.ExpertsReferenceIdeal.nD).tc : Thread Cert.ExpertsReferenceIdeal.nD Cert.ExpertsReferenceIdeal.τ).loc Cert.ExpertsReferenceIdeal.main_arg6))
      (m' (((0 : Dev Cert.ExpertsReferenceIdeal.nD).tc : Thread Cert.ExpertsReferenceIdeal.nD Cert.ExpertsReferenceIdeal.τ).loc Cert.ExpertsReferenceIdeal.main_arg7))
      (m' (((0 : Dev Cert.ExpertsReferenceIdeal.nD).tc : Thread Cert.ExpertsReferenceIdeal.nD Cert.ExpertsReferenceIdeal.τ).loc Cert.ExpertsReferenceIdeal.main_arg8)) := e
  rw [a0, a1, a2, a3, a4, a6, a7, a8] at e'
  exact ⟨e'.trans (Cert.ExpertsIdeal.Swiglu.final (tablesIdeal m) hT m g 0).symm, k⟩

/-- The dense feed-forward runs and keeps its arguments. -/
theorem frame_dense : quiescent_Dense (hDense := Cert.Dense.Gen.facts) := fun m g _ => Cert.Dense.Gen.frame m g

/-- So does its idealization. -/
theorem frame_dense_ideal : quiescent_DenseIdeal (hDenseIdeal := Cert.DenseIdeal.Gen.facts) := fun m g _ => Cert.DenseIdeal.Gen.frame m g

theorem frame_dense_reference : quiescent_DenseReferenceIdeal (hDenseReferenceIdeal := Cert.DenseReferenceIdeal.Gen.facts) := fun m g _ =>
  (θ_run Cert.DenseReferenceIdeal.defs _ _).mono (fun r h => ⟨fun c => (h c).2, sem_eq_zero_of_no_sems (by decide) r.2⟩) (Cert.DenseReferenceIdeal.Value.run (F := Ideal) m g)

/-- The dense feed-forward's array is the reference's. -/
theorem algebraic_dense : algebraic_DenseIdeal_DenseReferenceIdeal (hDenseIdeal := Cert.DenseIdeal.Gen.facts) (hDenseReferenceIdeal := Cert.DenseReferenceIdeal.Gen.facts) := by
  intro m g m' g' _ agree
  refine ⟨fun c => (Cert.DenseIdeal.Gen.dats m 0 c).arrAt 9 Cert.DenseIdeal.cfg0.N, Cert.DenseIdeal.Value.run_blocks m g, ?_⟩
  refine (θ_run Cert.DenseReferenceIdeal.defs _ _).mono (fun r h c => ?_) (Cert.DenseReferenceIdeal.Value.run m' g')
  obtain ⟨a0, a1, a2, a3, a4, a5, a6, a7, a8⟩ := agree c
  obtain ⟨e, k⟩ := h c
  refine ⟨e.trans ?_, k⟩
  refine Eq.trans ?_ (Cert.DenseIdeal.Ffn.final m c).symm
  rw [← a0, ← a1, ← a2, ← a3, ← a4, ← a5, ← a6, ← a7, ← a8]
  exact Cert.DenseReferenceIdeal.Ffn.res_eq m' c

/-- The input projection runs and keeps its arguments. -/
theorem frame_project : quiescent_Project (hProject := Cert.Project.Gen.facts) := fun m g _ => Cert.Project.Gen.frame m g

/-- So does its idealization. -/
theorem frame_project_ideal : quiescent_ProjectIdeal (hProjectIdeal := Cert.ProjectIdeal.Gen.facts) := fun m g _ => Cert.ProjectIdeal.Gen.frame m g

theorem frame_project_reference : quiescent_ProjectReferenceIdeal (hProjectReferenceIdeal := Cert.ProjectReferenceIdeal.Gen.facts) := fun m g _ =>
  (θ_run Cert.ProjectReferenceIdeal.defs _ _).mono (fun r h => ⟨fun c => (h c).2.2.2.2.2.2.2, sem_eq_zero_of_no_sems (by decide) r.2⟩) (Cert.ProjectReferenceIdeal.Proj.run m g)

/-- The input projection's seven arrays are the reference's. -/
theorem algebraic_project : algebraic_ProjectIdeal_ProjectReferenceIdeal (hProjectIdeal := Cert.ProjectIdeal.Gen.facts) (hProjectReferenceIdeal := Cert.ProjectReferenceIdeal.Gen.facts) := by
  intro m g m' g' _ agree
  refine ⟨fun c => (Cert.ProjectIdeal.Gen.dats m 0 c).arrAt 7 Cert.ProjectIdeal.cfg0.N, fun c => (Cert.ProjectIdeal.Gen.dats m 0 c).arrAt 8 Cert.ProjectIdeal.cfg0.N, fun c => (Cert.ProjectIdeal.Gen.dats m 0 c).arrAt 9 Cert.ProjectIdeal.cfg0.N, fun c => (Cert.ProjectIdeal.Gen.dats m 0 c).arrAt 10 Cert.ProjectIdeal.cfg0.N, fun c => (Cert.ProjectIdeal.Gen.dats m 0 c).arrAt 11 Cert.ProjectIdeal.cfg0.N, fun c => (Cert.ProjectIdeal.Gen.dats m 0 c).arrAt 12 Cert.ProjectIdeal.cfg0.N, fun c => (Cert.ProjectIdeal.Gen.dats m 0 c).arrAt 13 Cert.ProjectIdeal.cfg0.N,
    Cert.ProjectIdeal.Value.run_blocks m g, ?_⟩
  refine (θ_run Cert.ProjectReferenceIdeal.defs _ _).mono (fun r h c => ?_) (Cert.ProjectReferenceIdeal.Proj.run m' g')
  obtain ⟨a0, a1, a2, a3, a4, a5, a6⟩ := agree c
  obtain ⟨e0, e1, e2, e3, e4, e5, e6, k⟩ := h c
  have hz : Cert.ProjectReferenceIdeal.Proj.z (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg2)) (m' ((c.tc : Thread Cert.ProjectReferenceIdeal.nD Cert.ProjectReferenceIdeal.τ).loc Cert.ProjectReferenceIdeal.main_arg3)) (m' ((c.tc : Thread Cert.ProjectReferenceIdeal.nD Cert.ProjectReferenceIdeal.τ).loc Cert.ProjectReferenceIdeal.main_arg4)) = Cert.ProjectIdeal.Proj.zref m c := by rw [a0, a1, a2, a3, a4]
  rw [a5, a6] at e0 e1
  have f0 := (e0.trans (congrArg (fun z => Cert.ProjectReferenceIdeal.Proj.q z _ _) hz)).trans (Cert.ProjectIdeal.Proj.final7 m c).symm
  have f1 := (e1.trans (congrArg (fun z => Cert.ProjectReferenceIdeal.Proj.kk z _ _) hz)).trans (Cert.ProjectIdeal.Proj.final8 m c).symm
  have f2 := (e2.trans (congrArg Cert.ProjectReferenceIdeal.Proj.vv hz)).trans (Cert.ProjectIdeal.Proj.final9 m c).symm
  have f3 := (e3.trans (congrArg Cert.ProjectReferenceIdeal.Proj.f hz)).trans (Cert.ProjectIdeal.Proj.final10 m c).symm
  have f4 := (e4.trans (congrArg Cert.ProjectReferenceIdeal.Proj.u hz)).trans (Cert.ProjectIdeal.Proj.final11 m c).symm
  have f5 := (e5.trans (congrArg Cert.ProjectReferenceIdeal.Proj.cb hz)).trans (Cert.ProjectIdeal.Proj.final12 m c).symm
  have f6 := (e6.trans (congrArg Cert.ProjectReferenceIdeal.Proj.gates hz)).trans (Cert.ProjectIdeal.Proj.final13 m c).symm
  exact ⟨f0, f1, f2, f3, f4, f5, f6, k⟩

theorem claim : Cert.Claim := ⟨Cert.Kernel.Gen.facts, Cert.KernelIdeal.Gen.facts, Cert.ReferenceIdeal.Gen.facts, Cert.Experts.Gen.facts, Cert.ExpertsIdeal.Gen.facts,
  Cert.ExpertsReferenceIdeal.Gen.facts, Cert.Dense.Gen.facts, Cert.DenseIdeal.Gen.facts, Cert.DenseReferenceIdeal.Gen.facts, Cert.Project.Gen.facts, Cert.ProjectIdeal.Gen.facts, Cert.ProjectReferenceIdeal.Gen.facts, Cert.Pre_finite_scores.Gen.facts, Cert.Pre_schedule.Gen.facts,
  frame_kernel, frame_ideal, frame_ideal_pre, frame_reference, frame_reference_pre, frame_experts, frame_experts_ideal, frame_experts_reference,
  frame_experts_reference_pre, frame_dense, frame_dense_ideal, frame_dense_reference, frame_project, frame_project_ideal, frame_project_reference, preserves, algebraic, trivial, algebraic_experts, trivial, algebraic_dense, trivial, algebraic_project⟩

end Cert.Proof

end
